-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1x1024x1024 .bf16) (main_arg1 : FVec F S1024x1024 .bf16) (main_arg2 : FVec F S1x1024x32x128 .bf16) (main_arg3 : FVec F S1x1024x32x128 .bf16) (main_arg4 : FVec F S1024x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x1024x32x128 .f32 := (extf .f32 · bitsLt_bf16_f32) main_arg2
  let main_v12 : FVec F S1x1024x32x128 .f32 := Host.absf main_v11
  let main_cst_2 : FVec F S_ .f32 := constant S_ .f32 0x7F800000#32
  let main_v13 : FVec F S1x1024x32x128 .f32 := broadcastInDim S1x1024x32x128 ![] bcast_S_S1x1024x32x128 main_cst_2
  let main_v14 : IVec S1x1024x32x128 1 := cmpf .olt main_v12 main_v13
  let main_c_3 : IVec S_ 1 := constantI S_ 1 1#1
  let main_v15 : IVec S_ 1 := (fun x v => Host.reduce IntOp.andi x v reducesTo_S1x1024x32x128_S_d0_1_2_3 h_S_) main_v14 main_c_3
  let main_v16 : IVec S_ 1 := andi main_v10 main_v15
  main_v16
-- ==== Pre_finite_scores_ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1x1024x1024 .bf16) (main_arg1 : FVec F S1024x4096 .bf16) (main_arg2 : FVec F S1x1024x32x128 .bf16) (main_arg3 : FVec F S1x1024x32x128 .bf16) (main_arg4 : FVec F S4096x1024 .bf16) : IVec S_ 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_c : IVec S_ 1 := constantI S_ 1 1#1
  let main_v4 : IVec S_ 1 := (fun x v => Host.reduce IntOp.andi x v reducesTo_S1x1024x1024_S_d0_1_2 h_S_) main_v3 main_c
  let main_v5 : FVec F S1024x4096 .f32 := (extf .f32 · bitsLt_bf16_f32) main_arg1
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v4 main_v9
  let main_v11 : FVec F S1x1024x32x128 .f32 := (extf .f32 · bitsLt_bf16_f32) main_arg2
  let main_v12 : FVec F S1x1024x32x128 .f32 := Host.absf main_v11
  let main_cst_2 : FVec F S_ .f32 := constant S_ .f32 0x7F800000#32
  let main_v13 : FVec F S1x1024x32x128 .f32 := broadcastInDim S1x1024x32x128 ![] bcast_S_S1x1024x32x128 main_cst_2
  let main_v14 : IVec S1x1024x32x128 1 := cmpf .olt main_v12 main_v13
  let main_c_3 : IVec S_ 1 := constantI S_ 1 1#1
  let main_v15 : IVec S_ 1 := (fun x v => Host.reduce IntOp.andi x v reducesTo_S1x1024x32x128_S_d0_1_2_3 h_S_) main_v14 main_c_3
  let main_v16 : IVec S_ 1 := andi main_v10 main_v15
  main_v16
-- ==== Kernel.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩
abbrev S1x1024x8x128 : Shape := ⟨4, ![1, 1024, 8, 128]⟩
abbrev S128x1024 : Shape := ⟨2, ![128, 1024]⟩
abbrev S2x128x1024 : Shape := ⟨3, ![2, 128, 1024]⟩
abbrev S8x128x1024 : Shape := ⟨3, ![8, 128, 1024]⟩
abbrev S8 : Shape := ⟨1, ![8]⟩
abbrev S128x128 : Shape := ⟨2, ![128, 128]⟩
abbrev S128 : Shape := ⟨1, ![128]⟩
abbrev S128x1 : Shape := ⟨2, ![128, 1]⟩
abbrev S1x128x1024 : Shape := ⟨3, ![1, 128, 1024]⟩
abbrev S1 : Shape := ⟨1, ![1]⟩
abbrev S128x256 : Shape := ⟨2, ![128, 256]⟩
abbrev S256x128 : Shape := ⟨2, ![256, 128]⟩
abbrev S128x384 : Shape := ⟨2, ![128, 384]⟩
abbrev S384x128 : Shape := ⟨2, ![384, 128]⟩
abbrev S128x512 : Shape := ⟨2, ![128, 512]⟩
abbrev S512x128 : Shape := ⟨2, ![512, 128]⟩
abbrev S128x640 : Shape := ⟨2, ![128, 640]⟩
abbrev S640x128 : Shape := ⟨2, ![640, 128]⟩
abbrev S128x768 : Shape := ⟨2, ![128, 768]⟩
abbrev S768x128 : Shape := ⟨2, ![768, 128]⟩
abbrev S128x896 : Shape := ⟨2, ![128, 896]⟩
abbrev S896x128 : Shape := ⟨2, ![896, 128]⟩
abbrev S1024x128 : Shape := ⟨2, ![1024, 128]⟩

abbrev nBuf : Space → Nat
  | .hbm => 38
  | .vmem => 13
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x32x128, .bf16⟩
  | .hbm, ⟨3, _⟩ => ⟨S1x1024x32x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x1024x8x128, .bf16⟩
  | .hbm, ⟨23, _⟩ => ⟨S1024x1024, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x1024x8x128, .bf16⟩
  | .hbm, ⟨35, _⟩ => ⟨S1024x1024, .bf16⟩
  | .hbm, ⟨36, _⟩ => ⟨S1024x1024, .f32⟩
  | .hbm, ⟨37, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .bf16⟩
  | .local _ .vmem, ⟨7, _⟩ => ⟨S128x1024, .bf16⟩
  | .local _ .vmem, ⟨8, _⟩ => ⟨S2x128x1024, .f32⟩
  | .local _ .vmem, ⟨9, _⟩ => ⟨S8x128x1024, .bf16⟩
  | .local _ .vmem, ⟨10, _⟩ => ⟨S8x128x1024, .bf16⟩
  | .local _ .vmem, ⟨11, _⟩ => ⟨S2x128x1024, .bf16⟩
  | .local _ .vmem, ⟨12, _⟩ => ⟨S8x128x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_c_6 : Ref sig .tc := ⟨.hbm, 21, rfl⟩
abbrev main_v10 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_v13 : Ref sig .tc := ⟨.hbm, 27, rfl⟩
abbrev main_c_9 : Ref sig .tc := ⟨.hbm, 28, rfl⟩
abbrev main_v14 : Ref sig .tc := ⟨.hbm, 29, rfl⟩
abbrev main_v15 : Ref sig .tc := ⟨.hbm, 30, rfl⟩
abbrev main_c_10 : Ref sig .tc := ⟨.hbm, 31, rfl⟩
abbrev main_c_11 : Ref sig .tc := ⟨.hbm, 32, rfl⟩
abbrev main_c_12 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_98 : BitVec 32 := 0#32
  let v226 : BitVec 1 := Scalar.cmpi .ne v2 c0_i32_98
  let v227 : BitVec 32 := Scalar.extui v226
  let c0_i32_99 : BitVec 32 := 0#32
  let v228 : BitVec 1 := Scalar.cmpi .ne v227 c0_i32_99
  v228

def k0_off1 (d0 : Dev nD) : Fin 1 → Nat :=
  let c0_i32_770 : BitVec 32 := 0#32
  let c0_i32_766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c0_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1713 : BitVec 32 := Scalar.addi c0_i32_770 v1711
  ![v1713.toNat]
def k0_off2 (d0 : Dev nD) : Fin 3 → Nat :=
  let c0_i32_769 : BitVec 32 := 0#32
  let c0_i32_766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c0_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1712 : BitVec 32 := Scalar.addi c0_i32_769 v1711
  let c0_i32_776 : BitVec 32 := 0#32
  let c0_i32_777 : BitVec 32 := 0#32
  ![v1712.toNat, 0, 0]
def k0_dev4 : Nat :=
  let c0_i32_775 : BitVec 32 := 0#32
  let c0_i32_773 : BitVec 32 := 0#32
  let c1_i32_774 : BitVec 32 := 1#32
  let v1714 : BitVec 32 := Scalar.muli c0_i32_773 c1_i32_774
  let v1715 : BitVec 32 := Scalar.addi c0_i32_775 v1714
  v1715.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_179 : BitVec 32 := 0#32
  let v422 : BitVec 1 := Scalar.cmpi .ne v2 c0_i32_179
  let v423 : BitVec 32 := Scalar.extui v422
  let c0_i32_180 : BitVec 32 := 0#32
  let v424 : BitVec 1 := Scalar.cmpi .ne v423 c0_i32_180
  v424

def k0_off3 (d0 : Dev nD) : Fin 1 → Nat :=
  let c4_i32_770 : BitVec 32 := 4#32
  let c0_i32_766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c0_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1713 : BitVec 32 := Scalar.addi c4_i32_770 v1711
  ![v1713.toNat]
def k0_off4 (d0 : Dev nD) : Fin 3 → Nat :=
  let c4_i32_769 : BitVec 32 := 4#32
  let c0_i32_766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c0_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1712 : BitVec 32 := Scalar.addi c4_i32_769 v1711
  let c0_i32_776 : BitVec 32 := 0#32
  let c0_i32_777 : BitVec 32 := 0#32
  ![v1712.toNat, 0, 0]
def k0_dev5 : Nat :=
  let c0_i32_775 : BitVec 32 := 0#32
  let c0_i32_773 : BitVec 32 := 0#32
  let c1_i32_774 : BitVec 32 := 1#32
  let v1714 : BitVec 32 := Scalar.muli c0_i32_773 c1_i32_774
  let v1715 : BitVec 32 := Scalar.addi c0_i32_775 v1714
  v1715.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_260 : BitVec 32 := 1#32
  let v618 : BitVec 1 := Scalar.cmpi .ne v2 c1_i32_260
  let v619 : BitVec 32 := Scalar.extui v618
  let c0_i32_261 : BitVec 32 := 0#32
  let v620 : BitVec 1 := Scalar.cmpi .ne v619 c0_i32_261
  v620

def k0_off5 (d0 : Dev nD) : Fin 1 → Nat :=
  let c0_i32_770 : BitVec 32 := 0#32
  let c1_i32_766 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c1_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1713 : BitVec 32 := Scalar.addi c0_i32_770 v1711
  ![v1713.toNat]
def k0_off6 (d0 : Dev nD) : Fin 3 → Nat :=
  let c0_i32_769 : BitVec 32 := 0#32
  let c1_i32_766 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c1_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1712 : BitVec 32 := Scalar.addi c0_i32_769 v1711
  let c0_i32_776 : BitVec 32 := 0#32
  let c0_i32_777 : BitVec 32 := 0#32
  ![v1712.toNat, 0, 0]
def k0_dev6 : Nat :=
  let c0_i32_775 : BitVec 32 := 0#32
  let c1_i32_773 : BitVec 32 := 1#32
  let c1_i32_774 : BitVec 32 := 1#32
  let v1714 : BitVec 32 := Scalar.muli c1_i32_773 c1_i32_774
  let v1715 : BitVec 32 := Scalar.addi c0_i32_775 v1714
  v1715.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_262 : BitVec 32 := 0#32
  let v621 : BitVec 1 := Scalar.cmpi .eq v2 c0_i32_262
  let v622 : BitVec 32 := Scalar.extui v621
  let c0_i32_263 : BitVec 32 := 0#32
  let v623 : BitVec 1 := Scalar.cmpi .ne v622 c0_i32_263
  v623

def k0_dev7 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_813 : BitVec 32 := 1#32
  let v1752 : BitVec 32 := Scalar.addi v2 c1_i32_813
  let c4_i32_814 : BitVec 32 := 4#32
  let v1753 : BitVec 32 := Scalar.remsi v1752 c4_i32_814
  let c1_i32_819 : BitVec 32 := 1#32
  let v1754 : BitVec 32 := Scalar.muli v1753 c1_i32_819
  let v1755 : BitVec 32 := Scalar.addi c0_i32_820 v1754
  v1755.toNat
def k0_dev8 (d0 : Dev nD) : Nat :=
  let c0_i32_832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_825 : BitVec 32 := 2#32
  let v1764 : BitVec 32 := Scalar.addi v2 c2_i32_825
  let c4_i32_826 : BitVec 32 := 4#32
  let v1765 : BitVec 32 := Scalar.remsi v1764 c4_i32_826
  let c1_i32_831 : BitVec 32 := 1#32
  let v1766 : BitVec 32 := Scalar.muli v1765 c1_i32_831
  let v1767 : BitVec 32 := Scalar.addi c0_i32_832 v1766
  v1767.toNat
def k0_dev9 (d0 : Dev nD) : Nat :=
  let c0_i32_844 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_837 : BitVec 32 := 3#32
  let v1776 : BitVec 32 := Scalar.addi v2 c3_i32_837
  let c4_i32_838 : BitVec 32 := 4#32
  let v1777 : BitVec 32 := Scalar.remsi v1776 c4_i32_838
  let c1_i32_843 : BitVec 32 := 1#32
  let v1778 : BitVec 32 := Scalar.muli v1777 c1_i32_843
  let v1779 : BitVec 32 := Scalar.addi c0_i32_844 v1778
  v1779.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_343 : BitVec 32 := 1#32
  let v817 : BitVec 1 := Scalar.cmpi .ne v2 c1_i32_343
  let v818 : BitVec 32 := Scalar.extui v817
  let c0_i32_344 : BitVec 32 := 0#32
  let v819 : BitVec 1 := Scalar.cmpi .ne v818 c0_i32_344
  v819

def k0_off7 (d0 : Dev nD) : Fin 1 → Nat :=
  let c4_i32_770 : BitVec 32 := 4#32
  let c1_i32_766 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c1_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1713 : BitVec 32 := Scalar.addi c4_i32_770 v1711
  ![v1713.toNat]
def k0_off8 (d0 : Dev nD) : Fin 3 → Nat :=
  let c4_i32_769 : BitVec 32 := 4#32
  let c1_i32_766 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c1_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1712 : BitVec 32 := Scalar.addi c4_i32_769 v1711
  let c0_i32_776 : BitVec 32 := 0#32
  let c0_i32_777 : BitVec 32 := 0#32
  ![v1712.toNat, 0, 0]
def k0_dev10 : Nat :=
  let c0_i32_775 : BitVec 32 := 0#32
  let c1_i32_773 : BitVec 32 := 1#32
  let c1_i32_774 : BitVec 32 := 1#32
  let v1714 : BitVec 32 := Scalar.muli c1_i32_773 c1_i32_774
  let v1715 : BitVec 32 := Scalar.addi c0_i32_775 v1714
  v1715.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_345 : BitVec 32 := 0#32
  let v820 : BitVec 1 := Scalar.cmpi .eq v2 c0_i32_345
  let v821 : BitVec 32 := Scalar.extui v820
  let c0_i32_346 : BitVec 32 := 0#32
  let v822 : BitVec 1 := Scalar.cmpi .ne v821 c0_i32_346
  v822

def k0_dev11 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_813 : BitVec 32 := 1#32
  let v1752 : BitVec 32 := Scalar.addi v2 c1_i32_813
  let c4_i32_814 : BitVec 32 := 4#32
  let v1753 : BitVec 32 := Scalar.remsi v1752 c4_i32_814
  let c1_i32_819 : BitVec 32 := 1#32
  let v1754 : BitVec 32 := Scalar.muli v1753 c1_i32_819
  let v1755 : BitVec 32 := Scalar.addi c0_i32_820 v1754
  v1755.toNat
def k0_dev12 (d0 : Dev nD) : Nat :=
  let c0_i32_832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_825 : BitVec 32 := 2#32
  let v1764 : BitVec 32 := Scalar.addi v2 c2_i32_825
  let c4_i32_826 : BitVec 32 := 4#32
  let v1765 : BitVec 32 := Scalar.remsi v1764 c4_i32_826
  let c1_i32_831 : BitVec 32 := 1#32
  let v1766 : BitVec 32 := Scalar.muli v1765 c1_i32_831
  let v1767 : BitVec 32 := Scalar.addi c0_i32_832 v1766
  v1767.toNat
def k0_dev13 (d0 : Dev nD) : Nat :=
  let c0_i32_844 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_837 : BitVec 32 := 3#32
  let v1776 : BitVec 32 := Scalar.addi v2 c3_i32_837
  let c4_i32_838 : BitVec 32 := 4#32
  let v1777 : BitVec 32 := Scalar.remsi v1776 c4_i32_838
  let c1_i32_843 : BitVec 32 := 1#32
  let v1778 : BitVec 32 := Scalar.muli v1777 c1_i32_843
  let v1779 : BitVec 32 := Scalar.addi c0_i32_844 v1778
  v1779.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_426 : BitVec 32 := 2#32
  let v1016 : BitVec 1 := Scalar.cmpi .ne v2 c2_i32_426
  let v1017 : BitVec 32 := Scalar.extui v1016
  let c0_i32_427 : BitVec 32 := 0#32
  let v1018 : BitVec 1 := Scalar.cmpi .ne v1017 c0_i32_427
  v1018

def k0_off9 (d0 : Dev nD) : Fin 1 → Nat :=
  let c0_i32_770 : BitVec 32 := 0#32
  let c2_i32_766 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c2_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1713 : BitVec 32 := Scalar.addi c0_i32_770 v1711
  ![v1713.toNat]
def k0_off10 (d0 : Dev nD) : Fin 3 → Nat :=
  let c0_i32_769 : BitVec 32 := 0#32
  let c2_i32_766 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c2_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1712 : BitVec 32 := Scalar.addi c0_i32_769 v1711
  let c0_i32_776 : BitVec 32 := 0#32
  let c0_i32_777 : BitVec 32 := 0#32
  ![v1712.toNat, 0, 0]
def k0_dev14 : Nat :=
  let c0_i32_775 : BitVec 32 := 0#32
  let c2_i32_773 : BitVec 32 := 2#32
  let c1_i32_774 : BitVec 32 := 1#32
  let v1714 : BitVec 32 := Scalar.muli c2_i32_773 c1_i32_774
  let v1715 : BitVec 32 := Scalar.addi c0_i32_775 v1714
  v1715.toNat
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_428 : BitVec 32 := 1#32
  let v1019 : BitVec 1 := Scalar.cmpi .eq v2 c1_i32_428
  let v1020 : BitVec 32 := Scalar.extui v1019
  let c0_i32_429 : BitVec 32 := 0#32
  let v1021 : BitVec 1 := Scalar.cmpi .ne v1020 c0_i32_429
  v1021

def k0_dev15 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_813 : BitVec 32 := 1#32
  let v1752 : BitVec 32 := Scalar.addi v2 c1_i32_813
  let c4_i32_814 : BitVec 32 := 4#32
  let v1753 : BitVec 32 := Scalar.remsi v1752 c4_i32_814
  let c1_i32_819 : BitVec 32 := 1#32
  let v1754 : BitVec 32 := Scalar.muli v1753 c1_i32_819
  let v1755 : BitVec 32 := Scalar.addi c0_i32_820 v1754
  v1755.toNat
def k0_dev16 (d0 : Dev nD) : Nat :=
  let c0_i32_832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_825 : BitVec 32 := 2#32
  let v1764 : BitVec 32 := Scalar.addi v2 c2_i32_825
  let c4_i32_826 : BitVec 32 := 4#32
  let v1765 : BitVec 32 := Scalar.remsi v1764 c4_i32_826
  let c1_i32_831 : BitVec 32 := 1#32
  let v1766 : BitVec 32 := Scalar.muli v1765 c1_i32_831
  let v1767 : BitVec 32 := Scalar.addi c0_i32_832 v1766
  v1767.toNat
def k0_dev17 (d0 : Dev nD) : Nat :=
  let c0_i32_844 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_837 : BitVec 32 := 3#32
  let v1776 : BitVec 32 := Scalar.addi v2 c3_i32_837
  let c4_i32_838 : BitVec 32 := 4#32
  let v1777 : BitVec 32 := Scalar.remsi v1776 c4_i32_838
  let c1_i32_843 : BitVec 32 := 1#32
  let v1778 : BitVec 32 := Scalar.muli v1777 c1_i32_843
  let v1779 : BitVec 32 := Scalar.addi c0_i32_844 v1778
  v1779.toNat
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_509 : BitVec 32 := 2#32
  let v1215 : BitVec 1 := Scalar.cmpi .ne v2 c2_i32_509
  let v1216 : BitVec 32 := Scalar.extui v1215
  let c0_i32_510 : BitVec 32 := 0#32
  let v1217 : BitVec 1 := Scalar.cmpi .ne v1216 c0_i32_510
  v1217

def k0_off11 (d0 : Dev nD) : Fin 1 → Nat :=
  let c4_i32_770 : BitVec 32 := 4#32
  let c2_i32_766 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c2_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1713 : BitVec 32 := Scalar.addi c4_i32_770 v1711
  ![v1713.toNat]
def k0_off12 (d0 : Dev nD) : Fin 3 → Nat :=
  let c4_i32_769 : BitVec 32 := 4#32
  let c2_i32_766 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c2_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1712 : BitVec 32 := Scalar.addi c4_i32_769 v1711
  let c0_i32_776 : BitVec 32 := 0#32
  let c0_i32_777 : BitVec 32 := 0#32
  ![v1712.toNat, 0, 0]
def k0_dev18 : Nat :=
  let c0_i32_775 : BitVec 32 := 0#32
  let c2_i32_773 : BitVec 32 := 2#32
  let c1_i32_774 : BitVec 32 := 1#32
  let v1714 : BitVec 32 := Scalar.muli c2_i32_773 c1_i32_774
  let v1715 : BitVec 32 := Scalar.addi c0_i32_775 v1714
  v1715.toNat
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_511 : BitVec 32 := 1#32
  let v1218 : BitVec 1 := Scalar.cmpi .eq v2 c1_i32_511
  let v1219 : BitVec 32 := Scalar.extui v1218
  let c0_i32_512 : BitVec 32 := 0#32
  let v1220 : BitVec 1 := Scalar.cmpi .ne v1219 c0_i32_512
  v1220

def k0_dev19 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_813 : BitVec 32 := 1#32
  let v1752 : BitVec 32 := Scalar.addi v2 c1_i32_813
  let c4_i32_814 : BitVec 32 := 4#32
  let v1753 : BitVec 32 := Scalar.remsi v1752 c4_i32_814
  let c1_i32_819 : BitVec 32 := 1#32
  let v1754 : BitVec 32 := Scalar.muli v1753 c1_i32_819
  let v1755 : BitVec 32 := Scalar.addi c0_i32_820 v1754
  v1755.toNat
def k0_dev20 (d0 : Dev nD) : Nat :=
  let c0_i32_832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_825 : BitVec 32 := 2#32
  let v1764 : BitVec 32 := Scalar.addi v2 c2_i32_825
  let c4_i32_826 : BitVec 32 := 4#32
  let v1765 : BitVec 32 := Scalar.remsi v1764 c4_i32_826
  let c1_i32_831 : BitVec 32 := 1#32
  let v1766 : BitVec 32 := Scalar.muli v1765 c1_i32_831
  let v1767 : BitVec 32 := Scalar.addi c0_i32_832 v1766
  v1767.toNat
def k0_dev21 (d0 : Dev nD) : Nat :=
  let c0_i32_844 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_837 : BitVec 32 := 3#32
  let v1776 : BitVec 32 := Scalar.addi v2 c3_i32_837
  let c4_i32_838 : BitVec 32 := 4#32
  let v1777 : BitVec 32 := Scalar.remsi v1776 c4_i32_838
  let c1_i32_843 : BitVec 32 := 1#32
  let v1778 : BitVec 32 := Scalar.muli v1777 c1_i32_843
  let v1779 : BitVec 32 := Scalar.addi c0_i32_844 v1778
  v1779.toNat
def k0_cond18 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_592 : BitVec 32 := 3#32
  let v1414 : BitVec 1 := Scalar.cmpi .ne v2 c3_i32_592
  let v1415 : BitVec 32 := Scalar.extui v1414
  let c0_i32_593 : BitVec 32 := 0#32
  let v1416 : BitVec 1 := Scalar.cmpi .ne v1415 c0_i32_593
  v1416

def k0_off13 (d0 : Dev nD) : Fin 1 → Nat :=
  let c0_i32_770 : BitVec 32 := 0#32
  let c3_i32_766 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c3_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1713 : BitVec 32 := Scalar.addi c0_i32_770 v1711
  ![v1713.toNat]
def k0_off14 (d0 : Dev nD) : Fin 3 → Nat :=
  let c0_i32_769 : BitVec 32 := 0#32
  let c3_i32_766 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c3_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1712 : BitVec 32 := Scalar.addi c0_i32_769 v1711
  let c0_i32_776 : BitVec 32 := 0#32
  let c0_i32_777 : BitVec 32 := 0#32
  ![v1712.toNat, 0, 0]
def k0_dev22 : Nat :=
  let c0_i32_775 : BitVec 32 := 0#32
  let c3_i32_773 : BitVec 32 := 3#32
  let c1_i32_774 : BitVec 32 := 1#32
  let v1714 : BitVec 32 := Scalar.muli c3_i32_773 c1_i32_774
  let v1715 : BitVec 32 := Scalar.addi c0_i32_775 v1714
  v1715.toNat
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_594 : BitVec 32 := 2#32
  let v1417 : BitVec 1 := Scalar.cmpi .eq v2 c2_i32_594
  let v1418 : BitVec 32 := Scalar.extui v1417
  let c0_i32_595 : BitVec 32 := 0#32
  let v1419 : BitVec 1 := Scalar.cmpi .ne v1418 c0_i32_595
  v1419

def k0_dev23 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_813 : BitVec 32 := 1#32
  let v1752 : BitVec 32 := Scalar.addi v2 c1_i32_813
  let c4_i32_814 : BitVec 32 := 4#32
  let v1753 : BitVec 32 := Scalar.remsi v1752 c4_i32_814
  let c1_i32_819 : BitVec 32 := 1#32
  let v1754 : BitVec 32 := Scalar.muli v1753 c1_i32_819
  let v1755 : BitVec 32 := Scalar.addi c0_i32_820 v1754
  v1755.toNat
def k0_dev24 (d0 : Dev nD) : Nat :=
  let c0_i32_832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_825 : BitVec 32 := 2#32
  let v1764 : BitVec 32 := Scalar.addi v2 c2_i32_825
  let c4_i32_826 : BitVec 32 := 4#32
  let v1765 : BitVec 32 := Scalar.remsi v1764 c4_i32_826
  let c1_i32_831 : BitVec 32 := 1#32
  let v1766 : BitVec 32 := Scalar.muli v1765 c1_i32_831
  let v1767 : BitVec 32 := Scalar.addi c0_i32_832 v1766
  v1767.toNat
def k0_dev25 (d0 : Dev nD) : Nat :=
  let c0_i32_844 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_837 : BitVec 32 := 3#32
  let v1776 : BitVec 32 := Scalar.addi v2 c3_i32_837
  let c4_i32_838 : BitVec 32 := 4#32
  let v1777 : BitVec 32 := Scalar.remsi v1776 c4_i32_838
  let c1_i32_843 : BitVec 32 := 1#32
  let v1778 : BitVec 32 := Scalar.muli v1777 c1_i32_843
  let v1779 : BitVec 32 := Scalar.addi c0_i32_844 v1778
  v1779.toNat
def k0_cond21 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_675 : BitVec 32 := 3#32
  let v1613 : BitVec 1 := Scalar.cmpi .ne v2 c3_i32_675
  let v1614 : BitVec 32 := Scalar.extui v1613
  let c0_i32_676 : BitVec 32 := 0#32
  let v1615 : BitVec 1 := Scalar.cmpi .ne v1614 c0_i32_676
  v1615

def k0_off15 (d0 : Dev nD) : Fin 1 → Nat :=
  let c4_i32_770 : BitVec 32 := 4#32
  let c3_i32_766 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c3_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1713 : BitVec 32 := Scalar.addi c4_i32_770 v1711
  ![v1713.toNat]
def k0_off16 (d0 : Dev nD) : Fin 3 → Nat :=
  let c4_i32_769 : BitVec 32 := 4#32
  let c3_i32_766 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1709 : BitVec 32 := Scalar.subi c3_i32_766 v2
  let c4_i32_767 : BitVec 32 := 4#32
  let v1710 : BitVec 32 := Scalar.addi v1709 c4_i32_767
  let c4_i32_768 : BitVec 32 := 4#32
  let v1711 : BitVec 32 := Scalar.remsi v1710 c4_i32_768
  let v1712 : BitVec 32 := Scalar.addi c4_i32_769 v1711
  let c0_i32_776 : BitVec 32 := 0#32
  let c0_i32_777 : BitVec 32 := 0#32
  ![v1712.toNat, 0, 0]
def k0_dev26 : Nat :=
  let c0_i32_775 : BitVec 32 := 0#32
  let c3_i32_773 : BitVec 32 := 3#32
  let c1_i32_774 : BitVec 32 := 1#32
  let v1714 : BitVec 32 := Scalar.muli c3_i32_773 c1_i32_774
  let v1715 : BitVec 32 := Scalar.addi c0_i32_775 v1714
  v1715.toNat
def k0_cond22 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_677 : BitVec 32 := 2#32
  let v1616 : BitVec 1 := Scalar.cmpi .eq v2 c2_i32_677
  let v1617 : BitVec 32 := Scalar.extui v1616
  let c0_i32_678 : BitVec 32 := 0#32
  let v1618 : BitVec 1 := Scalar.cmpi .ne v1617 c0_i32_678
  v1618

def k0_dev27 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_813 : BitVec 32 := 1#32
  let v1752 : BitVec 32 := Scalar.addi v2 c1_i32_813
  let c4_i32_814 : BitVec 32 := 4#32
  let v1753 : BitVec 32 := Scalar.remsi v1752 c4_i32_814
  let c1_i32_819 : BitVec 32 := 1#32
  let v1754 : BitVec 32 := Scalar.muli v1753 c1_i32_819
  let v1755 : BitVec 32 := Scalar.addi c0_i32_820 v1754
  v1755.toNat
def k0_dev28 (d0 : Dev nD) : Nat :=
  let c0_i32_832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_825 : BitVec 32 := 2#32
  let v1764 : BitVec 32 := Scalar.addi v2 c2_i32_825
  let c4_i32_826 : BitVec 32 := 4#32
  let v1765 : BitVec 32 := Scalar.remsi v1764 c4_i32_826
  let c1_i32_831 : BitVec 32 := 1#32
  let v1766 : BitVec 32 := Scalar.muli v1765 c1_i32_831
  let v1767 : BitVec 32 := Scalar.addi c0_i32_832 v1766
  v1767.toNat
def k0_dev29 (d0 : Dev nD) : Nat :=
  let c0_i32_844 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_837 : BitVec 32 := 3#32
  let v1776 : BitVec 32 := Scalar.addi v2 c3_i32_837
  let c4_i32_838 : BitVec 32 := 4#32
  let v1777 : BitVec 32 := Scalar.remsi v1776 c4_i32_838
  let c1_i32_843 : BitVec 32 := 1#32
  let v1778 : BitVec 32 := Scalar.muli v1777 c1_i32_843
  let v1779 : BitVec 32 := Scalar.addi c0_i32_844 v1778
  v1779.toNat
def k0_cond23 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_679 : BitVec 32 := 3#32
  let v1619 : BitVec 1 := Scalar.cmpi .eq v2 c3_i32_679
  let v1620 : BitVec 32 := Scalar.extui v1619
  let c0_i32_680 : BitVec 32 := 0#32
  let v1621 : BitVec 1 := Scalar.cmpi .ne v1620 c0_i32_680
  v1621

def k0_dev30 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_813 : BitVec 32 := 1#32
  let v1752 : BitVec 32 := Scalar.addi v2 c1_i32_813
  let c4_i32_814 : BitVec 32 := 4#32
  let v1753 : BitVec 32 := Scalar.remsi v1752 c4_i32_814
  let c1_i32_819 : BitVec 32 := 1#32
  let v1754 : BitVec 32 := Scalar.muli v1753 c1_i32_819
  let v1755 : BitVec 32 := Scalar.addi c0_i32_820 v1754
  v1755.toNat
def k0_dev31 (d0 : Dev nD) : Nat :=
  let c0_i32_832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_825 : BitVec 32 := 2#32
  let v1764 : BitVec 32 := Scalar.addi v2 c2_i32_825
  let c4_i32_826 : BitVec 32 := 4#32
  let v1765 : BitVec 32 := Scalar.remsi v1764 c4_i32_826
  let c1_i32_831 : BitVec 32 := 1#32
  let v1766 : BitVec 32 := Scalar.muli v1765 c1_i32_831
  let v1767 : BitVec 32 := Scalar.addi c0_i32_832 v1766
  v1767.toNat
def k0_dev32 (d0 : Dev nD) : Nat :=
  let c0_i32_844 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_837 : BitVec 32 := 3#32
  let v1776 : BitVec 32 := Scalar.addi v2 c3_i32_837
  let c4_i32_838 : BitVec 32 := 4#32
  let v1777 : BitVec 32 := Scalar.remsi v1776 c4_i32_838
  let c1_i32_843 : BitVec 32 := 1#32
  let v1778 : BitVec 32 := Scalar.muli v1777 c1_i32_843
  let v1779 : BitVec 32 := Scalar.addi c0_i32_844 v1778
  v1779.toNat
def k0_cond24 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_681 : BitVec 32 := 3#32
  let v1622 : BitVec 1 := Scalar.cmpi .eq v2 c3_i32_681
  let v1623 : BitVec 32 := Scalar.extui v1622
  let c0_i32_682 : BitVec 32 := 0#32
  let v1624 : BitVec 1 := Scalar.cmpi .ne v1623 c0_i32_682
  v1624

def k0_dev33 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_813 : BitVec 32 := 1#32
  let v1752 : BitVec 32 := Scalar.addi v2 c1_i32_813
  let c4_i32_814 : BitVec 32 := 4#32
  let v1753 : BitVec 32 := Scalar.remsi v1752 c4_i32_814
  let c1_i32_819 : BitVec 32 := 1#32
  let v1754 : BitVec 32 := Scalar.muli v1753 c1_i32_819
  let v1755 : BitVec 32 := Scalar.addi c0_i32_820 v1754
  v1755.toNat
def k0_dev34 (d0 : Dev nD) : Nat :=
  let c0_i32_832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_825 : BitVec 32 := 2#32
  let v1764 : BitVec 32 := Scalar.addi v2 c2_i32_825
  let c4_i32_826 : BitVec 32 := 4#32
  let v1765 : BitVec 32 := Scalar.remsi v1764 c4_i32_826
  let c1_i32_831 : BitVec 32 := 1#32
  let v1766 : BitVec 32 := Scalar.muli v1765 c1_i32_831
  let v1767 : BitVec 32 := Scalar.addi c0_i32_832 v1766
  v1767.toNat
def k0_dev35 (d0 : Dev nD) : Nat :=
  let c0_i32_844 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_837 : BitVec 32 := 3#32
  let v1776 : BitVec 32 := Scalar.addi v2 c3_i32_837
  let c4_i32_838 : BitVec 32 := 4#32
  let v1777 : BitVec 32 := Scalar.remsi v1776 c4_i32_838
  let c1_i32_843 : BitVec 32 := 1#32
  let v1778 : BitVec 32 := Scalar.muli v1777 c1_i32_843
  let v1779 : BitVec 32 := Scalar.addi c0_i32_844 v1778
  v1779.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1x1024x4096 : Shape := ⟨3, ![1, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x32x1024x1024 : Shape := ⟨4, ![1, 32, 1024, 1024]⟩
abbrev S1x1x1024x1024 : Shape := ⟨4, ![1, 1, 1024, 1024]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 94
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x4096, .bf16⟩
  | .hbm, ⟨2, _⟩ => ⟨S1x1024x32x128, .bf16⟩
  | .hbm, ⟨3, _⟩ => ⟨S1x1024x32x128, .bf16⟩
  | .hbm, ⟨4, _⟩ => ⟨S4096x1024, .bf16⟩
  | .hbm, ⟨5, _⟩ => ⟨S1x1024x1024, .f32⟩
  | .hbm, ⟨6, _⟩ => ⟨S1024x4096, .f32⟩
  | .hbm, ⟨7, _⟩ => ⟨S1x1024x32x128, .f32⟩
  | .hbm, ⟨8, _⟩ => ⟨S1x1024x32x128, .f32⟩
  | .hbm, ⟨9, _⟩ => ⟨S4096x1024, .f32⟩
  | .hbm, ⟨10, _⟩ => ⟨S1x1024x4096, .f32⟩
  | .hbm, ⟨11, _⟩ => ⟨S1x1024x32x128, .f32⟩
  | .hbm, ⟨12, _⟩ => ⟨S1024, .i32⟩
  | .hbm, ⟨13, _⟩ => ⟨S_, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024, .i32⟩
  | .hbm, ⟨33, _⟩ => ⟨S_, .i32⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1x1024, .i32⟩
  | .hbm, ⟨52, _⟩ => ⟨S1024x1024, .i32⟩
  | .hbm, ⟨53, _⟩ => ⟨S1024x1024, .i32⟩
  | .hbm, ⟨54, _⟩ => ⟨S1024x1024, .i1⟩
  | .hbm, ⟨55, _⟩ => ⟨S1x32x1024x1024, .f32⟩
  | .hbm, ⟨56, _⟩ => ⟨S_, .f32⟩
  | .hbm, ⟨57, _⟩ => ⟨S1x32x1024x1024, .f32⟩
  | .hbm, ⟨58, _⟩ => ⟨S1x32x1024x1024, .f32⟩
  | .hbm, ⟨59, _⟩ => ⟨S1x1x1024x1024, .i1⟩
  | .hbm, ⟨60, _⟩ => ⟨S_, .f32⟩
  | .hbm, ⟨61, _⟩ => ⟨S_, .f32⟩
  | .hbm, ⟨62, _⟩ => ⟨S1x32x1024x1024, .i1⟩
  | .hbm, ⟨63, _⟩ => ⟨S1x32x1024x1024, .f32⟩
  | .hbm, ⟨64, _⟩ => ⟨S1x32x1024x1024, .f32⟩
  | .hbm, ⟨65, _⟩ => ⟨S_, .f32⟩
  | .hbm, ⟨66, _⟩ => ⟨S1x32x1024, .f32⟩
  | .hbm, ⟨67, _⟩ => ⟨S1x32x1024x1, .f32⟩
  | .hbm, ⟨68, _⟩ => ⟨S1x32x1024x1024, .f32⟩
  | .hbm, ⟨69, _⟩ => ⟨S1x32x1024x1024, .f32⟩
  | .hbm, ⟨70, _⟩ => ⟨S1x32x1024x1024, .f32⟩
  | .hbm, ⟨71, _⟩ => ⟨S_, .i1⟩
  | .hbm, ⟨72, _⟩ => ⟨S1024, .i1⟩
  | .hbm, ⟨73, _⟩ => ⟨S1x1x1024x1, .i1⟩
  | .hbm, ⟨74, _⟩ => ⟨S_, .f32⟩
  | .hbm, ⟨75, _⟩ => ⟨S1x32x1024, .f32⟩
  | .hbm, ⟨76, _⟩ => ⟨S1x32x1024x1, .f32⟩
  | .hbm, ⟨77, _⟩ => ⟨S_, .f32⟩
  | .hbm, ⟨78, _⟩ => ⟨S_, .f32⟩
  | .hbm, ⟨79, _⟩ => ⟨S1x32x1024x1, .i1⟩
  | .hbm, ⟨80, _⟩ => ⟨S1x32x1024x1, .f32⟩
  | .hbm, ⟨81, _⟩ => ⟨S1x32x1024x1, .f32⟩
  | .hbm, ⟨82, _⟩ => ⟨S1x32x1024x1024, .f32⟩
  | .hbm, ⟨83, _⟩ => ⟨S1x32x1024x1024, .f32⟩
  | .hbm, ⟨84, _⟩ => ⟨S1x1x1024x1, .i1⟩
  | .hbm, ⟨85, _⟩ => ⟨S_, .f32⟩
  | .hbm, ⟨86, _⟩ => ⟨S_, .f32⟩
  | .hbm, ⟨87, _⟩ => ⟨S1x32x1024x1024, .i1⟩
  | .hbm, ⟨88, _⟩ => ⟨S1x32x1024x1024, .f32⟩
  | .hbm, ⟨89, _⟩ => ⟨S1x32x1024x1024, .f32⟩
  | .hbm, ⟨90, _⟩ => ⟨S1x32x128x1024, .f32⟩
  | .hbm, ⟨91, _⟩ => ⟨S1x1024x32x128, .f32⟩
  | .hbm, ⟨92, _⟩ => ⟨S1x1024x4096, .f32⟩
  | .hbm, ⟨93, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_3 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.Base.lean ====
/-
  The kernel's protocol: its semaphore cells, the slots its copies move, who pays which cell and what the payment hands
  over. Everything is stated over the bytes `PV c s` (device `c`'s rounded partial product for row chunk `s`) and `RV s`
  (the rounded sum of chunk `s`), so the protocol says nothing about how these are computed.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Rounds
public import Idealize.ShloMosaic.Lib.Tactic
public import Idealize.ShloMosaic.Lib.Exec
public import Idealize.ShloMosaic.Lib.Pipeline.RegionTalk

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

/-- A duty of a cell: the barrier has three, one per peer; every other used cell has one. -/
abbrev Duty : Type := Fin 3
abbrev UU : Type := UR sig nD τ × URounds (GSem nD τ sig) Duty

local notation "𝕄" => MT nD τ sig Unit (Elt F) ℕ UU ℕ

abbrev EP : Emb (UR sig nD τ) (MT nD τ sig Unit (Elt F) ℕ UU ℕ) := embL
abbrev ER : Emb (URounds (GSem nD τ sig) Duty) (MT nD τ sig Unit (Elt F) ℕ UU ℕ) := embR
abbrev 𝒱₀ : Variants := Variants.none

/-! ## Devices and chunks -/

/-- The device that sums row chunk `s`. -/
def owner (s : Fin 8) : Dev nD := ⟨s.val / 2, by have := s.isLt; show s.val / 2 < 4; omega⟩
/-- The peer `o + 1` places after `c`. -/
def peer (c : Dev nD) (o : Fin 3) : Dev nD := ⟨(c.val + o.val + 1) % 4, Nat.mod_lt _ (by decide)⟩
/-- The peer `o + 1` places before `c`: `c` is its `peer · o`. -/
def payer (c : Dev nD) (o : Fin 3) : Dev nD := ⟨(c.val + 3 - o.val) % 4, Nat.mod_lt _ (by decide)⟩
theorem peer_payer (c : Dev nD) (o : Fin 3) : peer (payer c o) o = c := by revert c o; decide
theorem payer_peer (c : Dev nD) (o : Fin 3) : payer (peer c o) o = c := by revert c o; decide
theorem peer_ne (c : Dev nD) (o : Fin 3) : peer c o ≠ c := by revert c o; decide

/-- The slot of chunk `s`'s owner that device `c`'s partial product lands in. -/
def rsl (s : Fin 8) (c : Dev nD) : Fin 8 := ⟨s.val % 2 * 4 + (s.val / 2 + 4 - c.val) % 4, by
  have := Nat.mod_lt s.val (show 0 < 2 by decide); have := Nat.mod_lt (s.val / 2 + 4 - c.val) (show 0 < 4 by decide); omega⟩
/-- Device `c`'s two chunks. -/
def own (c : Dev nD) (p : Fin 2) : Fin 8 := ⟨2 * c.val + p.val, by have := c.isLt; have := p.isLt; have : c.val < 4 := c.isLt; omega⟩
/-- The parity of a chunk: which of its owner's two accumulators it uses. -/
def par (s : Fin 8) : Fin 2 := ⟨s.val % 2, Nat.mod_lt _ (by decide)⟩
/-- Cell or slot `o + 1` of parity `p`. -/
def at4 (p : Fin 2) (o : Fin 3) : Fin 8 := ⟨4 * p.val + o.val + 1, by have := p.isLt; have := o.isLt; omega⟩

/-! ## The buffers the copies move, slot by slot -/

theorem inb8 (k : Fin 8) : ∀ a, (![k.val, 0, 0] : Fin 3 → ℕ) a + S1x128x1024.size a ≤ S8x128x1024.size a := by revert k; decide
theorem inb2 (k : Fin 2) : ∀ a, (![k.val, 0, 0] : Fin 3 → ℕ) a + S1x128x1024.size a ≤ S2x128x1024.size a := by revert k; decide
theorem inbO (k : Fin 8) : ∀ a, (![128 * k.val, 0] : Fin 2 → ℕ) a + S128x1024.size a ≤ S1024x1024.size a := by revert k; decide

/-- Slot `k` of an eight-slot buffer, of a two-slot buffer, and row chunk `k` of the result. -/
abbrev r8 (k : Fin 8) : Rect S8x128x1024 := Rect.unit (s := S8x128x1024) ![k.val, 0, 0] S1x128x1024.size (inb8 k)
abbrev r2 (k : Fin 2) : Rect S2x128x1024 := Rect.unit (s := S2x128x1024) ![k.val, 0, 0] S1x128x1024.size (inb2 k)
abbrev rO (k : Fin 8) : Rect S1024x1024 := Rect.unit (s := S1024x1024) ![128 * k.val, 0] S128x1024.size (inbO k)

abbrev qM : Memref sig .tc .vmem S1024x1024 .bf16 := Memref.whole cc0_scratch0
abbrev ctM : Memref sig .tc .vmem S128x1024 .bf16 := Memref.whole cc0_scratch1
abbrev owM : Memref sig .tc .vmem S2x128x1024 .f32 := Memref.whole cc0_scratch2
abbrev rsS : Memref sig .tc .vmem S8x128x1024 .bf16 := Memref.whole cc0_scratch3
abbrev rsR : Memref sig .tc .vmem S8x128x1024 .bf16 := Memref.whole cc0_scratch4
abbrev agS : Memref sig .tc .vmem S2x128x1024 .bf16 := Memref.whole cc0_scratch5
abbrev agR : Memref sig .tc .vmem S8x128x1024 .bf16 := Memref.whole cc0_scratch6

/-- Rectangle `r` of device `c`'s buffer `m`, held at share `q`, at any contents. -/
def Any {sp : Space} {s : Shape} {e : EltTy} (m : Memref sig .tc sp s e) (r : Rect s) (c : Dev nD) (q : PosShare TreeShare) : sProp 𝕄 :=
  iprop(∃ f : Buf (Elt F) ((m.access r).loc (c : Thread nD τ)), (m.access r).loc (c : Thread nD τ) ↦[(m.access r).set]{q} f)
/-- Rectangle `r` of device `c`'s buffer `m`, held at share `q`, reading `X`. -/
def Has {sp : Space} {s : Shape} {e : EltTy} (m : Memref sig .tc sp s e) (r : Rect s) (c : Dev nD) (q : PosShare TreeShare)
    (X : r.shape.Idx → Elt F e) : sProp 𝕄 :=
  iprop(∃ f : Buf (Elt F) ((m.access r).loc (c : Thread nD τ)), ⌜(m.access r).read (Elt F) f = X⌝
    ∗ ((m.access r).loc (c : Thread nD τ) ↦[(m.access r).set]{q} f))

theorem Has.any {sp : Space} {s : Shape} {e : EltTy} (m : Memref sig .tc sp s e) (r : Rect s) (c : Dev nD) (q : PosShare TreeShare)
    (X : r.shape.Idx → Elt F e) : (Has m r c q X : sProp 𝕄) ⊢ Any m r c q := by
  unfold Has Any
  iintro ⟨%f, -, H⟩
  iexists f; iexact H

instance {sp : Space} {s : Shape} {e : EltTy} (m : Memref sig .tc sp s e) (r : Rect s) (c : Dev nD) (q : PosShare TreeShare) :
    BI.Storable (upEmb : UEmb _ 𝕄) (Any (F := F) m r c q) := by unfold Any; infer_instance
instance {sp : Space} {s : Shape} {e : EltTy} (m : Memref sig .tc sp s e) (r : Rect s) (c : Dev nD) (q : PosShare TreeShare)
    (X : r.shape.Idx → Elt F e) : BI.Storable (upEmb : UEmb _ 𝕄) (Has (F := F) m r c q X) := by unfold Has; infer_instance

/-! ## Cells -/

abbrev barS : Sem sig := sig.barrier 0 rfl
/-- DMA semaphore `i` of array `a`: 0 the partial products' departures, 1 their arrivals, 2 the sums' departures, 3 their arrivals. -/
def dsem (a : Fin 4) (i : Fin 8) : DmaSem sig := ⟨6 + 8 * a.val + i.val, by have := a.isLt; have := i.isLt; show _ < 38; omega⟩
abbrev barC (c : Dev nD) : GSem nD τ sig := ((c : Thread nD τ), .reg barS)
abbrev dC (a : Fin 4) (i : Fin 8) (c : Dev nD) : GSem nD τ sig := ((c : Thread nD τ), .dma (dsem a i))

/-- Units one copied slot credits. -/
abbrev N : ℕ := (rsR.access (r8 0)).dmaCredit
theorem N_pos : 0 < N := View.dmaCredit_pos _ (by decide)

/-- Whether cell `i` of array `a` on device `c` is used. -/
def used (c : Dev nD) (a : Fin 4) (i : Fin 8) : Prop :=
  (a = 0 ∧ owner i ≠ c) ∨ (a = 1 ∧ i.val % 4 ≠ 0) ∨ (a = 2 ∧ i.val % 4 ≠ 0) ∨ (a = 3 ∧ owner i ≠ c)
instance (c : Dev nD) (a : Fin 4) (i : Fin 8) : Decidable (used c a i) := by unfold used; infer_instance

/-- The share of a sum's slot that its copy number `o + 1` borrows. -/
def shareOf (o : Fin 3) : PosShare TreeShare := Transfers.dealOf fullShare (Finset.univ : Finset (Fin 3)) o

variable (PV : Dev nD → Fin 8 → Vec F S1x128x1024 .bf16) (RV : Fin 8 → Vec F S1x128x1024 .bf16)

/-- The half of an eight-cell array cell `i` lies in, and the device whose partial product arrives on cell `i` of device `c`. -/
def half (i : Fin 8) : Fin 2 := ⟨i.val / 4, by have := i.isLt; omega⟩
def rsFrom (c : Dev nD) (i : Fin 8) : Dev nD := ⟨(c.val + 4 - i.val % 4) % 4, Nat.mod_lt _ (by decide)⟩
/-- The copy number of cell `i`, less one. -/
def off4 (i : Fin 8) : Fin 3 := ⟨(i.val + 3) % 4 % 3, Nat.mod_lt _ (by decide)⟩

theorem rsFrom_rsl (s : Fin 8) (c : Dev nD) : rsFrom (owner s) (rsl s c) = c := by revert s c; decide
theorem own_rsl (s : Fin 8) (c : Dev nD) : own (owner s) (half (rsl s c)) = s := by revert s c; decide

/-- What the entry of the peer `o + 1` places before `c` hands over: that peer's landing slots for `c`'s copies, and that
    their cells are open. -/
def barPay (c : Dev nD) (o : Fin 3) : sProp 𝕄 :=
  iprop((Any rsR (r8 (at4 0 o.rev)) (payer c o) fullShare ∗ reached ER (dC 1 (at4 0 o.rev) (payer c o)) 0)
    ∗ (Any rsR (r8 (at4 1 o.rev)) (payer c o) fullShare ∗ reached ER (dC 1 (at4 1 o.rev) (payer c o)) 0)
    ∗ (Any agR (r8 (own c 0)) (payer c o) fullShare ∗ reached ER (dC 3 (own c 0) (payer c o)) 0)
    ∗ (Any agR (r8 (own c 1)) (payer c o) fullShare ∗ reached ER (dC 3 (own c 1) (payer c o)) 0))

/-- What a copy's departure or arrival hands over. -/
def dPay (a : Fin 4) (i : Fin 8) (c : Dev nD) : sProp 𝕄 :=
  match a with
  | 0 => Any rsS (r8 i) c fullShare
  | 1 => Has rsR (r8 i) c fullShare (PV (rsFrom c i) (own c (half i)))
  | 2 => Any agS (r2 (half i)) c (shareOf (off4 i))
  | 3 => Has agR (r8 i) c fullShare (RV i)

/-- The array and index of a DMA semaphore, when it is one of the kernel's own. -/
def dec (s : DmaSem sig) : Option (Fin 4 × Fin 8) :=
  if h : 6 ≤ s.val then some (⟨(s.val - 6) / 8, by have : s.val < 38 := s.isLt; omega⟩, ⟨(s.val - 6) % 8, Nat.mod_lt _ (by decide)⟩) else none
theorem dec_dsem (a : Fin 4) (i : Fin 8) : dec (dsem a i) = some (a, i) := by revert a i; decide

/-- Who pays which cell: one round, round 0. -/
def dutySet (c : Dev nD) : SemLoc sig → Finset Duty
  | .reg _ => Finset.univ
  | .dma s => match dec s with
    | none => ∅
    | some (a, i) => if used c a i then {0} else ∅
def payOf (c : Dev nD) (sm : SemLoc sig) (d : Duty) : sProp 𝕄 :=
  match sm with
  | .reg _ => barPay c d
  | .dma s => match dec s with
    | none => iprop(emp)
    | some (a, i) => dPay PV RV a i c
def amt : SemLoc sig → ℕ
  | .reg _ => 1
  | .dma _ => N

def sched : Rounds.Schedule (GSem nD τ sig) Duty 𝕄 where
  duties g r := if r = 0 then dutySet g.1.1 g.2 else ∅
  unitless _ := False
  amount g _ _ := amt g.2
  payload g _ d := payOf PV RV g.1.1 g.2 d
  amount_pos g _ _ _ := by
    cases h : g.2 with
    | reg _ => exact Nat.one_pos
    | dma _ => exact N_pos

instance dPay_storable (a : Fin 4) (i : Fin 8) (c : Dev nD) : BI.Storable (upEmb : UEmb _ 𝕄) (dPay (F := F) PV RV a i c) := by
  fin_cases a <;> (dsimp only [dPay]; infer_instance)
instance barPay_storable (c : Dev nD) (o : Fin 3) : BI.Storable (upEmb : UEmb _ 𝕄) (barPay (F := F) c o) := by
  unfold barPay; infer_instance
instance payOf_storable (c : Dev nD) (sm : SemLoc sig) (d : Duty) : BI.Storable (upEmb : UEmb _ 𝕄) (payOf (F := F) PV RV c sm d) := by
  unfold payOf
  (repeat' split) <;> infer_instance
instance sched_storable (g : GSem nD τ sig) (r : ℕ) (d : Duty) :
    BI.Storable (upEmb : UEmb _ 𝕄) ((sched (F := F) PV RV).payload g r d) := payOf_storable PV RV _ _ _

/-! ### The schedule's tables -/

theorem duties_bar (c : Dev nD) : (sched PV RV).duties (barC c) 0 = Finset.univ := rfl
theorem duties_d (a : Fin 4) (i : Fin 8) (c : Dev nD) (h : used c a i) : (sched PV RV).duties (dC a i c) 0 = {0} := by
  show (match dec (dsem a i) with | none => (∅ : Finset Duty) | some (a, i) => if used c a i then {0} else ∅) = {0}
  rw [dec_dsem]; exact if_pos h
theorem duties_d_un (a : Fin 4) (i : Fin 8) (c : Dev nD) (h : ¬ used c a i) : (sched PV RV).duties (dC a i c) 0 = ∅ := by
  show (match dec (dsem a i) with | none => (∅ : Finset Duty) | some (a, i) => if used c a i then {0} else ∅) = ∅
  rw [dec_dsem]; exact if_neg h
theorem duties_later (g : GSem nD τ sig) : ∀ r, 1 ≤ r → (sched (F := F) PV RV).duties g r = ∅ :=
  fun r hr => by show (if r = 0 then _ else _) = _; exact if_neg (by omega)
theorem amount_bar (c : Dev nD) (d : Duty) : (sched (F := F) PV RV).amount (barC c) 0 d = 1 := rfl
theorem amount_d (a : Fin 4) (i : Fin 8) (c : Dev nD) (d : Duty) : (sched (F := F) PV RV).amount (dC a i c) 0 d = N := rfl
theorem expect_bar (c : Dev nD) : (sched (F := F) PV RV).expect (barC c) 0 = 3 := rfl
theorem expect_d (a : Fin 4) (i : Fin 8) (c : Dev nD) (h : used c a i) : (sched (F := F) PV RV).expect (dC a i c) 0 = N := by
  unfold Schedule.expect Schedule.amountOf; rw [duties_d PV RV a i c h, Finset.sum_singleton, amount_d]
theorem payload_d (a : Fin 4) (i : Fin 8) (c : Dev nD) (d : Duty) :
    (sched (F := F) PV RV).payload (dC a i c) 0 d = dPay PV RV a i c := by
  show (match dec (dsem a i) with | none => iprop(emp) | some (a, i) => dPay PV RV a i c) = _
  rw [dec_dsem]
theorem payload_bar (c : Dev nD) (d : Duty) : (sched (F := F) PV RV).payload (barC c) 0 d = barPay c d := rfl

theorem rest_d (a : Fin 4) (i : Fin 8) (c : Dev nD) (h : used c a i) :
    bigSep ((sched (F := F) PV RV).duties (dC a i c) 0 \ ∅) (fun d => (sched PV RV).payload (dC a i c) 0 d) = dPay PV RV a i c := by
  rw [Finset.sdiff_empty, duties_d PV RV a i c h, bigSep_singleton, payload_d]
theorem bigSep_fin3 {M : Type} [URA M] (Φ : Fin 3 → sProp M) : bigSep Finset.univ Φ = iprop(Φ 0 ∗ Φ 1 ∗ Φ 2) := by
  rw [show (Finset.univ : Finset (Fin 3)) = {0, 1, 2} from by decide, bigSep_insert (by decide), bigSep_insert (by decide), bigSep_singleton]
  rfl
theorem rest_bar (c : Dev nD) :
    bigSep ((sched (F := F) PV RV).duties (barC c) 0 \ ∅) (fun d => (sched PV RV).payload (barC c) 0 d)
      = iprop(barPay c 0 ∗ barPay c 1 ∗ barPay c 2) := by
  rw [Finset.sdiff_empty, duties_bar, bigSep_fin3]; rfl

/-! ## What a device owes, phase by phase -/

/-- The tallies of a list of cells, one full payment each. -/
def oweL (l : List (GSem nD τ sig)) : CellTallies nD τ sig Unit := (l.map fun g => tallyAt g () (amt g.2)).sum
theorem oweL_nil : oweL [] = 0 := rfl
theorem oweL_cons (g : GSem nD τ sig) (l : List (GSem nD τ sig)) : oweL (g :: l) = oweL l + tallyAt g () (amt g.2) := by
  unfold oweL; rw [List.map_cons, List.sum_cons, add_comm]
theorem oweL_pos {l : List (GSem nD τ sig)} {g : GSem nD τ sig} {u : Unit} (h : 0 < oweL l g u) : g ∈ l := by
  induction l with
  | nil => exact absurd h (Nat.lt_irrefl 0)
  | cons a l ih =>
    rw [oweL_cons, Pi.add_apply, Finsupp.add_apply] at h
    rcases Nat.add_pos_iff_pos_or_pos.mp h with h | h
    · exact List.mem_cons_of_mem _ (ih h)
    · rw [tallyAt_apply] at h
      split at h
      · next hg => rw [hg.1]; exact List.mem_cons_self
      · exact absurd h (Nat.lt_irrefl 0)

/-- The arrivals device `c` pays when it sends chunk `s`'s partial product, and when it spreads chunk `s`'s sum. -/
def rsL (s : Fin 8) (c : Dev nD) : List (GSem nD τ sig) := if owner s = c then [] else [dC 1 (rsl s c) (owner s)]
def agL (s : Fin 8) (c : Dev nD) : List (GSem nD τ sig) := if owner s = c then [dC 3 s (peer c 0), dC 3 s (peer c 1), dC 3 s (peer c 2)] else []

/-- The sixteen payments in the order the body makes them, from the `k`-th on. -/
def phase (c : Dev nD) : List (List (GSem nD τ sig)) :=
  [rsL 0 c, rsL 1 c, rsL 2 c, agL 0 c, rsL 3 c, agL 1 c, rsL 4 c, agL 2 c, rsL 5 c, agL 3 c, rsL 6 c, agL 4 c, rsL 7 c, agL 5 c, agL 6 c, agL 7 c]
def restL (k : ℕ) (c : Dev nD) : List (GSem nD τ sig) := ((phase c).drop k).flatten
def owed (k : ℕ) (c : Dev nD) : CellTallies nD τ sig Unit := oweL (restL k c)
/-- What a device owes at launch: its three entries besides. -/
def launchL (c : Dev nD) : List (GSem nD τ sig) := barC (peer c 0) :: barC (peer c 1) :: barC (peer c 2) :: restL 0 c
def O₀ (c : Dev nD) : CellTallies nD τ sig Unit := oweL (launchL c)

/-! ## Levels -/

def L (g : GSem nD τ sig) : Finset Unit := if g.1.2 = .tc then {()} else ∅
/-- Entries at 1, the arrivals of chunk `s`'s partial products at `2 + s`, of its sum at `20 + s`; everything else at 0. -/
def lv (g : GSem nD τ sig) (_ : Unit) : ℕ :=
  match g.2 with
  | .reg _ => 1
  | .dma s => match dec s with
    | none => 0
    | some (a, i) => if a = 1 then 2 + (own g.1.1 (half i)).val else if a = 3 then 20 + i.val else 0
theorem L_of_ne (g : GSem nD τ sig) (h : g.1.2 ≠ .tc) : L g = ∅ := if_neg h
theorem L_tc (c : Dev nD) (sm : SemLoc sig) : L ((c : Thread nD τ), sm) = {()} := if_pos rfl

/-- A wait on a cell of level `n` is allowed while every cell owed to is above `n`. -/
theorem mayWait (c : Dev nD) (sm : SemLoc sig) (n : ℕ) (l : List (GSem nD τ sig)) (hn : lv ((c : Thread nD τ), sm) () ≤ n)
    (hl : ∀ g ∈ l, g.1.2 = .tc ∧ n < lv g ()) :
    (levAts L lv : sProp 𝕄) ⊢ MayWait (c : Thread nD τ) sm () (oweL l) :=
  MayOwe.of_cut (L := L) (lev := lv) n (fun p hp => by rw [Finset.mem_singleton.mp hp, L_tc]; exact Finset.mem_singleton_self _)
    (fun g u hg => by
      have := (hl g (oweL_pos hg)).1
      unfold L; rw [if_pos this]; exact Finset.mem_singleton_self _)
    (fun p hp => by rw [Finset.mem_singleton.mp hp]; exact hn)
    (fun g u hg => (hl g (oweL_pos hg)).2)

end Cert.KernelIdeal.Talk
-- ==== Proof.Ops.lean ====
/-
  One rule per kind of statement of the kernel's protocol: entry signals and the entry wait, the copy of a partial product,
  the copy of a sum, a wait on one of the kernel's own semaphores, and loads and stores of one slot.
-/
module

public import proofs.«01_k».proof.Proof.Base
public import Idealize.ShloMosaic.Lib.ViewIndex

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (PV : Dev nD → Fin 8 → Vec F S1x128x1024 .bf16) (RV : Fin 8 → Vec F S1x128x1024 .bf16)

/-! ## The records every device may consult -/

/-- Every cell's invariant, under one map of names. -/
def Inv (K : GSem nD τ sig → ℕ) : sProp 𝕄 :=
  iprop((bigSep Finset.univ fun c : Dev nD => cellInv ER (sched PV RV) (K (barC c)) (barC c))
    ∗ bigSep Finset.univ fun x : Dev nD × Fin 4 × Fin 8 => cellInv ER (sched PV RV) (K (dC x.2.1 x.2.2 x.1)) (dC x.2.1 x.2.2 x.1))
instance (K : GSem nD τ sig → ℕ) : BI.Persistent (Inv PV RV K) := by unfold Inv; infer_instance

theorem inv_bar (K : GSem nD τ sig → ℕ) (c : Dev nD) : Inv PV RV K ⊢ cellInv ER (sched PV RV) (K (barC c)) (barC c) := by
  unfold Inv
  iintro ⟨H, -⟩
  ihave H := (show _ ⊢ (cellInv ER (sched PV RV) (K (barC c)) (barC c) : sProp 𝕄) from bigSep_elim (Φ := fun c : Dev nD => (cellInv ER (sched PV RV) (K (barC c)) (barC c) : sProp 𝕄)) (Finset.mem_univ c)) $$ H
  iexact H
theorem inv_d (K : GSem nD τ sig → ℕ) (a : Fin 4) (i : Fin 8) (c : Dev nD) :
    Inv PV RV K ⊢ cellInv ER (sched PV RV) (K (dC a i c)) (dC a i c) := by
  unfold Inv
  iintro ⟨-, H⟩
  ihave H := (show _ ⊢ (cellInv ER (sched PV RV) (K (dC a i c)) (dC a i c) : sProp 𝕄) from bigSep_elim (Φ := fun x : Dev nD × Fin 4 × Fin 8 => (cellInv ER (sched PV RV) (K (dC x.2.1 x.2.2 x.1)) (dC x.2.1 x.2.2 x.1) : sProp 𝕄)) (Finset.mem_univ (c, a, i))) $$ H
  iexact H

/-- Round 0 of each of device `c`'s own cells is reached. -/
def Rch (c : Dev nD) : sProp 𝕄 := bigSep Finset.univ fun x : Fin 4 × Fin 8 => reached ER (dC x.1 x.2 c) 0
instance (c : Dev nD) : BI.Persistent (Rch (F := F) c) := by unfold Rch; infer_instance
theorem rch_d (a : Fin 4) (i : Fin 8) (c : Dev nD) : Rch (F := F) c ⊢ reached ER (dC a i c) 0 := by
  unfold Rch
  exact bigSep_elim (Φ := fun x : Fin 4 × Fin 8 => (reached ER (dC x.1 x.2 c) 0 : sProp 𝕄)) (Finset.mem_univ (a, i))

/-- Device `c` owes one full payment on each cell of `l`. -/
def OW (c : Dev nD) (l : List (GSem nD τ sig)) : sProp 𝕄 := iprop(∃ W, owes (c : Thread nD τ) (oweL l) W)

/-! ## Loads and stores of one slot -/

section Mem

variable {sp : CoreSpace} {s : Shape} {e : EltTy} {α : Type}

theorem load_has (m : Memref sig .tc sp s e) (r : Rect s) (c : Dev nD) (q : PosShare TreeShare) (X : r.shape.Idx → Elt F e)
    {Q : α → sProp 𝕄} {hl : m.view.LoadsAt r.toLoadRect} {k : (r.shape.Idx → Elt F e) → Prog (TpuEff nD τ sig (Elt F) Λ₀ .tc) α} :
    Has m r c q X ⊢ iprop((Has m r c q X -∗ wp frame (wpE (defs₀ (F := F)) 𝒱₀ (c : Thread nD τ) none) Set.univ (k X) Q)
      -∗ wp frame (wpE (defs₀ (F := F)) 𝒱₀ (c : Thread nD τ) none) Set.univ (.op (.load m r.toLoadRect hl) k) Q) := by
  iintro H Hk
  unfold Has
  icases H with ⟨%f, %hf, H⟩
  iapply (wp_load_rect 𝒱₀ (c : Thread nD τ) none Set.univ (m := m) (r := r) (Finset.Subset.refl _)) $$ H
  iintro H
  rw [hf]
  iapply Hk
  iexists f
  isplitr; · ipureintro; exact hf
  iexact H

theorem load_any (m : Memref sig .tc sp s e) (r : Rect s) (c : Dev nD) (q : PosShare TreeShare)
    {Q : α → sProp 𝕄} {hl : m.view.LoadsAt r.toLoadRect} {k : (r.shape.Idx → Elt F e) → Prog (TpuEff nD τ sig (Elt F) Λ₀ .tc) α} :
    Any m r c q ⊢ iprop((∀ X, Any m r c q -∗ wp frame (wpE (defs₀ (F := F)) 𝒱₀ (c : Thread nD τ) none) Set.univ (k X) Q)
      -∗ wp frame (wpE (defs₀ (F := F)) 𝒱₀ (c : Thread nD τ) none) Set.univ (.op (.load m r.toLoadRect hl) k) Q) := by
  iintro H Hk
  unfold Any
  icases H with ⟨%f, H⟩
  iapply (wp_load_rect 𝒱₀ (c : Thread nD τ) none Set.univ (m := m) (r := r) (Finset.Subset.refl _)) $$ H
  iintro H
  iapply Hk
  iexists f
  iexact H

theorem store_any (m : Memref sig .tc sp s e) (r : Rect s) (c : Dev nD) (w : r.shape.Idx → Elt F e)
    {Q : α → sProp 𝕄} {hx : (m.access r).Stores Finset.univ} {hm : (Finset.univ : Finset r.shape.Idx) = Finset.univ ∨ ∀ a, r.stride a = 1}
    {k : PUnit → Prog (TpuEff nD τ sig (Elt F) Λ₀ .tc) α} :
    Any m r c fullShare ⊢ iprop((Has m r c fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store m r w Finset.univ hx hm) k) Q) := by
  iintro H Hk
  unfold Any
  icases H with ⟨%f, H⟩
  iapply (wp_store 𝒱₀ (c : Thread nD τ) none Set.univ (m := m) (r := r) (w := w) (Mk := Finset.univ)
    (show (m.access r).setOn Finset.univ ⊆ (m.access r).set from (View.setOn_univ _).subset)) $$ H
  iintro H
  iapply Hk
  unfold Has
  iexists _
  isplitr; · ipureintro; exact View.read_write_univ f w
  iexact H

end Mem

/-! ## Slots as the copies name them -/

/-- Rectangle `off` of an eight-slot or a two-slot buffer, without its unit axis. -/
abbrev slot {n : Shape} (m : Memref sig .tc .vmem n .bf16) (r : Rect n) (hs : ∀ a, r.stride a = 1) (hq : r.shape.Squeezes S128x1024) :
    Memref sig .tc .vmem S128x1024 .bf16 := (m.slice r hs).squeeze S128x1024 hq

/-- A slot written from another slot reads what the other reads. -/
theorem read_landed {κ κ' : Kind} {sp sp' : Space} {s s' : Shape} {e : EltTy} (v : View sig κ sp s e) (v' : View sig κ' sp' s e)
    (h : s'.numel = s.numel) (f : v.ty.Contents (Elt F)) (g : v'.ty.Contents (Elt F)) :
    v.read (Elt F) ((v.reshape s' h).write (Elt F) f ((v'.reshape s' h).read (Elt F) g) Finset.univ) = v'.read (Elt F) g := by
  funext y
  obtain ⟨x, rfl⟩ := (Shape.reshapeEquiv h).surjective y
  rw [View.read_write_reshape]; rfl

/-- A vector index is its one coordinate. -/
theorem rowMajor_one (x : S8.Idx) : (S8.rowMajor x).val = (x 0).val := by
  show (Shape.rowMajorPi S8.size x).val = _
  have h := Shape.rowMajorPi_succ_val S8.size x
  rw [h]
  have h2 := (Shape.rowMajorPi (fun a : Fin 0 => S8.size a.succ) (fun a => x a.succ)).isLt
  simp only [Finset.univ_eq_empty, Finset.prod_empty] at h2 ⊢
  omega

/-- The semaphore at one place of the kernel's semaphore arrays. -/
theorem sem_at (a : Fin 4) (k : Fin 8) {h : 6 + 8 * a.val + S8.numel ≤ 38} {off : Fin 1 → ℕ} (ho : off = ![k.val]) {hi : ∀ a, off a + S1.size a ≤ S8.size a}
    {hq : S1.Squeezes S_} :
    (((SemArray.consecutive (6 + 8 * a.val) S8 h : DmaSems sig S8).slice (Rect.unit off S1.size hi)).squeeze S_ hq).sem = dsem a k := by
  subst ho
  apply Fin.ext
  show 6 + 8 * a.val + (S8.rowMajor ((Rect.unit (s := S8) ![k.val] S1.size hi).emb (Shape.reshapeEquiv hq.numel_eq _))).val = 6 + 8 * a.val + k.val
  rw [rowMajor_one]
  have h1 := (Shape.reshapeEquiv hq.numel_eq (fun i : Fin 0 => i.elim0) 0).isLt
  generalize hy : Shape.reshapeEquiv hq.numel_eq (fun i : Fin 0 => i.elim0) = y at h1
  show 6 + 8 * a.val + (k.val + 1 * (y 0).val) = _
  have h2 : (y 0).val < 1 := h1
  omega

/-- A sent partial product's arrival cell is a used one. -/
theorem rsl_used (s : Fin 8) (c : Dev nD) (h : owner s ≠ c) : (rsl s c).val % 4 ≠ 0 := by revert s c; decide

/-! ## The copies -/

section Copies

variable {α : Type}

/-- A device sends its partial product for chunk `s` to the chunk's owner. -/
theorem send_rs (K : GSem nD τ sig → ℕ) (s : Fin 8) (c : Dev nD) (hne : owner s ≠ c) (l : List (GSem nD τ sig)) (X : S1x128x1024.Idx → Elt F .bf16)
    (hX : X = PV c s) {Q : α → sProp 𝕄}
    {n : Dev nD} (hn : n = owner s) {o o' : Fin 3 → ℕ} (ho : o = ![s.val, 0, 0]) (ho' : o' = ![(rsl s c).val, 0, 0])
    {hi : ∀ a, o a + S1x128x1024.size a ≤ S8x128x1024.size a} {hi' : ∀ a, o' a + S1x128x1024.size a ≤ S8x128x1024.size a}
    {h1 : ∀ a, (Rect.unit (s := S8x128x1024) o S1x128x1024.size hi).stride a = 1} {h1' : ∀ a, (Rect.unit (s := S8x128x1024) o' S1x128x1024.size hi').stride a = 1}
    {hq : S1x128x1024.Squeezes S128x1024} {hq' : S1x128x1024.Squeezes S128x1024}
    {sS sR : DmaSem sig} (hS : sS = dsem 0 s) (hR : sR = dsem 1 (rsl s c))
    {hsc : ((rsR.slice (Rect.unit o' S1x128x1024.size hi') h1').squeeze S128x1024 hq').view.ref.isScScratch = false}
    {hw : ((rsS.slice (Rect.unit o S1x128x1024.size hi) h1).squeeze S128x1024 hq).view.WordExact}
    {hw' : ((rsR.slice (Rect.unit o' S1x128x1024.size hi') h1').squeeze S128x1024 hq').view.WordExact}
    {ht : DmaTarget.Typed (.core .vmem) (.dma sR) (.remote (Dev.tc n) ((rsR.slice (Rect.unit o' S1x128x1024.size hi') h1').squeeze S128x1024 hq') (.dma sS) hsc)}
    {k : PUnit → Prog (TpuEff nD τ sig (Elt F) Λ₀ .tc) α} :
    iprop(Inv PV RV K ∗ Rch c ∗ reached ER (dC 1 (rsl s c) (owner s)) 0
        ∗ (dutyTok ER (dC 0 s c) 0 0 ∗ dutyTok ER (dC 1 (rsl s c) (owner s)) 0 0)
        ∗ Has rsS (r8 s) c fullShare X ∗ Any rsR (r8 (rsl s c)) (owner s) fullShare ∗ OW c (dC 1 (rsl s c) (owner s) :: l))
      ⊢ iprop(((cred (tallyAt (dC 0 s c) () N) ∗ OW c l) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma ((rsS.slice (Rect.unit o S1x128x1024.size hi) h1).squeeze S128x1024 hq)
            (.remote (Dev.tc n) ((rsR.slice (Rect.unit o' S1x128x1024.size hi') h1').squeeze S128x1024 hq') (.dma sS) hsc) (.dma sR) hw hw' ht) k) Q) := by
  subst hn ho ho' hS hR hX
  have hu : used c 0 s := Or.inl ⟨rfl, hne⟩
  have hu' : used (owner s) 1 (rsl s c) := Or.inr (Or.inl ⟨rfl, rsl_used s c hne⟩)
  iintro ⟨#HI, #HR, #HR', ⟨Ht, Ht'⟩, Hs, Hd, HO⟩ Hk
  unfold Has Any OW
  icases Hs with ⟨%fs, %hfs, Hs⟩
  icases Hd with ⟨%fd, Hd⟩
  icases HO with ⟨%W, HO⟩
  iapply (Rounds.wp_send_pointsTo 𝒱₀ ER (sched PV RV) (c : Thread nD τ) none (c' := (owner s : Thread nD τ))
      (src := slot rsS (r8 s) (fun _ => rfl) hq) (dst := slot rsR (r8 (rsl s c)) (fun _ => rfl) hq')
      (sS := .dma (dsem 0 s)) (sem := .dma (dsem 1 (rsl s c))) (q := fullShare) (fs := fs) (fd := fd) (κ₁ := K (dC 0 s c)) (κ₂ := K (dC 1 (rsl s c) (owner s)))
      (r₁ := 0) (r₂ := 0) (d₁ := 0) (d₂ := 0)
      (by rw [duties_d PV RV 0 s c hu]; exact Finset.mem_singleton_self _) (by rw [duties_d PV RV 1 _ _ hu']; exact Finset.mem_singleton_self _)
      () () N rfl (amount_d PV RV 0 s c 0) (amount_d PV RV 1 _ _ 0) (oweL l) (oweL_cons _ _) (W := W)
      (by
        rw [payload_d, View.set_reshape]; show _ ⊢ Any rsS (r8 s) c fullShare; unfold Any; iintro H; iexists fs; iexact H)
      (by
        rw [payload_d, View.set_reshape]
        show _ ⊢ Has rsR (r8 (rsl s c)) (owner s) fullShare (PV (rsFrom (owner s) (rsl s c)) (own (owner s) (half (rsl s c))))
        rw [rsFrom_rsl, own_rsl]
        unfold Has; iintro H; iexists _
        isplitr
        rotate_left
        · iexact H
        · ipureintro; rw [← hfs]; exact read_landed _ _ _ _ _))
    $$ [Hs Hd HO Ht Ht']
  · isplitr; · iapply (inv_d PV RV K 0 s c); iexact HI
    isplitr; · iapply (inv_d PV RV K 1 (rsl s c) (owner s)); iexact HI
    isplitl [Hs]; · rw [View.set_reshape]; iexact Hs
    isplitl [Hd]; · rw [View.set_reshape]; iexact Hd
    isplitl [HO]; · iexact HO
    isplitl [Ht]; · iexact Ht
    isplitr; · iapply (rch_d 0 s c); iexact HR
    isplitl [Ht']; · iexact Ht'
    iexact HR'
  iintro ⟨Hc, HO⟩
  iapply Hk
  isplitl [Hc]; · iexact Hc
  iexists W; iexact HO

theorem half_at4 (p : Fin 2) (o : Fin 3) : half (at4 p o) = p := by revert p o; decide
theorem off4_at4 (p : Fin 2) (o : Fin 3) : off4 (at4 p o) = o := by revert p o; decide
theorem at4_used (p : Fin 2) (o : Fin 3) : (at4 p o).val % 4 ≠ 0 := by revert p o; decide
theorem owner_ne_peer (s : Fin 8) (c : Dev nD) (o : Fin 3) (h : owner s = c) : owner s ≠ peer c o := by rw [h]; exact (peer_ne c o).symm

/-- The owner of chunk `s` sends its sum to the peer `o + 1` places on. -/
theorem send_ag (K : GSem nD τ sig → ℕ) (s : Fin 8) (c : Dev nD) (hc : owner s = c) (j : Fin 3) (l : List (GSem nD τ sig)) (X : S1x128x1024.Idx → Elt F .bf16)
    (hX : X = RV s) {Q : α → sProp 𝕄}
    {n : Dev nD} (hn : n = peer c j) {o : Fin 3 → ℕ} (ho : o = ![(par s).val, 0, 0]) {o' : Fin 3 → ℕ} (ho' : o' = ![s.val, 0, 0])
    {hi : ∀ a, o a + S1x128x1024.size a ≤ S2x128x1024.size a} {hi' : ∀ a, o' a + S1x128x1024.size a ≤ S8x128x1024.size a}
    {h1 : ∀ a, (Rect.unit (s := S2x128x1024) o S1x128x1024.size hi).stride a = 1} {h1' : ∀ a, (Rect.unit (s := S8x128x1024) o' S1x128x1024.size hi').stride a = 1}
    {hq : S1x128x1024.Squeezes S128x1024} {hq' : S1x128x1024.Squeezes S128x1024}
    {sS sR : DmaSem sig} (hS : sS = dsem 2 (at4 (par s) j)) (hR : sR = dsem 3 s)
    {hsc : ((agR.slice (Rect.unit o' S1x128x1024.size hi') h1').squeeze S128x1024 hq').view.ref.isScScratch = false}
    {hw : ((agS.slice (Rect.unit o S1x128x1024.size hi) h1).squeeze S128x1024 hq).view.WordExact}
    {hw' : ((agR.slice (Rect.unit o' S1x128x1024.size hi') h1').squeeze S128x1024 hq').view.WordExact}
    {ht : DmaTarget.Typed (.core .vmem) (.dma sR) (.remote (Dev.tc n) ((agR.slice (Rect.unit o' S1x128x1024.size hi') h1').squeeze S128x1024 hq') (.dma sS) hsc)}
    {k : PUnit → Prog (TpuEff nD τ sig (Elt F) Λ₀ .tc) α} :
    iprop(Inv PV RV K ∗ Rch c ∗ reached ER (dC 3 s (peer c j)) 0
        ∗ (dutyTok ER (dC 2 (at4 (par s) j) c) 0 0 ∗ dutyTok ER (dC 3 s (peer c j)) 0 0)
        ∗ Has agS (r2 (par s)) c (shareOf j) X ∗ Any agR (r8 s) (peer c j) fullShare ∗ OW c (dC 3 s (peer c j) :: l))
      ⊢ iprop(((cred (tallyAt (dC 2 (at4 (par s) j) c) () N) ∗ OW c l) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma ((agS.slice (Rect.unit o S1x128x1024.size hi) h1).squeeze S128x1024 hq)
            (.remote (Dev.tc n) ((agR.slice (Rect.unit o' S1x128x1024.size hi') h1').squeeze S128x1024 hq') (.dma sS) hsc) (.dma sR) hw hw' ht) k) Q) := by
  subst hn ho ho' hS hR hX
  have hu : used c 2 (at4 (par s) j) := Or.inr (Or.inr (Or.inl ⟨rfl, at4_used _ _⟩))
  have hu' : used (peer c j) 3 s := Or.inr (Or.inr (Or.inr ⟨rfl, owner_ne_peer s c j hc⟩))
  iintro ⟨#HI, #HR, #HR', ⟨Ht, Ht'⟩, Hs, Hd, HO⟩ Hk
  unfold Has Any OW
  icases Hs with ⟨%fs, %hfs, Hs⟩
  icases Hd with ⟨%fd, Hd⟩
  icases HO with ⟨%W, HO⟩
  iapply (Rounds.wp_send_pointsTo 𝒱₀ ER (sched PV RV) (c : Thread nD τ) none (c' := (peer c j : Thread nD τ))
      (src := slot agS (r2 (par s)) (fun _ => rfl) hq) (dst := slot agR (r8 s) (fun _ => rfl) hq')
      (sS := .dma (dsem 2 (at4 (par s) j))) (sem := .dma (dsem 3 s)) (q := shareOf j) (fs := fs) (fd := fd)
      (κ₁ := K (dC 2 (at4 (par s) j) c)) (κ₂ := K (dC 3 s (peer c j)))
      (r₁ := 0) (r₂ := 0) (d₁ := 0) (d₂ := 0)
      (by rw [duties_d PV RV 2 _ c hu]; exact Finset.mem_singleton_self _) (by rw [duties_d PV RV 3 _ _ hu']; exact Finset.mem_singleton_self _)
      () () N rfl (amount_d PV RV 2 _ c 0) (amount_d PV RV 3 _ _ 0) (oweL l) (oweL_cons _ _) (W := W)
      (by
        rw [payload_d, View.set_reshape]
        show _ ⊢ Any agS (r2 (half (at4 (par s) j))) c (shareOf (off4 (at4 (par s) j)))
        rw [half_at4, off4_at4]
        unfold Any; iintro H; iexists fs; iexact H)
      (by
        rw [payload_d, View.set_reshape]
        show _ ⊢ Has agR (r8 s) (peer c j) fullShare (RV s)
        unfold Has; iintro H; iexists _
        isplitr
        rotate_left
        · iexact H
        · ipureintro; rw [← hfs]; exact read_landed _ _ _ _ _))
    $$ [Hs Hd HO Ht Ht']
  · isplitr; · iapply (inv_d PV RV K 2 (at4 (par s) j) c); iexact HI
    isplitr; · iapply (inv_d PV RV K 3 s (peer c j)); iexact HI
    isplitl [Hs]; · rw [View.set_reshape]; iexact Hs
    isplitl [Hd]; · rw [View.set_reshape]; iexact Hd
    isplitl [HO]; · iexact HO
    isplitl [Ht]; · iexact Ht
    isplitr; · iapply (rch_d 2 (at4 (par s) j) c); iexact HR
    isplitl [Ht']; · iexact Ht'
    iexact HR'
  iintro ⟨Hc, HO⟩
  iapply Hk
  isplitl [Hc]; · iexact Hc
  iexists W; iexact HO

/-! ## Waits and signals -/

/-- A wait on one of the kernel's own cells: what its one payment hands over comes back. -/
theorem wait_cell (K : GSem nD τ sig → ℕ) (a : Fin 4) (i : Fin 8) (c : Dev nD) (hu : used c a i) (l : List (GSem nD τ sig))
    (hl : ∀ g ∈ l, g.1.2 = .tc ∧ lv (dC a i c) () < lv g ()) {Q : α → sProp 𝕄}
    {sem : DmaSem sig} (hS : sem = dsem a i) {sp sp' : Space} {s : Shape} {e e' : EltTy} {src : Memref sig .tc sp s e} {dst : Memref sig .tc sp' s e'}
    (hN : dst.view.dmaCredit = N) {h : src.view.WordExact} {h' : dst.view.WordExact}
    {k : PUnit → Prog (TpuEff nD τ sig (Elt F) Λ₀ .tc) α} :
    iprop(Inv PV RV K ∗ levAts L lv ∗ cred (tallyAt (dC a i c) () N) ∗ OW c l ∗ atPos ER (dC a i c) 0 ∅ 0)
      ⊢ iprop(((OW c l ∗ atPos ER (dC a i c) 1 ∅ 0 ∗ dPay PV RV a i c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst h h') k) Q) := by
  subst hS
  iintro ⟨#HI, #Hlev, Hc, HO, Hat⟩ Hk
  unfold OW
  icases HO with ⟨%W, HO⟩
  iapply (Rounds.wp_wait_rest_token 𝒱₀ ER (sched PV RV) (c : Thread nD τ) none (κ := K (dC a i c)) (sm := .dma (dsem a i)) (k' := N)
      (by intro K'; rw [← hN]; exact wpE_waitDma2_eq 𝒱₀ (c : Thread nD τ) none Set.univ K') (Set.mem_univ _) () (O := oweL l) (W := W) (R := 0) (m := 0) (T := ∅)
      ((Nat.zero_add _).trans (expect_d PV RV a i c hu).symm)) $$ [Hc HO Hat]
  · isplitr; · iapply (inv_d PV RV K a i c); iexact HI
    isplitl [Hc]; · iexact Hc
    isplitl [HO]; · iexact HO
    isplitr; · iapply (mayWait c (.dma (dsem a i)) _ l le_rfl hl); iexact Hlev
    iexact Hat
  iintro ⟨HO, Hat, -, Hpay⟩
  ihave Hp := (Entails.of_eq (rest_d PV RV a i c hu)) $$ Hpay
  iapply Hk
  isplitl [HO]; · iexists _; iexact HO
  isplitl [Hat]; · iexact Hat
  iexact Hp

/-- An entry signal to the peer `j + 1` places on: hands it this device's landing slots for that peer's copies. -/
theorem signal_bar (K : GSem nD τ sig → ℕ) (c : Dev nD) (j : Fin 3) (l : List (GSem nD τ sig)) {Q : α → sProp 𝕄}
    {n : Dev nD} (hn : n = peer c j) {sm : Sem sig} (hs : sm = barS) {k : PUnit → Prog (TpuEff nD τ sig (Elt F) Λ₀ .tc) α} :
    iprop(Inv PV RV K ∗ reached ER (barC (peer c j)) 0 ∗ dutyTok ER (barC (peer c j)) 0 j ∗ barPay (peer c j) j ∗ OW c (barC (peer c j) :: l))
      ⊢ iprop((OW c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n) sm 1) k) Q) := by
  subst hn hs
  iintro ⟨#HI, #HR, Ht, Hp, HO⟩ Hk
  unfold OW
  icases HO with ⟨%W, HO⟩
  iapply (Rounds.wp_signal 𝒱₀ ER (sched PV RV) (c : Thread nD τ) none (dst := (peer c j : Thread nD τ)) (sem := barS) (r := 0) (d := j) (κ := K (barC (peer c j)))
      (by rw [duties_bar]; exact Finset.mem_univ _) (amount_bar PV RV (peer c j) j) () (oweL l) (oweL_cons _ _)) $$ [HO Ht Hp]
  · isplitr; · iapply (inv_bar PV RV K (peer c j)); iexact HI
    isplitl [HO]; · iexact HO
    isplitl [Ht]; · iexact Ht
    isplitl [Hp]; · rw [payload_bar]; iexact Hp
    iexact HR
  iintro HO
  iapply Hk
  iexists W; iexact HO

/-- The entry wait for all three peers. -/
theorem wait_bar (K : GSem nD τ sig → ℕ) (c : Dev nD) (l : List (GSem nD τ sig)) (hl : ∀ g ∈ l, g.1.2 = .tc ∧ 1 < lv g ()) {Q : α → sProp 𝕄}
    {sm : Sem sig} (hs : sm = barS) {k : PUnit → Prog (TpuEff nD τ sig (Elt F) Λ₀ .tc) α} :
    iprop(Inv PV RV K ∗ levAts L lv ∗ cred (tallyAt (barC c) () 3) ∗ OW c l ∗ atPos ER (barC c) 0 ∅ 0)
      ⊢ iprop(((OW c l ∗ atPos ER (barC c) 1 ∅ 0 ∗ barPay c 0 ∗ barPay c 1 ∗ barPay c 2) -∗ wp frame (wpE (defs₀ (F := F)) 𝒱₀ (c : Thread nD τ) none) Set.univ (k ⟨⟩) Q)
        -∗ wp frame (wpE (defs₀ (F := F)) 𝒱₀ (c : Thread nD τ) none) Set.univ (.op (.semWait sm 3) k) Q) := by
  subst hs
  iintro ⟨#HI, #Hlev, Hc, HO, Hat⟩ Hk
  unfold OW
  icases HO with ⟨%W, HO⟩
  iapply (Rounds.wp_wait_rest_token 𝒱₀ ER (sched PV RV) (c : Thread nD τ) none (κ := K (barC c))
      (wpE_semWait_eq 𝒱₀ (c : Thread nD τ) none Set.univ) (Set.mem_univ _) () (O := oweL l) (W := W) (R := 0) (m := 0) (T := ∅)
      ((Nat.zero_add _).trans (expect_bar PV RV c).symm)) $$ [Hc HO Hat]
  · isplitr; · iapply (inv_bar PV RV K c); iexact HI
    isplitl [Hc]; · iexact Hc
    isplitl [HO]; · iexact HO
    isplitr; · iapply (mayWait c (.reg barS) 1 l le_rfl hl); iexact Hlev
    iexact Hat
  iintro ⟨HO, Hat, -, Hpay⟩
  ihave Hp := (Entails.of_eq (rest_bar PV RV c)) $$ Hpay
  iapply Hk
  isplitl [HO]; · iexists _; iexact HO
  isplitl [Hat]; · iexact Hat
  iexact Hp

end Copies

end Cert.KernelIdeal.Talk
-- ==== Proof.Tails.lean ====
module

public import proofs.«01_k».proof.Proof.Ops

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (PV : Dev nD → Fin 8 → Vec F S1x128x1024 .bf16) (PO : Dev nD → Fin 8 → Vec F S1x128x1024 .f32)

/-! ## The sum of a chunk -/

/-- One chunk's sum as its owner forms it from its own partial product and the three that arrived. -/
def redF (x0 : Vec F S1x128x1024 .f32) (x1 x2 x3 : Vec F S1x128x1024 .bf16) : FVec F S128x1024 .f32 :=
  addf (addf (addf (shapeCast S128x1024 x0 shapeCasts_S1x128x1024_S128x1024)
    (extf .f32 (shapeCast S128x1024 x1 shapeCasts_S1x128x1024_S128x1024) bitsLt_bf16_f32))
    (extf .f32 (shapeCast S128x1024 x2 shapeCasts_S1x128x1024_S128x1024) bitsLt_bf16_f32))
    (extf .f32 (shapeCast S128x1024 x3 shapeCasts_S1x128x1024_S128x1024) bitsLt_bf16_f32)
/-- The same sum as it is sent to the peers. -/
def redB (x0 : Vec F S1x128x1024 .f32) (x1 x2 x3 : Vec F S1x128x1024 .bf16) : FVec F S1x128x1024 .bf16 :=
  shapeCast S1x128x1024 (truncf .bf16 (redF x0 x1 x2 x3) bitsLt_bf16_f32) shapeCasts_S128x1024_S1x128x1024
/-- A sum that arrived, as it is stored in the result. -/
def wide (x : Vec F S1x128x1024 .bf16) : FVec F S128x1024 .f32 :=
  extf .f32 (shapeCast S128x1024 x shapeCasts_S1x128x1024_S128x1024) bitsLt_bf16_f32

/-- Chunk `s`'s sum at its owner, and as it is spread. -/
def OV (s : Fin 8) : FVec F S128x1024 .f32 :=
  redF (PO (owner s) s) (PV (rsFrom (owner s) (at4 (par s) 0)) s) (PV (rsFrom (owner s) (at4 (par s) 1)) s) (PV (rsFrom (owner s) (at4 (par s) 2)) s)
def RV (s : Fin 8) : FVec F S1x128x1024 .bf16 :=
  redB (PO (owner s) s) (PV (rsFrom (owner s) (at4 (par s) 0)) s) (PV (rsFrom (owner s) (at4 (par s) 1)) s) (PV (rsFrom (owner s) (at4 (par s) 2)) s)
/-- Row chunk `s` of device `c`'s result. -/
def outV (c : Dev nD) (s : Fin 8) : FVec F S128x1024 .f32 := if owner s = c then OV PV PO s else wide (RV PV PO s)

abbrev outM : Memref sig .tc .vmem S1024x1024 .f32 := win0_5.stage 0

/-- A sum's slot at its owner, and at a peer, as its copies name them. -/
abbrev sumSrc (s : Fin 8) : Memref sig .tc .vmem S128x1024 .bf16 := slot agS (r2 (par s)) (fun _ => rfl) squeezes_S1x128x1024_S128x1024
abbrev sumDst (s : Fin 8) : Memref sig .tc .vmem S128x1024 .bf16 := slot agR (r8 s) (fun _ => rfl) squeezes_S1x128x1024_S128x1024

/-! ## What a device holds for a chunk -/

/-- A cell of the kernel's own that is done: past its one round, or never used. -/
def DN (a : Fin 4) (i : Fin 8) (c : Dev nD) : sProp 𝕄 := iprop(∃ R, ⌜R = 1 ∨ ¬ used c a i⌝ ∗ atPos ER (dC a i c) R ∅ 0)
/-- A claim on cell `i` of array `a`, not yet collected. -/
def Claim (a : Fin 4) (i : Fin 8) (c : Dev nD) : sProp 𝕄 := iprop(cred (tallyAt (dC a i c) () N) ∗ atPos ER (dC a i c) 0 ∅ 0)

/-- Before the partial product for chunk `s` is kept or sent: besides its slot, the accumulator or the right to send. -/
def RSpre (s : Fin 8) (c : Dev nD) : sProp 𝕄 :=
  if owner s = c then Any owM (r2 (par s)) c fullShare
  else iprop(reached ER (dC 1 (rsl s c) (owner s)) 0 ∗ (dutyTok ER (dC 0 s c) 0 0 ∗ dutyTok ER (dC 1 (rsl s c) (owner s)) 0 0)
    ∗ Any rsR (r8 (rsl s c)) (owner s) fullShare)
/-- The owner's accumulator, filled with `w`. -/
def OwnMid (s : Fin 8) (c : Dev nD) (w : S1x128x1024.Idx → Elt F .f32) : sProp 𝕄 :=
  if owner s = c then Has owM (r2 (par s)) c fullShare w else iprop(emp)
/-- The slot of the partial product once it is kept or sent: back in hand, or a claim on the departure. -/
def Sent (s : Fin 8) (c : Dev nD) : sProp 𝕄 :=
  if owner s = c then Any rsS (r8 s) c fullShare else cred (tallyAt (dC 0 s c) () N)

/-- What the copy of chunk `s`'s sum to the peer `j + 1` places on needs. -/
def AGtok (s : Fin 8) (c : Dev nD) (j : Fin 3) : sProp 𝕄 :=
  iprop(reached ER (dC 3 s (peer c j)) 0 ∗ (dutyTok ER (dC 2 (at4 (par s) j) c) 0 0 ∗ dutyTok ER (dC 3 s (peer c j)) 0 0)
    ∗ Any agR (r8 s) (peer c j) fullShare)
/-- What the owner needs to form and spread chunk `s`'s sum, besides its accumulator and its rows of the result. -/
def REDpre (s : Fin 8) (c : Dev nD) : sProp 𝕄 :=
  if owner s = c then
    iprop(Claim 1 (at4 (par s) 0) c ∗ Claim 1 (at4 (par s) 1) c ∗ Claim 1 (at4 (par s) 2) c ∗ Any agS (r2 (par s)) c fullShare
      ∗ AGtok s c 0 ∗ AGtok s c 1 ∗ AGtok s c 2)
  else iprop(emp)
/-- A collected arrival cell and its landing slot. -/
def Got (i : Fin 8) (c : Dev nD) : sProp 𝕄 := iprop(DN 1 i c ∗ Any rsR (r8 i) c fullShare)
/-- What the owner has afterwards: the collected cells, the accumulator, claims on the three departures. -/
def REDpost (s : Fin 8) (c : Dev nD) : sProp 𝕄 :=
  if owner s = c then
    iprop((Got (at4 (par s) 0) c ∗ Got (at4 (par s) 1) c ∗ Got (at4 (par s) 2) c) ∗ Any owM (r2 (par s)) c fullShare
      ∗ (cred (tallyAt (dC 2 (at4 (par s) 0) c) () N) ∗ cred (tallyAt (dC 2 (at4 (par s) 1) c) () N) ∗ cred (tallyAt (dC 2 (at4 (par s) 2) c) () N)))
  else iprop(emp)
/-- Row chunk `s` of the result once the sums are formed. -/
def OutMid (s : Fin 8) (c : Dev nD) : sProp 𝕄 :=
  if owner s = c then Has outM (rO s) c fullShare (outV PV PO c s) else Any outM (rO s) c fullShare
/-- The claim on a chunk's arriving sum, and what is left of it once it is collected. -/
def INpre (s : Fin 8) (c : Dev nD) : sProp 𝕄 := if owner s = c then iprop(emp) else Claim 3 s c
def INpost (s : Fin 8) (c : Dev nD) : sProp 𝕄 := if owner s = c then iprop(emp) else iprop(DN 3 s c ∗ Any agR (r8 s) c fullShare)

theorem DN.of_one (a : Fin 4) (i : Fin 8) (c : Dev nD) : (atPos ER (dC a i c) 1 ∅ 0 : sProp 𝕄) ⊢ DN a i c := by
  unfold DN; iintro H; iexists 1; isplitr; · ipureintro; exact Or.inl rfl
  iexact H
theorem DN.of_unused (a : Fin 4) (i : Fin 8) (c : Dev nD) (h : ¬ used c a i) : (atPos ER (dC a i c) 0 ∅ 0 : sProp 𝕄) ⊢ DN a i c := by
  unfold DN; iintro H; iexists 0; isplitr; · ipureintro; exact Or.inr h
  iexact H

/-- A sum's slot dealt to its three copies. -/
theorem has_deal (r : Rect S2x128x1024) (c : Dev nD) (X : r.shape.Idx → Elt F .bf16) :
    (Has agS r c fullShare X : sProp 𝕄) ⊢ iprop(Has agS r c (shareOf 0) X ∗ Has agS r c (shareOf 1) X ∗ Has agS r c (shareOf 2) X) := by
  unfold Has
  iintro ⟨%f, %hf, H⟩
  ihave H := (Entails.of_eq ((Transfers.pointsTo_deal (Finset.univ : Finset (Fin 3)) Finset.univ_nonempty fullShare).trans (bigSep_fin3 _))) $$ H
  icases H with ⟨H0, H1, H2⟩
  isplitl [H0]; · iexists f; isplitr; · ipureintro; exact hf
                  iexact H0
  isplitl [H1]; · iexists f; isplitr; · ipureintro; exact hf
                  iexact H1
  iexists f; isplitr; · ipureintro; exact hf
  iexact H2

theorem own_par (s : Fin 8) : own (owner s) (par s) = s := by revert s; decide

/-! ## The conditional pieces of the body -/

section Pieces

variable {α : Type}

theorem ownstore_if (s : Fin 8) (c : Dev nD) {C : Prop} {dC : Decidable C} (hC : C ↔ owner s = c) (w : S1x128x1024.Idx → Elt F .f32)
    {Q : α → sProp 𝕄} {hl : C → owM.view.LoadsAt (r2 (par s)).toLoadRect} {hx : C → (owM.access (r2 (par s))).Stores Finset.univ}
    {hm : C → ((Finset.univ : Finset (r2 (par s)).shape.Idx) = Finset.univ ∨ ∀ a, (r2 (par s)).stride a = 1)}
    {R : Prog (TpuEff nD τ sig (Elt F) Λ₀ .tc) α} :
    (RSpre s c : sProp 𝕄) ⊢ iprop(((OwnMid s c w ∗ (if owner s = c then iprop(emp) else RSpre s c))
        -∗ wp frame (wpE (defs₀ (F := F)) 𝒱₀ (c : Thread nD τ) none) Set.univ R Q)
      -∗ wp frame (wpE (defs₀ (F := F)) 𝒱₀ (c : Thread nD τ) none) Set.univ
        (@dite _ C dC (fun h => .op (.load owM (r2 (par s)).toLoadRect (hl h)) fun _ => .op (.store owM (r2 (par s)) w Finset.univ (hx h) (hm h)) fun _ => R)
          (fun _ => R)) Q) := by
  by_cases h : owner s = c
  · rw [dif_pos (hC.mpr h), if_pos h, RSpre, if_pos h, OwnMid, if_pos h]
    iintro H Hk
    iapply load_any $$ H
    iintro %X H
    iapply store_any $$ H
    iintro H
    iapply Hk
    isplitl [H]; · iexact H
    iempintro
  · rw [dif_neg (fun hc => h (hC.mp hc)), if_neg h, OwnMid, if_neg h]
    iintro H Hk
    iapply Hk
    isplitr; · iempintro
    iexact H

theorem send_if (K : GSem nD τ sig → ℕ) (s : Fin 8) (c : Dev nD) {C : Prop} {dC' : Decidable C} (hC : C ↔ owner s ≠ c)
    (l l' : List (GSem nD τ sig)) (hl : l' = rsL s c ++ l) (X : S1x128x1024.Idx → Elt F .bf16) (hX : X = PV c s)
    {Q : α → sProp 𝕄} {n : C → Dev nD} (hn : ∀ h, n h = owner s) {o o' : C → Fin 3 → ℕ} (ho : ∀ h, o h = ![s.val, 0, 0])
    (ho' : ∀ h, o' h = ![(rsl s c).val, 0, 0])
    {hi : ∀ h, ∀ a, o h a + S1x128x1024.size a ≤ S8x128x1024.size a} {hi' : ∀ h, ∀ a, o' h a + S1x128x1024.size a ≤ S8x128x1024.size a}
    {h1 : ∀ h, ∀ a, (Rect.unit (s := S8x128x1024) (o h) S1x128x1024.size (hi h)).stride a = 1}
    {h1' : ∀ h, ∀ a, (Rect.unit (s := S8x128x1024) (o' h) S1x128x1024.size (hi' h)).stride a = 1}
    {hq : C → S1x128x1024.Squeezes S128x1024} {hq' : C → S1x128x1024.Squeezes S128x1024}
    {sS sR : C → DmaSem sig} (hS : ∀ h, sS h = dsem 0 s) (hR : ∀ h, sR h = dsem 1 (rsl s c))
    {hsc : ∀ h, ((rsR.slice (Rect.unit (o' h) S1x128x1024.size (hi' h)) (h1' h)).squeeze S128x1024 (hq' h)).view.ref.isScScratch = false}
    {hw : ∀ h, ((rsS.slice (Rect.unit (o h) S1x128x1024.size (hi h)) (h1 h)).squeeze S128x1024 (hq h)).view.WordExact}
    {hw' : ∀ h, ((rsR.slice (Rect.unit (o' h) S1x128x1024.size (hi' h)) (h1' h)).squeeze S128x1024 (hq' h)).view.WordExact}
    {ht : ∀ h, DmaTarget.Typed (.core .vmem) (.dma (sR h)) (.remote (Dev.tc (n h)) ((rsR.slice (Rect.unit (o' h) S1x128x1024.size (hi' h)) (h1' h)).squeeze S128x1024 (hq' h)) (.dma (sS h)) (hsc h))}
    {R : Prog (TpuEff nD τ sig (Elt F) Λ₀ .tc) α} :
    iprop(Inv PV (RV PV PO) K ∗ Rch c ∗ Has rsS (r8 s) c fullShare X ∗ (if owner s = c then iprop(emp) else RSpre s c) ∗ OW c l')
      ⊢ iprop(((Sent s c ∗ OW c l) -∗ wp frame (wpE (defs₀ (F := F)) 𝒱₀ (c : Thread nD τ) none) Set.univ R Q)
        -∗ wp frame (wpE (defs₀ (F := F)) 𝒱₀ (c : Thread nD τ) none) Set.univ
          (@dite _ C dC' (fun h => .op (.enqueueDma ((rsS.slice (Rect.unit (o h) S1x128x1024.size (hi h)) (h1 h)).squeeze S128x1024 (hq h))
            (.remote (Dev.tc (n h)) ((rsR.slice (Rect.unit (o' h) S1x128x1024.size (hi' h)) (h1' h)).squeeze S128x1024 (hq' h)) (.dma (sS h)) (hsc h)) (.dma (sR h)) (hw h) (hw' h) (ht h))
            fun _ => R) (fun _ => R)) Q) := by
  subst hl
  by_cases h : owner s = c
  · rw [dif_neg (fun hc => hC.mp hc h), if_pos h, Sent, if_pos h, rsL, if_pos h]
    iintro ⟨-, -, H, -, HO⟩ Hk
    iapply Hk
    isplitl [H]; · iapply (Has.any rsS (r8 s) c fullShare X); iexact H
    iexact HO
  · rw [dif_pos (hC.mpr h), if_neg h, Sent, if_neg h, RSpre, if_neg h, rsL, if_neg h]
    iintro ⟨#HI, #HR, H, ⟨#Hr, Ht, Hd⟩, HO⟩ Hk
    iapply (send_rs PV (RV PV PO) K s c h l X hX (hn _) (ho _) (ho' _) (hS _) (hR _)) $$ [H Ht Hd HO]
    · isplitr; · iexact HI
      isplitr; · iexact HR
      isplitr; · iexact Hr
      isplitl [Ht]; · iexact Ht
      isplitl [H]; · iexact H
      isplitl [Hd]; · iexact Hd
      iexact HO
    iexact Hk

/-- The owner forms chunk `s`'s sum and spreads it. -/
theorem reduce_if (K : GSem nD τ sig → ℕ) (s : Fin 8) (c : Dev nD) {C : Prop} {dC' : Decidable C} (hC : C ↔ owner s = c)
    (l l' : List (GSem nD τ sig)) (hl : l' = agL s c ++ l) (hlv : owner s = c → ∀ o : Fin 3, ∀ g ∈ l', g.1.2 = .tc ∧ lv (dC 1 (at4 (par s) o) c) () < lv g ())
    {f : Vec F S1x128x1024 .f32 → Vec F S1x128x1024 .bf16 → Vec F S1x128x1024 .bf16 → Vec F S1x128x1024 .bf16 → FVec F S128x1024 .f32} (hf : f = redF)
    {g : Vec F S1x128x1024 .f32 → Vec F S1x128x1024 .bf16 → Vec F S1x128x1024 .bf16 → Vec F S1x128x1024 .bf16 → FVec F S1x128x1024 .bf16} (hg : g = redB)
    {Q : α → sProp 𝕄}
    {w0 w1 w2 : C → DmaSem sig} (hw0 : ∀ h, w0 h = dsem 1 (at4 (par s) 0)) (hw1 : ∀ h, w1 h = dsem 1 (at4 (par s) 1)) (hw2 : ∀ h, w2 h = dsem 1 (at4 (par s) 2))
    {a0 a1 a2 b0 b1 b2 : C → Memref sig .tc .vmem S128x1024 .bf16}
    (hN0 : ∀ h, (b0 h).view.dmaCredit = N) (hN1 : ∀ h, (b1 h).view.dmaCredit = N) (hN2 : ∀ h, (b2 h).view.dmaCredit = N)
    {ha0 : ∀ h, (a0 h).view.WordExact} {ha1 : ∀ h, (a1 h).view.WordExact} {ha2 : ∀ h, (a2 h).view.WordExact}
    {hb0 : ∀ h, (b0 h).view.WordExact} {hb1 : ∀ h, (b1 h).view.WordExact} {hb2 : ∀ h, (b2 h).view.WordExact}
    {hlo : C → owM.view.LoadsAt (r2 (par s)).toLoadRect}
    {hl0 : C → rsR.view.LoadsAt (r8 (at4 (par s) 0)).toLoadRect} {hl1 : C → rsR.view.LoadsAt (r8 (at4 (par s) 1)).toLoadRect} {hl2 : C → rsR.view.LoadsAt (r8 (at4 (par s) 2)).toLoadRect}
    {hlO : C → outM.view.LoadsAt (rO s).toLoadRect} {hxO : C → (outM.access (rO s)).Stores Finset.univ}
    {hmO : C → ((Finset.univ : Finset (rO s).shape.Idx) = Finset.univ ∨ ∀ a, (rO s).stride a = 1)}
    {hlS : C → agS.view.LoadsAt (r2 (par s)).toLoadRect} {hxS : C → (agS.access (r2 (par s))).Stores Finset.univ}
    {hmS : C → ((Finset.univ : Finset (r2 (par s)).shape.Idx) = Finset.univ ∨ ∀ a, (r2 (par s)).stride a = 1)}
    {n0 n1 n2 : C → Dev nD} (hn0 : ∀ h, n0 h = peer c 0) (hn1 : ∀ h, n1 h = peer c 1) (hn2 : ∀ h, n2 h = peer c 2)
    {sS0 sS1 sS2 sR0 sR1 sR2 : C → DmaSem sig} (hS0 : ∀ h, sS0 h = dsem 2 (at4 (par s) 0)) (hS1 : ∀ h, sS1 h = dsem 2 (at4 (par s) 1))
    (hS2 : ∀ h, sS2 h = dsem 2 (at4 (par s) 2)) (hR0 : ∀ h, sR0 h = dsem 3 s) (hR1 : ∀ h, sR1 h = dsem 3 s) (hR2 : ∀ h, sR2 h = dsem 3 s)
    {hsc0 : C → (sumDst s).view.ref.isScScratch = false} {hs0 : C → (sumSrc s).view.WordExact} {hd0 : C → (sumDst s).view.WordExact}
    {ht0 : ∀ h, DmaTarget.Typed (.core .vmem) (.dma (sR0 h)) (.remote (Dev.tc (n0 h)) (sumDst s) (.dma (sS0 h)) (hsc0 h))}
    {hsc1 : C → (sumDst s).view.ref.isScScratch = false} {hs1 : C → (sumSrc s).view.WordExact} {hd1 : C → (sumDst s).view.WordExact}
    {ht1 : ∀ h, DmaTarget.Typed (.core .vmem) (.dma (sR1 h)) (.remote (Dev.tc (n1 h)) (sumDst s) (.dma (sS1 h)) (hsc1 h))}
    {hsc2 : C → (sumDst s).view.ref.isScScratch = false} {hs2 : C → (sumSrc s).view.WordExact} {hd2 : C → (sumDst s).view.WordExact}
    {ht2 : ∀ h, DmaTarget.Typed (.core .vmem) (.dma (sR2 h)) (.remote (Dev.tc (n2 h)) (sumDst s) (.dma (sS2 h)) (hsc2 h))}
    {R : Prog (TpuEff nD τ sig (Elt F) Λ₀ .tc) α} :
    iprop(Inv PV (RV PV PO) K ∗ levAts L lv ∗ Rch c ∗ OwnMid s c (PO c s) ∗ REDpre s c ∗ Any outM (rO s) c fullShare ∗ OW c l')
      ⊢ iprop(((REDpost s c ∗ OutMid PV PO s c ∗ OW c l) -∗ wp frame (wpE (defs₀ (F := F)) 𝒱₀ (c : Thread nD τ) none) Set.univ R Q)
        -∗ wp frame (wpE (defs₀ (F := F)) 𝒱₀ (c : Thread nD τ) none) Set.univ
          (@dite _ C dC' (fun h =>
            .op (.waitDma2 (w0 h) (a0 h) (b0 h) (ha0 h) (hb0 h)) fun _ => .op (.waitDma2 (w1 h) (a1 h) (b1 h) (ha1 h) (hb1 h)) fun _ =>
            .op (.waitDma2 (w2 h) (a2 h) (b2 h) (ha2 h) (hb2 h)) fun _ =>
            .op (.load owM (r2 (par s)).toLoadRect (hlo h)) fun x0 => .op (.load rsR (r8 (at4 (par s) 0)).toLoadRect (hl0 h)) fun x1 =>
            .op (.load rsR (r8 (at4 (par s) 1)).toLoadRect (hl1 h)) fun x2 => .op (.load rsR (r8 (at4 (par s) 2)).toLoadRect (hl2 h)) fun x3 =>
            .op (.load outM (rO s).toLoadRect (hlO h)) fun _ => .op (.store outM (rO s) (f x0 x1 x2 x3) Finset.univ (hxO h) (hmO h)) fun _ =>
            .op (.load agS (r2 (par s)).toLoadRect (hlS h)) fun _ => .op (.store agS (r2 (par s)) (g x0 x1 x2 x3) Finset.univ (hxS h) (hmS h)) fun _ =>
            .op (.enqueueDma (sumSrc s) (.remote (Dev.tc (n0 h)) (sumDst s) (.dma (sS0 h)) (hsc0 h)) (.dma (sR0 h)) (hs0 h) (hd0 h) (ht0 h)) fun _ =>
            .op (.enqueueDma (sumSrc s) (.remote (Dev.tc (n1 h)) (sumDst s) (.dma (sS1 h)) (hsc1 h)) (.dma (sR1 h)) (hs1 h) (hd1 h) (ht1 h)) fun _ =>
            .op (.enqueueDma (sumSrc s) (.remote (Dev.tc (n2 h)) (sumDst s) (.dma (sS2 h)) (hsc2 h)) (.dma (sR2 h)) (hs2 h) (hd2 h) (ht2 h)) fun _ =>
            R) (fun _ => R)) Q) := by
  subst hl hf hg
  by_cases h : owner s = c
  · have hc := hC.mpr h
    rw [dif_pos hc, OwnMid, if_pos h, REDpre, if_pos h, REDpost, if_pos h, OutMid, if_pos h]
    have hu : ∀ o, used c 1 (at4 (par s) o) := fun o => Or.inr (Or.inl ⟨rfl, at4_used _ _⟩)
    have hpay : ∀ o, (dPay PV (RV PV PO) 1 (at4 (par s) o) c : sProp 𝕄) = Has rsR (r8 (at4 (par s) o)) c fullShare (PV (rsFrom (owner s) (at4 (par s) o)) s) := by
      intro o
      show Has rsR (r8 (at4 (par s) o)) c fullShare (PV (rsFrom c (at4 (par s) o)) (own c (half (at4 (par s) o)))) = _
      rw [half_at4, ← h, own_par]
    unfold Claim AGtok
    iintro ⟨#HI, #Hlev, #HR, Ho, ⟨⟨Hc0, Ha0⟩, ⟨Hc1, Ha1⟩, ⟨Hc2, Ha2⟩, HS, ⟨#Hr0, Ht0, Hd0⟩, ⟨#Hr1, Ht1, Hd1⟩, ⟨#Hr2, Ht2, Hd2⟩⟩, HU, HO⟩ Hk
    iapply (wait_cell PV (RV PV PO) K 1 (at4 (par s) 0) c (hu 0) _ (hlv h 0) (hw0 hc) (hN0 hc)) $$ [Hc0 Ha0 HO]
    · isplitr; · iexact HI
      isplitr; · iexact Hlev
      isplitl [Hc0]; · iexact Hc0
      isplitl [HO]; · iexact HO
      iexact Ha0
    rw [hpay]
    iintro ⟨HO, Ha0, Hp0⟩
    iapply (wait_cell PV (RV PV PO) K 1 (at4 (par s) 1) c (hu 1) _ (hlv h 1) (hw1 hc) (hN1 hc)) $$ [Hc1 Ha1 HO]
    · isplitr; · iexact HI
      isplitr; · iexact Hlev
      isplitl [Hc1]; · iexact Hc1
      isplitl [HO]; · iexact HO
      iexact Ha1
    rw [hpay]
    iintro ⟨HO, Ha1, Hp1⟩
    iapply (wait_cell PV (RV PV PO) K 1 (at4 (par s) 2) c (hu 2) _ (hlv h 2) (hw2 hc) (hN2 hc)) $$ [Hc2 Ha2 HO]
    · isplitr; · iexact HI
      isplitr; · iexact Hlev
      isplitl [Hc2]; · iexact Hc2
      isplitl [HO]; · iexact HO
      iexact Ha2
    rw [hpay]
    iintro ⟨HO, Ha2, Hp2⟩
    iapply load_has $$ Ho
    iintro Ho
    iapply load_has $$ Hp0
    iintro Hp0
    iapply load_has $$ Hp1
    iintro Hp1
    iapply load_has $$ Hp2
    iintro Hp2
    iapply load_any $$ HU
    iintro %XU HU
    iapply store_any $$ HU
    iintro HU
    iapply load_any $$ HS
    iintro %XS HS
    iapply store_any $$ HS
    iintro HS
    have hRV : redB (PO c s) (PV (rsFrom (owner s) (at4 (par s) 0)) s) (PV (rsFrom (owner s) (at4 (par s) 1)) s) (PV (rsFrom (owner s) (at4 (par s) 2)) s) = RV PV PO s := by
      rw [RV, h]
    have hOV : redF (PO c s) (PV (rsFrom (owner s) (at4 (par s) 0)) s) (PV (rsFrom (owner s) (at4 (par s) 1)) s) (PV (rsFrom (owner s) (at4 (par s) 2)) s) = outV PV PO c s := by
      rw [outV, if_pos h, OV, h]
    rw [hRV, hOV]
    ihave HS := (has_deal (r2 (par s)) c (RV PV PO s)) $$ HS
    icases HS with ⟨HS0, HS1, HS2⟩
    rw [agL, if_pos h]
    iapply (send_ag PV (RV PV PO) K s c h 0 _ _ rfl (hq := squeezes_S1x128x1024_S128x1024) (hq' := squeezes_S1x128x1024_S128x1024) (hn0 hc) rfl rfl (hS0 hc) (hR0 hc)) $$ [Ht0 HS0 Hd0 HO]
    · isplitr; · iexact HI
      isplitr; · iexact HR
      isplitr; · iexact Hr0
      isplitl [Ht0]; · iexact Ht0
      isplitl [HS0]; · iexact HS0
      isplitl [Hd0]; · iexact Hd0
      iexact HO
    iintro ⟨Hc0, HO⟩
    iapply (send_ag PV (RV PV PO) K s c h 1 _ _ rfl (hq := squeezes_S1x128x1024_S128x1024) (hq' := squeezes_S1x128x1024_S128x1024) (hn1 hc) rfl rfl (hS1 hc) (hR1 hc)) $$ [Ht1 HS1 Hd1 HO]
    · isplitr; · iexact HI
      isplitr; · iexact HR
      isplitr; · iexact Hr1
      isplitl [Ht1]; · iexact Ht1
      isplitl [HS1]; · iexact HS1
      isplitl [Hd1]; · iexact Hd1
      iexact HO
    iintro ⟨Hc1, HO⟩
    iapply (send_ag PV (RV PV PO) K s c h 2 _ _ rfl (hq := squeezes_S1x128x1024_S128x1024) (hq' := squeezes_S1x128x1024_S128x1024) (hn2 hc) rfl rfl (hS2 hc) (hR2 hc)) $$ [Ht2 HS2 Hd2 HO]
    · isplitr; · iexact HI
      isplitr; · iexact HR
      isplitr; · iexact Hr2
      isplitl [Ht2]; · iexact Ht2
      isplitl [HS2]; · iexact HS2
      isplitl [Hd2]; · iexact Hd2
      iexact HO
    iintro ⟨Hc2, HO⟩
    iapply Hk
    isplitr [HU HO]
    · isplitl [Ha0 Hp0 Ha1 Hp1 Ha2 Hp2]
      · unfold Got
        isplitl [Ha0 Hp0]
        · isplitl [Ha0]; · iapply (DN.of_one 1 (at4 (par s) 0) c); iexact Ha0
          iapply Has.any; iexact Hp0
        isplitl [Ha1 Hp1]
        · isplitl [Ha1]; · iapply (DN.of_one 1 (at4 (par s) 1) c); iexact Ha1
          iapply Has.any; iexact Hp1
        isplitl [Ha2]; · iapply (DN.of_one 1 (at4 (par s) 2) c); iexact Ha2
        iapply Has.any; iexact Hp2
      isplitl [Ho]; · iapply Has.any; iexact Ho
      isplitl [Hc0]; · iexact Hc0
      isplitl [Hc1]; · iexact Hc1
      iexact Hc2
    isplitl [HU]; · iexact HU
    iexact HO
  · rw [dif_neg (fun hc => h (hC.mp hc)), REDpost, if_neg h, OutMid, if_neg h, agL, if_neg h]
    iintro ⟨-, -, -, -, -, HU, HO⟩ Hk
    iapply Hk
    isplitr; · iempintro
    isplitl [HU]; · iexact HU
    iexact HO

/-- A device takes in the sum of a chunk it does not own. -/
theorem recv_if (K : GSem nD τ sig → ℕ) (s : Fin 8) (c : Dev nD) {C : Prop} {dC' : Decidable C} (hC : C ↔ owner s ≠ c)
    {f : Vec F S1x128x1024 .bf16 → FVec F S128x1024 .f32} (hf : f = wide) {Q : α → sProp 𝕄}
    {w : C → DmaSem sig} (hw : ∀ h, w h = dsem 3 s) {a b : C → Memref sig .tc .vmem S128x1024 .bf16} (hN : ∀ h, (b h).view.dmaCredit = N)
    {ha : ∀ h, (a h).view.WordExact} {hb : ∀ h, (b h).view.WordExact} {hl : C → agR.view.LoadsAt (r8 s).toLoadRect}
    {hlO : C → outM.view.LoadsAt (rO s).toLoadRect} {hxO : C → (outM.access (rO s)).Stores Finset.univ}
    {hmO : C → ((Finset.univ : Finset (rO s).shape.Idx) = Finset.univ ∨ ∀ a, (rO s).stride a = 1)}
    {R : Prog (TpuEff nD τ sig (Elt F) Λ₀ .tc) α} :
    iprop(Inv PV (RV PV PO) K ∗ levAts L lv ∗ INpre s c ∗ OutMid PV PO s c ∗ OW c [])
      ⊢ iprop(((INpost s c ∗ Has outM (rO s) c fullShare (outV PV PO c s) ∗ OW c []) -∗ wp frame (wpE (defs₀ (F := F)) 𝒱₀ (c : Thread nD τ) none) Set.univ R Q)
        -∗ wp frame (wpE (defs₀ (F := F)) 𝒱₀ (c : Thread nD τ) none) Set.univ
          (@dite _ C dC' (fun h => .op (.waitDma2 (w h) (a h) (b h) (ha h) (hb h)) fun _ => .op (.load agR (r8 s).toLoadRect (hl h)) fun x =>
            .op (.load outM (rO s).toLoadRect (hlO h)) fun _ => .op (.store outM (rO s) (f x) Finset.univ (hxO h) (hmO h)) fun _ => R) (fun _ => R)) Q) := by
  subst hf
  by_cases h : owner s = c
  · rw [dif_neg (fun hc => hC.mp hc h), INpost, if_pos h, OutMid, if_pos h]
    iintro ⟨-, -, -, HU, HO⟩ Hk
    iapply Hk
    isplitr; · iempintro
    isplitl [HU]; · iexact HU
    iexact HO
  · have hc := hC.mpr h
    rw [dif_pos hc, INpost, if_neg h, INpre, if_neg h, OutMid, if_neg h]
    unfold Claim
    iintro ⟨#HI, #Hlev, ⟨Hc, Ha⟩, HU, HO⟩ Hk
    iapply (wait_cell PV (RV PV PO) K 3 s c (Or.inr (Or.inr (Or.inr ⟨rfl, h⟩))) [] (fun _ hg => absurd hg List.not_mem_nil) (hw hc) (hN hc)) $$ [Hc Ha HO]
    · isplitr; · iexact HI
      isplitr; · iexact Hlev
      isplitl [Hc]; · iexact Hc
      isplitl [HO]; · iexact HO
      iexact Ha
    iintro ⟨HO, Ha, Hp⟩
    ihave Hp := (show (dPay PV (RV PV PO) 3 s c : sProp 𝕄) ⊢ Has agR (r8 s) c fullShare (RV PV PO s) from Entails.refl _) $$ Hp
    iapply load_has $$ Hp
    iintro Hp
    iapply load_any $$ HU
    iintro %XU HU
    iapply store_any $$ HU
    iintro HU
    iapply Hk
    isplitl [Ha Hp]
    · isplitl [Ha]; · iapply (DN.of_one 3 s c); iexact Ha
      iapply Has.any; iexact Hp
    isplitl [HU]; · rw [outV, if_neg h]; iexact HU
    iexact HO

/-- A device waits for the departure of a partial product it sent. -/
theorem rs_wait_if (K : GSem nD τ sig → ℕ) (s : Fin 8) (c : Dev nD) {C : Prop} {dC' : Decidable C} (hC : C ↔ owner s ≠ c) {Q : α → sProp 𝕄}
    {w : C → DmaSem sig} (hw : ∀ h, w h = dsem 0 s) {a b : C → Memref sig .tc .vmem S128x1024 .bf16} (hN : ∀ h, (b h).view.dmaCredit = N)
    {ha : ∀ h, (a h).view.WordExact} {hb : ∀ h, (b h).view.WordExact} {R : Prog (TpuEff nD τ sig (Elt F) Λ₀ .tc) α} :
    iprop(Inv PV (RV PV PO) K ∗ levAts L lv ∗ Sent s c ∗ atPos ER (dC 0 s c) 0 ∅ 0 ∗ OW c [])
      ⊢ iprop(((DN 0 s c ∗ Any rsS (r8 s) c fullShare ∗ OW c []) -∗ wp frame (wpE (defs₀ (F := F)) 𝒱₀ (c : Thread nD τ) none) Set.univ R Q)
        -∗ wp frame (wpE (defs₀ (F := F)) 𝒱₀ (c : Thread nD τ) none) Set.univ
          (@dite _ C dC' (fun h => .op (.waitDma2 (w h) (a h) (b h) (ha h) (hb h)) fun _ => R) (fun _ => R)) Q) := by
  by_cases h : owner s = c
  · rw [dif_neg (fun hc => hC.mp hc h), Sent, if_pos h]
    iintro ⟨-, -, Hs, Ha, HO⟩ Hk
    iapply Hk
    isplitl [Ha]
    · iapply (DN.of_unused 0 s c (by simp [used, h])); iexact Ha
    isplitl [Hs]; · iexact Hs
    iexact HO
  · have hc := hC.mpr h
    rw [dif_pos hc, Sent, if_neg h]
    iintro ⟨#HI, #Hlev, Hc, Ha, HO⟩ Hk
    iapply (wait_cell PV (RV PV PO) K 0 s c (Or.inl ⟨rfl, h⟩) [] (fun _ hg => absurd hg List.not_mem_nil) (hw hc) (hN hc)) $$ [Hc Ha HO]
    · isplitr; · iexact HI
      isplitr; · iexact Hlev
      isplitl [Hc]; · iexact Hc
      isplitl [HO]; · iexact HO
      iexact Ha
    iintro ⟨HO, Ha, Hp⟩
    ihave Hp := (show (dPay PV (RV PV PO) 0 s c : sProp 𝕄) ⊢ Any rsS (r8 s) c fullShare from Entails.refl _) $$ Hp
    iapply Hk
    isplitl [Ha]; · iapply (DN.of_one 0 s c); iexact Ha
    isplitl [Hp]; · iexact Hp
    iexact HO

end Pieces

end Cert.KernelIdeal.Talk
-- ==== Proof.Vals.lean ====
module

public import proofs.«01_k».proof.Proof.Tails

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The values the body computes, once for all eight row chunks

Row chunk `s` attends to the first `128 (s + 1)` positions; everything below is the body's own arithmetic with `s` and the
head `h` as variables. -/

/-- Keys and values seen by chunk `s`, and its score matrix. -/
abbrev shK (s : Fin 8) : Shape := ⟨2, ![128 * (s.val + 1), 128]⟩
abbrev shW (s : Fin 8) : Shape := ⟨2, ![128, 128 * (s.val + 1)]⟩

theorem slK (s h : Fin 8) : S1024x1024.Slices ![0, 128 * h.val] (shK s) := by revert s h; decide
theorem redW (s : Fin 8) : (shW s).Reduces [1] S128 := by revert s; decide
theorem iota0 (s : Fin 8) : (shW s).Iotas .tc 32 [0] := by revert s; decide
theorem iota1 (s : Fin 8) : (shW s).Iotas .tc 32 [1] := by revert s; decide

/-- Division by 64 rounding down, as the body spells it. -/
def fdiv64 {n : Shape} (x : IVec n 32) : IVec n 32 :=
  select (andi (cmpi .ne (subi (extui 32 (cmpi .sgt x (broadcast n 0#32)) natLt_1_32) (extui 32 (cmpi .slt x (broadcast n 0#32)) natLt_1_32))
      (broadcast n (Scalar.subi (Scalar.extui (Scalar.cmpi .sgt 64#32 0#32)) (Scalar.extui (Scalar.cmpi .slt 64#32 0#32)))))
    (cmpi .ne (remsi x (broadcast n 64#32)) (broadcast n 0#32)))
    (subi (divsi x (broadcast n 64#32)) (broadcast n 1#32)) (divsi x (broadcast n 64#32))
/-- The additive mask of chunk `s`: nothing where the key's block is at most the query's, the named constant elsewhere. -/
def negV (s : Fin 8) : FVec F (shW s) .f32 :=
  select (cmpi .sle (fdiv64 (iota .tc (shW s) 32 [1] (iota1 s)))
      (fdiv64 (addi (broadcast (shW s) (BitVec.ofNat 32 (128 * s.val))) (iota .tc (shW s) 32 [0] (iota0 s)))))
    (broadcast (shW s) (Scalar.ofBits .f32 0x00000000#32)) (broadcast (shW s) (Named.named κ "mask" 0xCE6E6B28#32))
/-- The weights of one head over chunk `s`, before they are normalised. -/
def expV (s h : Fin 8) (k : FVec F S1024x1024 .bf16) (q : FVec F S128x128 .bf16) : FVec F (shW s) .f32 :=
  exp (addf (matmul (DotDims.transposedRhs 128 128 (128 * (s.val + 1))) none q (extractStridedSlice (shK s) ![0, 128 * h.val] k (slK s h))
    (constant (shW s) .f32 0x00000000#32)) (negV s))
/-- One head's context over chunk `s`. -/
def headV (s h : Fin 8) (k v : FVec F S1024x1024 .bf16) (q : FVec F S128x128 .bf16) : FVec F S128x128 .bf16 :=
  shapeCast S128x128 (truncf .bf16 (divf (matmul (DotDims.plain 128 (128 * (s.val + 1)) 128) none (truncf .bf16 (expV s h k q) bitsLt_bf16_f32)
      (extractStridedSlice (shK s) ![0, 128 * h.val] v (slK s h)) (constant S128x128 .f32 0x00000000#32))
    (broadcastTo S128x128 (shapeCast S128x1 (multiReduction .add [1] S128 (expV s h k q) 0x00000000#32 (redW s) (.inl rfl) rfl) shapeCasts_S128_S128x1)
      broadcasts_S128x1_S128x128)) bitsLt_bf16_f32) shapeCasts_S128x128_S128x128

theorem inbQ (s h : Fin 8) : ∀ a, (![128 * s.val, 128 * h.val] : Fin 2 → ℕ) a + S128x128.size a ≤ S1024x1024.size a := by revert s h; decide
theorem inbC (h : Fin 8) : ∀ a, (![0, 128 * h.val] : Fin 2 → ℕ) a + S128x128.size a ≤ S128x1024.size a := by revert h; decide
theorem inbCW : ∀ a, (![0, 0] : Fin 2 → ℕ) a + S128x1024.size a ≤ S128x1024.size a := by decide
abbrev rQ (s h : Fin 8) : Rect S1024x1024 := Rect.unit (s := S1024x1024) ![128 * s.val, 128 * h.val] S128x128.size (inbQ s h)
abbrev rC (h : Fin 8) : Rect S128x1024 := Rect.unit (s := S128x1024) ![0, 128 * h.val] S128x128.size (inbC h)
abbrev rCW : Rect S128x1024 := Rect.unit (s := S128x1024) ![0, 0] S128x1024.size inbCW

/-- Chunk `s` of one head's queries. -/
def qAt (q : FVec F S1024x1024 .bf16) (s h : Fin 8) : FVec F S128x128 .bf16 := fun j => q ((rQ s h).emb j)
theorem qAt_eq (c : Dev nD) (q : FVec F S1024x1024 .bf16) (s h : Fin 8) :
    View.readAt (Elt F) qM.view (rQ s h).toLoadRect (show Buf (Elt F) (qM.view.loc (c : Thread nD τ)) from q) = qAt q s h := rfl

/-- Eight heads' contexts side by side, as the body stores and then loads them. -/
def ctxCols (f : Fin 8 → FVec F S128x128 .bf16) : FVec F S128x1024 .bf16 :=
  ctM.view.readCov (Val := Elt F) [⟨rC 7, f 7⟩, ⟨rC 6, f 6⟩, ⟨rC 5, f 5⟩, ⟨rC 4, f 4⟩, ⟨rC 3, f 3⟩, ⟨rC 2, f 2⟩, ⟨rC 1, f 1⟩, ⟨rC 0, f 0⟩] rCW.toLoadRect

/-- A device's partial product for chunk `s`. -/
def partV (s : Fin 8) (k v wo q : FVec F S1024x1024 .bf16) : FVec F S128x1024 .f32 :=
  matmul (DotDims.plain 128 1024 1024) none (ctxCols fun h => headV s h k v (qAt q s h)) wo (constant S128x1024 .f32 0x00000000#32)
def partB (s : Fin 8) (k v wo q : FVec F S1024x1024 .bf16) : FVec F S1x128x1024 .bf16 :=
  shapeCast S1x128x1024 (truncf .bf16 (partV s k v wo q) bitsLt_bf16_f32) shapeCasts_S128x1024_S1x128x1024
def partO (s : Fin 8) (k v wo q : FVec F S1024x1024 .bf16) : FVec F S1x128x1024 .f32 :=
  shapeCast S1x128x1024 (partV s k v wo q) shapeCasts_S128x1024_S1x128x1024

/-- The partial products of all devices, from their keys, values, output weights and queries. -/
abbrev PVi (ki vi woi qi : Dev nD → FVec F S1024x1024 .bf16) : Dev nD → Fin 8 → Vec F S1x128x1024 .bf16 := fun c s => partB s (ki c) (vi c) (woi c) (qi c)
abbrev POi (ki vi woi qi : Dev nD → FVec F S1024x1024 .bf16) : Dev nD → Fin 8 → Vec F S1x128x1024 .f32 := fun c s => partO s (ki c) (vi c) (woi c) (qi c)

/-- A device's own number as the body computes it. -/
def myw (c : Dev nD) : BitVec 32 := Scalar.remsi (Scalar.divsi (Dev.word c) 1#32) 4#32

end Cert.KernelIdeal.Talk
-- ==== Proof.Facts.lean ====
module

public import proofs.«01_k».proof.Proof.Vals

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A program that returns at once. -/
theorem ret_wp {α : Type} {Q : α → sProp 𝕄} (c : Dev nD) (a : α) :
    Q a ⊢ wp frame (wpE (defs₀ (F := F)) 𝒱₀ (c : Thread nD τ) none) Set.univ (Pure.pure a : Prog (TpuEff nD τ sig (Elt F) Λ₀ .tc) α) Q := by
  show Q a ⊢ wp frame _ Set.univ (Prog.ret a) Q
  rw [wp_ret]
  iintro H
  imodintro
  iexact H

/-! ## What the body's conditions, peers and offsets come to on each device -/

/-- The test for owning chunk `s`, and for not owning it, as the body writes them. -/
theorem own_is (s : Fin 8) (c : Dev nD) :
    (Scalar.cmpi .ne (Scalar.extui (Scalar.cmpi .eq (myw c) (BitVec.ofNat 32 (s.val / 2))) : BitVec 32) 0#32 = 1#1) ↔ owner s = c := by revert s c; decide
theorem own_isnt (s : Fin 8) (c : Dev nD) :
    (Scalar.cmpi .ne (Scalar.extui (Scalar.cmpi .ne (myw c) (BitVec.ofNat 32 (s.val / 2))) : BitVec 32) 0#32 = 1#1) ↔ owner s ≠ c := by revert s c; decide

/-- The semaphore at one place, the place given by its number. -/
theorem sem_at' (a : Fin 4) (k : Fin 8) {h : 6 + 8 * a.val + S8.numel ≤ 38} {off : Fin 1 → ℕ} (ho : off 0 = k.val) {hi : ∀ a, off a + S1.size a ≤ S8.size a}
    {hq : S1.Squeezes S_} :
    (((SemArray.consecutive (6 + 8 * a.val) S8 h : DmaSems sig S8).slice (Rect.unit off S1.size hi)).squeeze S_ hq).sem = dsem a k :=
  sem_at a k (funext fun i => by rw [Subsingleton.elim i 0]; exact ho)

/-! Sending a partial product: the test, the owner, the slot and the cell there. -/

theorem snd0 (c : Dev nD) : k0_cond2 c = 1#1 ↔ owner 0 ≠ c := by revert c; decide
theorem snd0d (c : Dev nD) (h : k0_cond2 c = 1#1) : (⟨k0_dev4, k0_dev4_lt c h⟩ : Dev nD) = owner 0 := by revert c; decide
theorem snd0o (c : Dev nD) (h : k0_cond2 c = 1#1) : k0_off2 c = ![(rsl 0 c).val, 0, 0] := by revert c; decide
theorem snd0s (c : Dev nD) (h : k0_cond2 c = 1#1) : k0_off1 c = ![(rsl 0 c).val] := by revert c; decide
theorem snd1 (c : Dev nD) : k0_cond4 c = 1#1 ↔ owner 1 ≠ c := by revert c; decide
theorem snd1d (c : Dev nD) (h : k0_cond4 c = 1#1) : (⟨k0_dev5, k0_dev5_lt c h⟩ : Dev nD) = owner 1 := by revert c; decide
theorem snd1o (c : Dev nD) (h : k0_cond4 c = 1#1) : k0_off4 c = ![(rsl 1 c).val, 0, 0] := by revert c; decide
theorem snd1s (c : Dev nD) (h : k0_cond4 c = 1#1) : k0_off3 c = ![(rsl 1 c).val] := by revert c; decide
theorem snd2 (c : Dev nD) : k0_cond6 c = 1#1 ↔ owner 2 ≠ c := by revert c; decide
theorem snd2d (c : Dev nD) (h : k0_cond6 c = 1#1) : (⟨k0_dev6, k0_dev6_lt c h⟩ : Dev nD) = owner 2 := by revert c; decide
theorem snd2o (c : Dev nD) (h : k0_cond6 c = 1#1) : k0_off6 c = ![(rsl 2 c).val, 0, 0] := by revert c; decide
theorem snd2s (c : Dev nD) (h : k0_cond6 c = 1#1) : k0_off5 c = ![(rsl 2 c).val] := by revert c; decide
theorem snd3 (c : Dev nD) : k0_cond9 c = 1#1 ↔ owner 3 ≠ c := by revert c; decide
theorem snd3d (c : Dev nD) (h : k0_cond9 c = 1#1) : (⟨k0_dev10, k0_dev10_lt c h⟩ : Dev nD) = owner 3 := by revert c; decide
theorem snd3o (c : Dev nD) (h : k0_cond9 c = 1#1) : k0_off8 c = ![(rsl 3 c).val, 0, 0] := by revert c; decide
theorem snd3s (c : Dev nD) (h : k0_cond9 c = 1#1) : k0_off7 c = ![(rsl 3 c).val] := by revert c; decide
theorem snd4 (c : Dev nD) : k0_cond12 c = 1#1 ↔ owner 4 ≠ c := by revert c; decide
theorem snd4d (c : Dev nD) (h : k0_cond12 c = 1#1) : (⟨k0_dev14, k0_dev14_lt c h⟩ : Dev nD) = owner 4 := by revert c; decide
theorem snd4o (c : Dev nD) (h : k0_cond12 c = 1#1) : k0_off10 c = ![(rsl 4 c).val, 0, 0] := by revert c; decide
theorem snd4s (c : Dev nD) (h : k0_cond12 c = 1#1) : k0_off9 c = ![(rsl 4 c).val] := by revert c; decide
theorem snd5 (c : Dev nD) : k0_cond15 c = 1#1 ↔ owner 5 ≠ c := by revert c; decide
theorem snd5d (c : Dev nD) (h : k0_cond15 c = 1#1) : (⟨k0_dev18, k0_dev18_lt c h⟩ : Dev nD) = owner 5 := by revert c; decide
theorem snd5o (c : Dev nD) (h : k0_cond15 c = 1#1) : k0_off12 c = ![(rsl 5 c).val, 0, 0] := by revert c; decide
theorem snd5s (c : Dev nD) (h : k0_cond15 c = 1#1) : k0_off11 c = ![(rsl 5 c).val] := by revert c; decide
theorem snd6 (c : Dev nD) : k0_cond18 c = 1#1 ↔ owner 6 ≠ c := by revert c; decide
theorem snd6d (c : Dev nD) (h : k0_cond18 c = 1#1) : (⟨k0_dev22, k0_dev22_lt c h⟩ : Dev nD) = owner 6 := by revert c; decide
theorem snd6o (c : Dev nD) (h : k0_cond18 c = 1#1) : k0_off14 c = ![(rsl 6 c).val, 0, 0] := by revert c; decide
theorem snd6s (c : Dev nD) (h : k0_cond18 c = 1#1) : k0_off13 c = ![(rsl 6 c).val] := by revert c; decide
theorem snd7 (c : Dev nD) : k0_cond21 c = 1#1 ↔ owner 7 ≠ c := by revert c; decide
theorem snd7d (c : Dev nD) (h : k0_cond21 c = 1#1) : (⟨k0_dev26, k0_dev26_lt c h⟩ : Dev nD) = owner 7 := by revert c; decide
theorem snd7o (c : Dev nD) (h : k0_cond21 c = 1#1) : k0_off16 c = ![(rsl 7 c).val, 0, 0] := by revert c; decide
theorem snd7s (c : Dev nD) (h : k0_cond21 c = 1#1) : k0_off15 c = ![(rsl 7 c).val] := by revert c; decide

/-! Spreading a sum: the test and the three peers. -/

theorem spr0 (c : Dev nD) : k0_cond7 c = 1#1 ↔ owner 0 = c := by revert c; decide
theorem spr0d0 (c : Dev nD) (h : k0_cond7 c = 1#1) : (⟨k0_dev7 c, k0_dev7_lt c h⟩ : Dev nD) = peer c 0 := by revert c; decide
theorem spr0d1 (c : Dev nD) (h : k0_cond7 c = 1#1) : (⟨k0_dev8 c, k0_dev8_lt c h⟩ : Dev nD) = peer c 1 := by revert c; decide
theorem spr0d2 (c : Dev nD) (h : k0_cond7 c = 1#1) : (⟨k0_dev9 c, k0_dev9_lt c h⟩ : Dev nD) = peer c 2 := by revert c; decide
theorem spr1 (c : Dev nD) : k0_cond10 c = 1#1 ↔ owner 1 = c := by revert c; decide
theorem spr1d0 (c : Dev nD) (h : k0_cond10 c = 1#1) : (⟨k0_dev11 c, k0_dev11_lt c h⟩ : Dev nD) = peer c 0 := by revert c; decide
theorem spr1d1 (c : Dev nD) (h : k0_cond10 c = 1#1) : (⟨k0_dev12 c, k0_dev12_lt c h⟩ : Dev nD) = peer c 1 := by revert c; decide
theorem spr1d2 (c : Dev nD) (h : k0_cond10 c = 1#1) : (⟨k0_dev13 c, k0_dev13_lt c h⟩ : Dev nD) = peer c 2 := by revert c; decide
theorem spr2 (c : Dev nD) : k0_cond13 c = 1#1 ↔ owner 2 = c := by revert c; decide
theorem spr2d0 (c : Dev nD) (h : k0_cond13 c = 1#1) : (⟨k0_dev15 c, k0_dev15_lt c h⟩ : Dev nD) = peer c 0 := by revert c; decide
theorem spr2d1 (c : Dev nD) (h : k0_cond13 c = 1#1) : (⟨k0_dev16 c, k0_dev16_lt c h⟩ : Dev nD) = peer c 1 := by revert c; decide
theorem spr2d2 (c : Dev nD) (h : k0_cond13 c = 1#1) : (⟨k0_dev17 c, k0_dev17_lt c h⟩ : Dev nD) = peer c 2 := by revert c; decide
theorem spr3 (c : Dev nD) : k0_cond16 c = 1#1 ↔ owner 3 = c := by revert c; decide
theorem spr3d0 (c : Dev nD) (h : k0_cond16 c = 1#1) : (⟨k0_dev19 c, k0_dev19_lt c h⟩ : Dev nD) = peer c 0 := by revert c; decide
theorem spr3d1 (c : Dev nD) (h : k0_cond16 c = 1#1) : (⟨k0_dev20 c, k0_dev20_lt c h⟩ : Dev nD) = peer c 1 := by revert c; decide
theorem spr3d2 (c : Dev nD) (h : k0_cond16 c = 1#1) : (⟨k0_dev21 c, k0_dev21_lt c h⟩ : Dev nD) = peer c 2 := by revert c; decide
theorem spr4 (c : Dev nD) : k0_cond19 c = 1#1 ↔ owner 4 = c := by revert c; decide
theorem spr4d0 (c : Dev nD) (h : k0_cond19 c = 1#1) : (⟨k0_dev23 c, k0_dev23_lt c h⟩ : Dev nD) = peer c 0 := by revert c; decide
theorem spr4d1 (c : Dev nD) (h : k0_cond19 c = 1#1) : (⟨k0_dev24 c, k0_dev24_lt c h⟩ : Dev nD) = peer c 1 := by revert c; decide
theorem spr4d2 (c : Dev nD) (h : k0_cond19 c = 1#1) : (⟨k0_dev25 c, k0_dev25_lt c h⟩ : Dev nD) = peer c 2 := by revert c; decide
theorem spr5 (c : Dev nD) : k0_cond22 c = 1#1 ↔ owner 5 = c := by revert c; decide
theorem spr5d0 (c : Dev nD) (h : k0_cond22 c = 1#1) : (⟨k0_dev27 c, k0_dev27_lt c h⟩ : Dev nD) = peer c 0 := by revert c; decide
theorem spr5d1 (c : Dev nD) (h : k0_cond22 c = 1#1) : (⟨k0_dev28 c, k0_dev28_lt c h⟩ : Dev nD) = peer c 1 := by revert c; decide
theorem spr5d2 (c : Dev nD) (h : k0_cond22 c = 1#1) : (⟨k0_dev29 c, k0_dev29_lt c h⟩ : Dev nD) = peer c 2 := by revert c; decide
theorem spr6 (c : Dev nD) : k0_cond23 c = 1#1 ↔ owner 6 = c := by revert c; decide
theorem spr6d0 (c : Dev nD) (h : k0_cond23 c = 1#1) : (⟨k0_dev30 c, k0_dev30_lt c h⟩ : Dev nD) = peer c 0 := by revert c; decide
theorem spr6d1 (c : Dev nD) (h : k0_cond23 c = 1#1) : (⟨k0_dev31 c, k0_dev31_lt c h⟩ : Dev nD) = peer c 1 := by revert c; decide
theorem spr6d2 (c : Dev nD) (h : k0_cond23 c = 1#1) : (⟨k0_dev32 c, k0_dev32_lt c h⟩ : Dev nD) = peer c 2 := by revert c; decide
theorem spr7 (c : Dev nD) : k0_cond24 c = 1#1 ↔ owner 7 = c := by revert c; decide
theorem spr7d0 (c : Dev nD) (h : k0_cond24 c = 1#1) : (⟨k0_dev33 c, k0_dev33_lt c h⟩ : Dev nD) = peer c 0 := by revert c; decide
theorem spr7d1 (c : Dev nD) (h : k0_cond24 c = 1#1) : (⟨k0_dev34 c, k0_dev34_lt c h⟩ : Dev nD) = peer c 1 := by revert c; decide
theorem spr7d2 (c : Dev nD) (h : k0_cond24 c = 1#1) : (⟨k0_dev35 c, k0_dev35_lt c h⟩ : Dev nD) = peer c 2 := by revert c; decide

theorem lv_rs (i : Fin 8) (c : Dev nD) : lv (dC 1 i c) () = 2 + (own c (half i)).val := by
  show (match dec (dsem 1 i) with | none => 0 | some (a, i) => if a = 1 then 2 + (own c (half i)).val else if a = 3 then 20 + i.val else 0) = _
  rw [dec_dsem]; rfl
theorem lv_ag (i : Fin 8) (c : Dev nD) : lv (dC 3 i c) () = 20 + i.val := by
  show (match dec (dsem 3 i) with | none => 0 | some (a, i) => if a = 1 then 2 + (own c (half i)).val else if a = 3 then 20 + i.val else 0) = _
  rw [dec_dsem]; rfl
theorem own_at4 (s : Fin 8) (c : Dev nD) (h : owner s = c) (o : Fin 3) : own c (half (at4 (par s) o)) = s := by revert s c o; decide
theorem mem_rsL {s : Fin 8} {c : Dev nD} {g : GSem nD τ sig} (h : g ∈ rsL s c) : g.1.2 = .tc ∧ lv g () = 2 + s.val := by
  unfold rsL at h
  split at h
  · exact absurd h List.not_mem_nil
  · next hs => rw [List.mem_singleton.mp h, lv_rs, own_rsl]; exact ⟨rfl, rfl⟩
theorem mem_agL {s : Fin 8} {c : Dev nD} {g : GSem nD τ sig} (h : g ∈ agL s c) : g.1.2 = .tc ∧ lv g () = 20 + s.val := by
  unfold agL at h
  split at h
  · rcases List.mem_cons.mp h with rfl | h
    · exact ⟨rfl, lv_ag _ _⟩
    rcases List.mem_cons.mp h with rfl | h
    · exact ⟨rfl, lv_ag _ _⟩
    rw [List.mem_singleton.mp h]; exact ⟨rfl, lv_ag _ _⟩
  · exact absurd h List.not_mem_nil
/-- A list of payments all above level `n`. -/
def Above (n : ℕ) (l : List (GSem nD τ sig)) : Prop := ∀ g ∈ l, g.1.2 = .tc ∧ n < lv g ()
theorem Above.nil (n : ℕ) : Above n [] := fun _ h => absurd h List.not_mem_nil
theorem Above.rs {n : ℕ} {l : List (GSem nD τ sig)} (s : Fin 8) (c : Dev nD) (h : n < 2 + s.val) (hl : Above n l) : Above n (rsL s c ++ l) := fun g hg =>
  (List.mem_append.mp hg).elim (fun h' => ⟨(mem_rsL h').1, by rw [(mem_rsL h').2]; exact h⟩) (hl g)
theorem Above.ag {n : ℕ} {l : List (GSem nD τ sig)} (s : Fin 8) (c : Dev nD) (h : n < 20 + s.val) (hl : Above n l) : Above n (agL s c ++ l) := fun g hg =>
  (List.mem_append.mp hg).elim (fun h' => ⟨(mem_agL h').1, by rw [(mem_agL h').2]; exact h⟩) (hl g)
/-- Whoever still owes at that point owes above the arrivals that are waited for. -/
theorem red_lv (s : Fin 8) (c : Dev nD) {l : List (GSem nD τ sig)} (hl : Above (2 + s.val) l) (h : owner s = c) (o : Fin 3) :
    ∀ g ∈ l, g.1.2 = .tc ∧ lv (dC 1 (at4 (par s) o) c) () < lv g () := by
  rw [lv_rs, own_at4 s c h]; exact hl
/-- What is owed after the last partial product is sent. -/
def tailL (c : Dev nD) : List (GSem nD τ sig) := agL 5 c ++ (agL 6 c ++ (agL 7 c ++ []))
theorem above_tail (n : ℕ) (h : n < 25) (c : Dev nD) : Above n (tailL c) := Above.ag 5 c h (Above.ag 6 c (by show n < 26; omega) (Above.ag 7 c (by show n < 27; omega) (Above.nil n)))

end Cert.KernelIdeal.Talk
-- ==== Proof.Hold.lean ====
module

public import proofs.«01_k».proof.Proof.Facts

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # What the steps of the body start from and end with -/

/-- Queries in their scratch, and the scratch the heads are gathered in. -/
def Qc (q : FVec F S1024x1024 .bf16) (c : Dev nD) : sProp 𝕄 := qM.view.loc (c : Thread nD τ) ↦{fullShare} (show Buf (Elt F) (qM.view.loc (c : Thread nD τ)) from q)
def CT (c : Dev nD) : sProp 𝕄 := iprop(∃ f : Buf (Elt F) (ctM.view.loc (c : Thread nD τ)), ctM.view.loc (c : Thread nD τ) ↦{fullShare} f)

/-- What a device works on chunk `s` from, and what it has once the partial product is kept or sent. -/
def Work (q : FVec F S1024x1024 .bf16) (s : Fin 8) (c : Dev nD) (l : List (GSem nD τ sig)) : sProp 𝕄 :=
  iprop(Qc q c ∗ CT c ∗ Any rsS (r8 s) c fullShare ∗ RSpre s c ∗ OW c l)
def Done (PV : Dev nD → Fin 8 → Vec F S1x128x1024 .bf16) (PO : Dev nD → Fin 8 → Vec F S1x128x1024 .f32)
    (q : FVec F S1024x1024 .bf16) (s : Fin 8) (c : Dev nD) (l : List (GSem nD τ sig)) : sProp 𝕄 :=
  iprop(Qc q c ∗ CT c ∗ OwnMid s c (PO c s) ∗ Sent s c ∗ OW c l)
/-- What the sum of chunk `s` is formed from, and what is left of it. -/
def Sum0 (PV : Dev nD → Fin 8 → Vec F S1x128x1024 .bf16) (PO : Dev nD → Fin 8 → Vec F S1x128x1024 .f32) (s : Fin 8) (c : Dev nD) : sProp 𝕄 :=
  iprop(OwnMid s c (PO c s) ∗ REDpre s c ∗ Any outM (rO s) c fullShare)
def Sum1 (PV : Dev nD → Fin 8 → Vec F S1x128x1024 .bf16) (PO : Dev nD → Fin 8 → Vec F S1x128x1024 .f32) (s : Fin 8) (c : Dev nD) : sProp 𝕄 :=
  iprop(REDpost s c ∗ OutMid PV PO s c)
/-- A chunk of the result whose sum arrives, before and after it is taken in. -/
def Recv0 (PV : Dev nD → Fin 8 → Vec F S1x128x1024 .bf16) (PO : Dev nD → Fin 8 → Vec F S1x128x1024 .f32) (s : Fin 8) (c : Dev nD) : sProp 𝕄 :=
  iprop(INpre s c ∗ OutMid PV PO s c)
def Recv1 (PV : Dev nD → Fin 8 → Vec F S1x128x1024 .bf16) (PO : Dev nD → Fin 8 → Vec F S1x128x1024 .f32) (s : Fin 8) (c : Dev nD) : sProp 𝕄 :=
  iprop(INpost s c ∗ Has outM (rO s) c fullShare (outV PV PO c s))

end Cert.KernelIdeal.Talk
-- ==== Proof.Deal.lean ====
module

public import proofs.«01_k».proof.Proof.Hold
public import Idealize.ShloMosaic.Lib.Ring

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # A device's slots, cells and rights, dealt out at the start and gathered at the end -/

/-! ## Buffers as their slots -/

section Slots

variable {sp : Space} {s : Shape} {e : EltTy} {B : Type} [Fintype B] [DecidableEq B]

/-- The elements of slot `b` of device `c`'s buffer. -/
abbrev elems (m : Memref sig .tc sp s e) (r : B → Rect s) (c : Dev nD) (b : B) : Finset (Idx (m.view.loc (c : Thread nD τ))) := (m.access (r b)).set

theorem any_split (m : Memref sig .tc sp s e) (r : B → Rect s) (c : Dev nD)
    (hd : ∀ b b', b ≠ b' → Disjoint (elems m r c b) (elems m r c b'))
    (hc : Finset.univ.biUnion (elems m r c) = Finset.univ) :
    (iprop(∃ f : Buf (Elt F) (m.view.loc (c : Thread nD τ)), m.view.loc (c : Thread nD τ) ↦{fullShare} f) : sProp 𝕄)
      ⊢ bigSep Finset.univ fun b => Any m (r b) c fullShare := by
  iintro ⟨%f, H⟩
  ihave H := (Entails.of_eq (Ring.pointsTo_blocks (ℓ := m.view.loc (c : Thread nD τ)) (elems m r c) hd hc f)) $$ H
  iapply (show (bigSep Finset.univ fun b => (m.view.loc (c : Thread nD τ) ↦[(m.access (r b)).set]{fullShare} f : sProp 𝕄)) ⊢ _ from
    bigSep_mono fun b _ => (show (m.view.loc (c : Thread nD τ) ↦[(m.access (r b)).set]{fullShare} f : sProp 𝕄) ⊢ Any m (r b) c fullShare from by
      unfold Any; iintro H; iexists f; iexact H))
  iexact H

theorem any_join [Nonempty B] (m : Memref sig .tc sp s e) (r : B → Rect s) (c : Dev nD)
    (hd : ∀ b b', b ≠ b' → Disjoint (elems m r c b) (elems m r c b'))
    (hc : Finset.univ.biUnion (elems m r c) = Finset.univ) (f₀ : Buf (Elt F) (m.view.loc (c : Thread nD τ))) :
    (bigSep Finset.univ fun b => (Any m (r b) c fullShare : sProp 𝕄))
      ⊢ iprop(∃ f : Buf (Elt F) (m.view.loc (c : Thread nD τ)), m.view.loc (c : Thread nD τ) ↦{fullShare} f) :=
  Ring.pointsTo_blocks_join_exists (ℓ := m.view.loc (c : Thread nD τ)) (elems m r c) hd hc f₀

theorem has_join (m : Memref sig .tc sp s e) (r : B → Rect s) (c : Dev nD)
    (hd : ∀ b b', b ≠ b' → Disjoint (elems m r c b) (elems m r c b'))
    (hc : Finset.univ.biUnion (elems m r c) = Finset.univ) (f₀ : Buf (Elt F) (m.view.loc (c : Thread nD τ)))
    (X : ∀ b, (r b).shape.Idx → Elt F e) :
    (bigSep Finset.univ fun b => (Has m (r b) c fullShare (X b) : sProp 𝕄))
      ⊢ iprop(∃ f : Buf (Elt F) (m.view.loc (c : Thread nD τ)), ⌜∀ b, (m.access (r b)).read (Elt F) f = X b⌝ ∗ (m.view.loc (c : Thread nD τ) ↦{fullShare} f)) := by
  have : Nonempty (Buf (Elt F) (m.view.loc (c : Thread nD τ))) := ⟨f₀⟩
  unfold Has
  refine (Idealize.SL.BI.bigSep_exists_pi Finset.univ (fun b (f : Buf (Elt F) (m.view.loc (c : Thread nD τ))) =>
    (iprop(⌜(m.access (r b)).read (Elt F) f = X b⌝ ∗ (m.view.loc (c : Thread nD τ) ↦[(m.access (r b)).set]{fullShare} f)) : sProp 𝕄))).trans ?_
  iintro ⟨%fs, H⟩
  ihave H := (BI.bigSep_pure_sep Finset.univ (fun b => (m.access (r b)).read (Elt F) (fs b) = X b)
    (fun b => (m.view.loc (c : Thread nD τ) ↦[(m.access (r b)).set]{fullShare} fs b : sProp 𝕄))) $$ H
  icases H with ⟨%hp, H⟩
  ihave H := (pointsTo_biUnion_join (ℓ := m.view.loc (c : Thread nD τ)) Finset.univ (elems m r c) fs f₀ (fun b _ b' _ h => hd b b' h)) $$ H
  rw [hc]
  icases H with ⟨%g, %hg, H⟩
  iexists g
  isplitr
  · ipureintro
    intro b
    rw [← hp b (Finset.mem_univ b)]
    exact View.read_congr fun i hi => hg b (Finset.mem_univ b) i hi
  iexact H

end Slots

theorem r8_disj (b b' : Fin 8) (h : b ≠ b') : Disjoint (r8 b).set (r8 b').set :=
  Ring.lead_disjoint (s := S8x128x1024) (NB := 8) 0 1 (fun b => ![b.val, 0, 0]) S1x128x1024.size inb8 (fun b => (Nat.one_mul _).symm) rfl b b' h
theorem r8_cover : Finset.univ.biUnion (fun b : Fin 8 => (r8 b).set) = Finset.univ :=
  Ring.lead_cover (s := S8x128x1024) (NB := 8) 0 1 (fun b => ![b.val, 0, 0]) S1x128x1024.size inb8 (fun b => (Nat.one_mul _).symm)
    (fun b a h => by revert b a; decide) rfl (by decide) rfl
theorem r2_disj (b b' : Fin 2) (h : b ≠ b') : Disjoint (r2 b).set (r2 b').set :=
  Ring.lead_disjoint (s := S2x128x1024) (NB := 2) 0 1 (fun b => ![b.val, 0, 0]) S1x128x1024.size inb2 (fun b => (Nat.one_mul _).symm) rfl b b' h
theorem r2_cover : Finset.univ.biUnion (fun b : Fin 2 => (r2 b).set) = Finset.univ :=
  Ring.lead_cover (s := S2x128x1024) (NB := 2) 0 1 (fun b => ![b.val, 0, 0]) S1x128x1024.size inb2 (fun b => (Nat.one_mul _).symm)
    (fun b a h => by revert b a; decide) rfl (by decide) rfl
theorem rO_disj (b b' : Fin 8) (h : b ≠ b') : Disjoint (rO b).set (rO b').set :=
  Ring.lead_disjoint (s := S1024x1024) (NB := 8) 0 128 (fun b => ![128 * b.val, 0]) S128x1024.size inbO (fun b => rfl) rfl b b' h
theorem rO_cover : Finset.univ.biUnion (fun b : Fin 8 => (rO b).set) = Finset.univ :=
  Ring.lead_cover (s := S1024x1024) (NB := 8) 0 128 (fun b => ![128 * b.val, 0]) S128x1024.size inbO (fun b => rfl)
    (fun b a h => by revert b a; decide) rfl (by decide) rfl

theorem el_rsS (c : Dev nD) : (∀ b b', b ≠ b' → Disjoint (elems rsS r8 c b) (elems rsS r8 c b')) ∧ Finset.univ.biUnion (elems rsS r8 c) = Finset.univ :=
  ⟨fun b b' h => by rw [elems, elems, View.set_slice_whole, View.set_slice_whole]; exact r8_disj b b' h,
    (Finset.biUnion_congr rfl fun b _ => View.set_slice_whole _ _).trans r8_cover⟩
theorem el_rsR (c : Dev nD) : (∀ b b', b ≠ b' → Disjoint (elems rsR r8 c b) (elems rsR r8 c b')) ∧ Finset.univ.biUnion (elems rsR r8 c) = Finset.univ :=
  ⟨fun b b' h => by rw [elems, elems, View.set_slice_whole, View.set_slice_whole]; exact r8_disj b b' h,
    (Finset.biUnion_congr rfl fun b _ => View.set_slice_whole _ _).trans r8_cover⟩
theorem el_agR (c : Dev nD) : (∀ b b', b ≠ b' → Disjoint (elems agR r8 c b) (elems agR r8 c b')) ∧ Finset.univ.biUnion (elems agR r8 c) = Finset.univ :=
  ⟨fun b b' h => by rw [elems, elems, View.set_slice_whole, View.set_slice_whole]; exact r8_disj b b' h,
    (Finset.biUnion_congr rfl fun b _ => View.set_slice_whole _ _).trans r8_cover⟩
theorem el_owM (c : Dev nD) : (∀ b b', b ≠ b' → Disjoint (elems owM r2 c b) (elems owM r2 c b')) ∧ Finset.univ.biUnion (elems owM r2 c) = Finset.univ :=
  ⟨fun b b' h => by rw [elems, elems, View.set_slice_whole, View.set_slice_whole]; exact r2_disj b b' h,
    (Finset.biUnion_congr rfl fun b _ => View.set_slice_whole _ _).trans r2_cover⟩
theorem el_agS (c : Dev nD) : (∀ b b', b ≠ b' → Disjoint (elems agS r2 c b) (elems agS r2 c b')) ∧ Finset.univ.biUnion (elems agS r2 c) = Finset.univ :=
  ⟨fun b b' h => by rw [elems, elems, View.set_slice_whole, View.set_slice_whole]; exact r2_disj b b' h,
    (Finset.biUnion_congr rfl fun b _ => View.set_slice_whole _ _).trans r2_cover⟩
theorem el_outM (c : Dev nD) : (∀ b b', b ≠ b' → Disjoint (elems outM rO c b) (elems outM rO c b')) ∧ Finset.univ.biUnion (elems outM rO c) = Finset.univ :=
  ⟨fun b b' h => by
      rw [elems, elems, show (outM.access (rO b)).set = (rO b).set from View.set_slice_whole _ _, show (outM.access (rO b')).set = (rO b').set from View.set_slice_whole _ _]
      exact rO_disj b b' h,
    (Finset.biUnion_congr rfl fun b _ => View.set_slice_whole _ _).trans rO_cover⟩

/-- Three shares of a sum's slot are the slot again. -/
theorem agS_undeal (r : Rect S2x128x1024) (c : Dev nD) :
    iprop(Any agS r c (shareOf 0) ∗ Any agS r c (shareOf 1) ∗ Any agS r c (shareOf 2)) ⊢ (Any agS r c fullShare : sProp 𝕄) := by
  unfold Any
  iintro ⟨⟨%f0, H0⟩, ⟨%f1, H1⟩, ⟨%f2, H2⟩⟩
  icombine H0 H1 gives %h1
  icombine H0 H2 gives %h2
  iexists f0
  iapply (Entails.of_eq ((Transfers.pointsTo_deal (Finset.univ : Finset (Fin 3)) Finset.univ_nonempty fullShare).trans (bigSep_fin3 _)).symm)
  isplitl [H0]; · iexact H0
  isplitl [H1]
  · iapply (Entails.of_eq (pointsTo_congr (f := f1) (g := f0) fun i hi => (h1 i (Finset.mem_inter.mpr ⟨hi, hi⟩)).1.symm)); iexact H1
  · iapply (Entails.of_eq (pointsTo_congr (f := f2) (g := f0) fun i hi => (h2 i (Finset.mem_inter.mpr ⟨hi, hi⟩)).1.symm)); iexact H2

/-! ## Families over the eight chunks or cells -/

section Families

variable {M : Type} [URA M]

theorem by_chunk (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
/-- Device `c`'s own two chunks, then each peer's. -/
theorem by_owner (c : Dev nD) (Φ : Fin 8 → sProp M) : bigSep Finset.univ Φ
    = iprop(Φ (own c 0) ∗ Φ (own c 1) ∗ Φ (own (peer c 0) 0) ∗ Φ (own (peer c 0) 1) ∗ Φ (own (peer c 1) 0) ∗ Φ (own (peer c 1) 1)
      ∗ Φ (own (peer c 2) 0) ∗ Φ (own (peer c 2) 1)) :=
  bigSep_univ_eq_bigSepL [own c 0, own c 1, own (peer c 0) 0, own (peer c 0) 1, own (peer c 1) 0, own (peer c 1) 1, own (peer c 2) 0, own (peer c 2) 1]
    (by revert c; decide) (by revert c; decide) Φ
/-- The two cells no copy uses, then the copies' by parity. -/
theorem by_cell (Φ : Fin 8 → sProp M) : bigSep Finset.univ Φ
    = iprop(Φ 0 ∗ Φ 4 ∗ Φ (at4 0 0) ∗ Φ (at4 1 0) ∗ Φ (at4 0 1) ∗ Φ (at4 1 1) ∗ Φ (at4 0 2) ∗ Φ (at4 1 2)) :=
  bigSep_univ_eq_bigSepL [(0 : Fin 8), 4, at4 0 0, at4 1 0, at4 0 1, at4 1 1, at4 0 2, at4 1 2] (by decide) (by decide) Φ

end Families

theorem owner_own (d : Dev nD) (p : Fin 2) : owner (own d p) = d := by revert d p; decide
theorem par_own (d : Dev nD) (p : Fin 2) : par (own d p) = p := by revert d p; decide
theorem rsl_own (c : Dev nD) (o : Fin 3) (p : Fin 2) : rsl (own (peer c o) p) c = at4 p o := by revert c o p; decide
theorem payer_rev (c : Dev nD) (o : Fin 3) : payer c o.rev = peer c o := by revert c o; decide

/-! ## The rights a device starts with -/

/-- The rights to pay what device `c` pays for the chunk of parity `p` of the peer `o + 1` places on, and for sending its own chunk of parity `p` there. -/
def Tok (c : Dev nD) (o : Fin 3) (p : Fin 2) : sProp 𝕄 :=
  iprop(dutyTok ER (dC 0 (own (peer c o) p) c) 0 0 ∗ dutyTok ER (dC 1 (at4 p o) (peer c o)) 0 0
    ∗ dutyTok ER (dC 2 (at4 p o) c) 0 0 ∗ dutyTok ER (dC 3 (own c p) (peer c o)) 0 0)
def Toks (c : Dev nD) : sProp 𝕄 := iprop((Tok c 0 0 ∗ Tok c 0 1) ∗ (Tok c 1 0 ∗ Tok c 1 1) ∗ (Tok c 2 0 ∗ Tok c 2 1))

/-- What the entry of the peer `o + 1` places on leaves device `c` able to do with that peer's slots. -/
theorem use_pay (c : Dev nD) (o : Fin 3) :
    iprop(barPay c o.rev ∗ Tok c o 0 ∗ Tok c o 1) ⊢ (iprop((RSpre (own (peer c o) 0) c ∗ RSpre (own (peer c o) 1) c)
      ∗ (AGtok (own c 0) c o ∗ AGtok (own c 1) c o)) : sProp 𝕄) := by
  unfold barPay Tok RSpre AGtok
  rw [Fin.rev_rev, payer_rev, owner_own, owner_own, if_neg (peer_ne c o), if_neg (peer_ne c o), rsl_own, rsl_own, par_own, par_own]
  iintro ⟨⟨⟨Ha, Hb⟩, ⟨Hc, Hd⟩, ⟨He, Hf⟩, ⟨Hg, Hh⟩⟩, ⟨H1, H2, H3, H4⟩, ⟨H5, H6, H7, H8⟩⟩
  isplitl [Ha Hb Hc Hd H1 H2 H5 H6]
  · isplitl [Ha Hb H1 H2]
    · isplitl [Hb]; · iexact Hb
      isplitl [H1 H2]; · isplitl [H1] <;> iassumption
      iexact Ha
    · isplitl [Hd]; · iexact Hd
      isplitl [H5 H6]; · isplitl [H5] <;> iassumption
      iexact Hc
  · isplitl [He Hf H3 H4]
    · isplitl [Hf]; · iexact Hf
      isplitl [H3 H4]; · isplitl [H3] <;> iassumption
      iexact He
    · isplitl [Hh]; · iexact Hh
      isplitl [H7 H8]; · isplitl [H7] <;> iassumption
      iexact Hg

/-- What device `c` hands the peer `j + 1` places on. -/
theorem make_pay (c : Dev nD) (j : Fin 3) :
    iprop(Rch c ∗ Any rsR (r8 (at4 0 j.rev)) c fullShare ∗ Any rsR (r8 (at4 1 j.rev)) c fullShare
      ∗ Any agR (r8 (own (peer c j) 0)) c fullShare ∗ Any agR (r8 (own (peer c j) 1)) c fullShare) ⊢ (barPay (peer c j) j : sProp 𝕄) := by
  unfold barPay
  rw [payer_peer]
  iintro ⟨#HR, Ha, Hb, Hc, Hd⟩
  isplitl [Ha]
  · isplitl [Ha]; · iexact Ha
    iapply (rch_d 1 (at4 0 j.rev) c); iexact HR
  isplitl [Hb]
  · isplitl [Hb]; · iexact Hb
    iapply (rch_d 1 (at4 1 j.rev) c); iexact HR
  isplitl [Hc]
  · isplitl [Hc]; · iexact Hc
    iapply (rch_d 3 (own (peer c j) 0) c); iexact HR
  isplitl [Hd]; · iexact Hd
  iapply (rch_d 3 (own (peer c j) 1) c); iexact HR

/-- The landing slots, split into what the peers get and what no copy touches. -/
theorem give_slots (c : Dev nD) :
    iprop(Rch c ∗ (bigSep Finset.univ fun b => Any rsR (r8 b) c fullShare) ∗ (bigSep Finset.univ fun b => Any agR (r8 b) c fullShare))
      ⊢ (iprop((barPay (peer c 0) 0 ∗ barPay (peer c 1) 1 ∗ barPay (peer c 2) 2)
        ∗ (Any rsR (r8 0) c fullShare ∗ Any rsR (r8 4) c fullShare) ∗ (Any agR (r8 (own c 0)) c fullShare ∗ Any agR (r8 (own c 1)) c fullShare)) : sProp 𝕄) := by
  rw [by_cell, by_owner c]
  iintro ⟨#HR, ⟨R0, R4, R1, R5, R2, R6, R3, R7⟩, ⟨G0, G1, P0, P1, P2, P3, P4, P5⟩⟩
  isplitr [R0 R4 G0 G1]
  · isplitl [R3 R7 P0 P1]
    · iapply (make_pay c 0)
      isplitr; · iexact HR
      isplitl [R3]; · iexact R3
      isplitl [R7]; · iexact R7
      isplitl [P0] <;> iassumption
    isplitl [R2 R6 P2 P3]
    · iapply (make_pay c 1)
      isplitr; · iexact HR
      isplitl [R2]; · iexact R2
      isplitl [R6]; · iexact R6
      isplitl [P2] <;> iassumption
    iapply (make_pay c 2)
    isplitr; · iexact HR
    isplitl [R1]; · iexact R1
    isplitl [R5]; · iexact R5
    isplitl [P4] <;> iassumption
  isplitl [R0 R4]; · isplitl [R0] <;> iassumption
  isplitl [G0] <;> iassumption

end Cert.KernelIdeal.Talk
-- ==== Proof.Gather.lean ====
module

public import proofs.«01_k».proof.Proof.Deal

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # What a device holds between the entry wait and its last waits -/

theorem by_arr {M : Type} [URA M] (Φ : Fin 4 × Fin 8 → sProp M) : bigSep Finset.univ Φ
    = iprop((bigSep Finset.univ fun i => Φ (0, i)) ∗ (bigSep Finset.univ fun i => Φ (1, i)) ∗ (bigSep Finset.univ fun i => Φ (2, i)) ∗ (bigSep Finset.univ fun i => Φ (3, i))) := by
  rw [bigSep_univ_prod]
  exact bigSep_univ_eq_bigSepL [(0 : Fin 4), 1, 2, 3] (by decide) (by decide) _

theorem by_two {M : Type} [URA M] (Φ : Fin 2 → sProp M) : bigSep Finset.univ Φ = iprop(Φ 0 ∗ Φ 1) :=
  bigSep_univ_eq_bigSepL [(0 : Fin 2), 1] (by decide) (by decide) _

/-- The positions of device `c`'s own cells, every one at its start. -/
def Opened (c : Dev nD) : sProp 𝕄 := bigSep Finset.univ fun x : Fin 4 × Fin 8 => atPos ER (dC x.1 x.2 c) 0 ∅ 0
/-- The claims on what arrives at device `c` from the peer `o + 1` places on, or for the chunk of parity `p` of that peer. -/
def Cr (c : Dev nD) (o : Fin 3) (p : Fin 2) : sProp 𝕄 := iprop(cred (tallyAt (dC 1 (at4 p o) c) () N) ∗ cred (tallyAt (dC 3 (own (peer c o) p) c) () N))
def Crs (c : Dev nD) : sProp 𝕄 := iprop((Cr c 0 0 ∗ Cr c 0 1) ∗ (Cr c 1 0 ∗ Cr c 1 1) ∗ (Cr c 2 0 ∗ Cr c 2 1))

/-- The departures of the sums, not yet collected. -/
def Dep (c : Dev nD) : sProp 𝕄 :=
  iprop((atPos ER (dC 2 (at4 0 0) c) 0 ∅ 0 ∗ atPos ER (dC 2 (at4 1 0) c) 0 ∅ 0) ∗ (atPos ER (dC 2 (at4 0 1) c) 0 ∅ 0 ∗ atPos ER (dC 2 (at4 1 1) c) 0 ∅ 0)
    ∗ (atPos ER (dC 2 (at4 0 2) c) 0 ∅ 0 ∗ atPos ER (dC 2 (at4 1 2) c) 0 ∅ 0))
/-- The cells of a device no copy uses. -/
def Idle (c : Dev nD) : sProp 𝕄 := iprop((DN 1 0 c ∗ DN 1 4 c) ∗ (DN 2 0 c ∗ DN 2 4 c) ∗ (DN 3 (own c 0) c ∗ DN 3 (own c 1) c))

theorem red_pre (c : Dev nD) (p : Fin 2) :
    iprop((Claim 1 (at4 p 0) c ∗ Claim 1 (at4 p 1) c ∗ Claim 1 (at4 p 2) c) ∗ Any agS (r2 p) c fullShare
      ∗ AGtok (own c p) c 0 ∗ AGtok (own c p) c 1 ∗ AGtok (own c p) c 2) ⊢ (REDpre (own c p) c : sProp 𝕄) := by
  unfold REDpre
  rw [if_pos (owner_own c p), par_own]
  iintro ⟨⟨H0, H1, H2⟩, Hr⟩
  isplitl [H0]; · iexact H0
  isplitl [H1]; · iexact H1
  isplitl [H2]; · iexact H2
  iexact Hr
theorem red_pre_peer (c : Dev nD) (o : Fin 3) (p : Fin 2) : (REDpre (own (peer c o) p) c : sProp 𝕄) = iprop(emp) := by
  unfold REDpre; rw [if_neg (by rw [owner_own]; exact peer_ne c o)]
theorem red_post (c : Dev nD) (p : Fin 2) : (REDpost (own c p) c : sProp 𝕄)
    = iprop((Got (at4 p 0) c ∗ Got (at4 p 1) c ∗ Got (at4 p 2) c) ∗ Any owM (r2 p) c fullShare
      ∗ (cred (tallyAt (dC 2 (at4 p 0) c) () N) ∗ cred (tallyAt (dC 2 (at4 p 1) c) () N) ∗ cred (tallyAt (dC 2 (at4 p 2) c) () N))) := by
  unfold REDpost; rw [if_pos (owner_own c p), par_own]
theorem red_post_peer (c : Dev nD) (o : Fin 3) (p : Fin 2) : (REDpost (own (peer c o) p) c : sProp 𝕄) = iprop(emp) := by
  unfold REDpost; rw [if_neg (by rw [owner_own]; exact peer_ne c o)]
theorem in_pre (c : Dev nD) (p : Fin 2) : (INpre (own c p) c : sProp 𝕄) = iprop(emp) := by
  unfold INpre; rw [if_pos (owner_own c p)]
theorem in_pre_peer (c : Dev nD) (o : Fin 3) (p : Fin 2) : (INpre (own (peer c o) p) c : sProp 𝕄) = Claim 3 (own (peer c o) p) c := by
  unfold INpre; rw [if_neg (by rw [owner_own]; exact peer_ne c o)]
theorem in_post (c : Dev nD) (p : Fin 2) : (INpost (own c p) c : sProp 𝕄) = iprop(emp) := by
  unfold INpost; rw [if_pos (owner_own c p)]
theorem in_post_peer (c : Dev nD) (o : Fin 3) (p : Fin 2) : (INpost (own (peer c o) p) c : sProp 𝕄)
    = iprop(DN 3 (own (peer c o) p) c ∗ Any agR (r8 (own (peer c o) p)) c fullShare) := by
  unfold INpost; rw [if_neg (by rw [owner_own]; exact peer_ne c o)]
theorem rs_pre (c : Dev nD) (p : Fin 2) : (RSpre (own c p) c : sProp 𝕄) = Any owM (r2 p) c fullShare := by
  unfold RSpre; rw [if_pos (owner_own c p), par_own]

theorem unused_1 (c : Dev nD) : ¬ used c 1 0 ∧ ¬ used c 1 4 := by revert c; decide
theorem unused_2 (c : Dev nD) : ¬ used c 2 0 ∧ ¬ used c 2 4 := by revert c; decide
theorem unused_3 (c : Dev nD) (p : Fin 2) : ¬ used c 3 (own c p) := by revert c p; decide

/-- Everything a device needs from here on, chunk by chunk. -/
def Ready (c : Dev nD) : sProp 𝕄 :=
  iprop((bigSep Finset.univ fun s => RSpre s c) ∗ (bigSep Finset.univ fun s => REDpre s c) ∗ (bigSep Finset.univ fun s => INpre s c)
    ∗ (bigSep Finset.univ fun s => atPos ER (dC 0 s c) 0 ∅ 0))

theorem deal (c : Dev nD) :
    iprop((barPay c 0 ∗ barPay c 1 ∗ barPay c 2) ∗ Toks c ∗ (bigSep Finset.univ fun b => Any owM (r2 b) c fullShare)
        ∗ (bigSep Finset.univ fun b => Any agS (r2 b) c fullShare) ∗ Opened c ∗ Crs c)
      ⊢ (iprop(Ready c ∗ Dep c ∗ Idle c) : sProp 𝕄) := by
  unfold Toks Opened Crs Cr Ready Dep Idle
  rw [by_arr, by_cell fun i => atPos ER (dC 1 i c) 0 ∅ 0, by_cell fun i => atPos ER (dC 2 i c) 0 ∅ 0, by_owner c fun i => atPos ER (dC 3 i c) 0 ∅ 0,
    by_owner c fun s => RSpre s c, by_owner c fun s => REDpre s c, by_owner c fun s => INpre s c, by_two, by_two]
  simp only [red_pre_peer, in_pre, in_pre_peer, rs_pre]
  iintro ⟨⟨B0, B1, B2⟩, ⟨T0, T1, T2⟩, ⟨O0, O1⟩, ⟨S0, S1⟩, ⟨A0, ⟨I10, I14, Q1, Q5, Q2, Q6, Q3, Q7⟩, ⟨I20, I24, D1, D5, D2, D6, D3, D7⟩, ⟨I30, I31, N1, N2, N3, N4, N5, N6⟩⟩,
    ⟨⟨C1, E1⟩, ⟨C5, E2⟩⟩, ⟨⟨C2, E3⟩, ⟨C6, E4⟩⟩, ⟨⟨C3, E5⟩, ⟨C7, E6⟩⟩⟩
  ihave U0 := (show iprop(barPay c 2 ∗ Tok c 0 0 ∗ Tok c 0 1) ⊢ (_ : sProp 𝕄) from use_pay c 0) $$ [B2 T0]
  · isplitl [B2] <;> iassumption
  icases U0 with ⟨⟨X0, X1⟩, ⟨Y0, Z0⟩⟩
  ihave U1 := (show iprop(barPay c 1 ∗ Tok c 1 0 ∗ Tok c 1 1) ⊢ (_ : sProp 𝕄) from use_pay c 1) $$ [B1 T1]
  · isplitl [B1] <;> iassumption
  icases U1 with ⟨⟨X2, X3⟩, ⟨Y1, Z1⟩⟩
  ihave U2 := (show iprop(barPay c 0 ∗ Tok c 2 0 ∗ Tok c 2 1) ⊢ (_ : sProp 𝕄) from use_pay c 2) $$ [B0 T2]
  · isplitl [B0] <;> iassumption
  icases U2 with ⟨⟨X4, X5⟩, ⟨Y2, Z2⟩⟩
  isplitl [O0 O1 X0 X1 X2 X3 X4 X5 S0 S1 Y0 Y1 Y2 Z0 Z1 Z2 Q1 Q2 Q3 Q5 Q6 Q7 C1 C2 C3 C5 C6 C7 N1 N2 N3 N4 N5 N6 E1 E2 E3 E4 E5 E6 A0]
  · isplitl [O0 O1 X0 X1 X2 X3 X4 X5]
    · isplitl [O0]; · iexact O0
      isplitl [O1]; · iexact O1
      isplitl [X0]; · iexact X0
      isplitl [X1]; · iexact X1
      isplitl [X2]; · iexact X2
      isplitl [X3]; · iexact X3
      isplitl [X4] <;> iassumption
    isplitl [S0 S1 Y0 Y1 Y2 Z0 Z1 Z2 Q1 Q2 Q3 Q5 Q6 Q7 C1 C2 C3 C5 C6 C7]
    · isplitl [S0 Y0 Y1 Y2 Q1 Q2 Q3 C1 C2 C3]
      · iapply (red_pre c 0)
        unfold Claim
        iframe
      isplitl
      · iapply (red_pre c 1)
        unfold Claim
        iframe
      iframe
      itrivial
    isplitr [A0]
    · unfold Claim
      iframe
    iexact A0
  isplitl [D1 D2 D3 D5 D6 D7]
  · iframe
  isplitl [I10 I14]
  · isplitl [I10]; · iapply (DN.of_unused 1 0 c (unused_1 c).1); iexact I10
    iapply (DN.of_unused 1 4 c (unused_1 c).2); iexact I14
  isplitl [I20 I24]
  · isplitl [I20]; · iapply (DN.of_unused 2 0 c (unused_2 c).1); iexact I20
    iapply (DN.of_unused 2 4 c (unused_2 c).2); iexact I24
  isplitl [I30]; · iapply (DN.of_unused 3 (own c 0) c (unused_3 c 0)); iexact I30
  iapply (DN.of_unused 3 (own c 1) c (unused_3 c 1)); iexact I31

/-- The sums' departures collected, with the shares of their slots. -/
def Left (c : Dev nD) (o : Fin 3) (p : Fin 2) : sProp 𝕄 := iprop(DN 2 (at4 p o) c ∗ Any agS (r2 p) c (shareOf o))
/-- What the sums leave a device, per own chunk. -/
def Sums (c : Dev nD) (p : Fin 2) : sProp 𝕄 := iprop((Got (at4 p 0) c ∗ Got (at4 p 1) c ∗ Got (at4 p 2) c) ∗ Any owM (r2 p) c fullShare)
/-- The claims on the sums' departures, per own chunk. -/
def SumCr (c : Dev nD) (p : Fin 2) : sProp 𝕄 :=
  iprop(cred (tallyAt (dC 2 (at4 p 0) c) () N) ∗ cred (tallyAt (dC 2 (at4 p 1) c) () N) ∗ cred (tallyAt (dC 2 (at4 p 2) c) () N))

theorem sums_done (c : Dev nD) : (bigSep Finset.univ fun s => (REDpost s c : sProp 𝕄)) ⊢ iprop((Sums c 0 ∗ Sums c 1) ∗ (SumCr c 0 ∗ SumCr c 1)) := by
  rw [by_owner c fun s => REDpost s c]
  simp only [red_post_peer, red_post]
  unfold Sums SumCr
  iintro ⟨⟨G0, O0, C0⟩, ⟨G1, O1, C1⟩, -⟩
  isplitl [G0 O0 G1 O1]
  · isplitl [G0 O0]; · isplitl [G0] <;> iassumption
    isplitl [G1] <;> iassumption
  isplitl [C0] <;> iassumption

/-- A whole buffer of device `c` at any contents. -/
def AnyB {sp : Space} {s : Shape} {e : EltTy} (m : Memref sig .tc sp s e) (c : Dev nD) : sProp 𝕄 :=
  iprop(∃ f : Buf (Elt F) (m.view.loc (c : Thread nD τ)), m.view.loc (c : Thread nD τ) ↦{fullShare} f)

theorem Any.some {sp : Space} {s : Shape} {e : EltTy} (m : Memref sig .tc sp s e) (r : Rect s) (c : Dev nD) (q : PosShare TreeShare) :
    (Any m r c q : sProp 𝕄) ⊢ iprop(⌜Nonempty (Buf (Elt F) (m.view.loc (c : Thread nD τ)))⌝ ∗ Any m r c q) := by
  unfold Any
  iintro ⟨%f, H⟩
  isplitr; · ipureintro; exact ⟨f⟩
  iexists f; iexact H

/-- The slots of a buffer are the buffer. -/
theorem whole8 (m : Memref sig .tc .vmem S8x128x1024 .bf16) (c : Dev nD)
    (h : (∀ b b', b ≠ b' → Disjoint (elems m r8 c b) (elems m r8 c b')) ∧ Finset.univ.biUnion (elems m r8 c) = Finset.univ) :
    (bigSep Finset.univ fun b => (Any m (r8 b) c fullShare : sProp 𝕄)) ⊢ AnyB m c := by
  rw [by_chunk]
  iintro ⟨H0, H⟩
  ihave H0 := (Any.some m (r8 0) c fullShare) $$ H0
  icases H0 with ⟨%hn, H0⟩
  obtain ⟨f⟩ := hn
  unfold AnyB
  iapply (any_join m r8 c h.1 h.2 f)
  rw [by_chunk]
  isplitl [H0] <;> iassumption
theorem whole2 {e : EltTy} (m : Memref sig .tc .vmem S2x128x1024 e) (c : Dev nD)
    (h : (∀ b b', b ≠ b' → Disjoint (elems m r2 c b) (elems m r2 c b')) ∧ Finset.univ.biUnion (elems m r2 c) = Finset.univ) :
    iprop(Any m (r2 0) c fullShare ∗ Any m (r2 1) c fullShare) ⊢ (AnyB m c : sProp 𝕄) := by
  iintro ⟨H0, H⟩
  ihave H0 := (Any.some m (r2 0) c fullShare) $$ H0
  icases H0 with ⟨%hn, H0⟩
  obtain ⟨f⟩ := hn
  unfold AnyB
  iapply (any_join m r2 c h.1 h.2 f)
  rw [by_two]
  isplitl [H0] <;> iassumption

/-- Every cell of the kernel's own, done. -/
def AllDone (c : Dev nD) : sProp 𝕄 := bigSep Finset.univ fun x : Fin 4 × Fin 8 => DN x.1 x.2 c

theorem gather (c : Dev nD) :
    iprop(((bigSep Finset.univ fun s => DN 0 s c) ∗ (bigSep Finset.univ fun s => Any rsS (r8 s) c fullShare)) ∗ (Sums c 0 ∗ Sums c 1)
        ∗ ((Left c 0 0 ∗ Left c 0 1) ∗ (Left c 1 0 ∗ Left c 1 1) ∗ (Left c 2 0 ∗ Left c 2 1)) ∗ (bigSep Finset.univ fun s => INpost s c) ∗ Idle c
        ∗ (Any rsR (r8 0) c fullShare ∗ Any rsR (r8 4) c fullShare) ∗ (Any agR (r8 (own c 0)) c fullShare ∗ Any agR (r8 (own c 1)) c fullShare))
      ⊢ (iprop(AllDone c ∗ AnyB owM c ∗ AnyB rsS c ∗ AnyB rsR c ∗ AnyB agS c ∗ AnyB agR c) : sProp 𝕄) := by
  unfold Sums Left Idle AllDone Got
  rw [by_arr, by_cell fun i => DN 1 i c, by_cell fun i => DN 2 i c, by_owner c fun i => DN 3 i c, by_owner c fun s => INpost s c]
  simp only [in_post, in_post_peer]
  iintro ⟨⟨A0, RS⟩, ⟨⟨⟨⟨Q1, R1⟩, ⟨Q2, R2⟩, ⟨Q3, R3⟩⟩, O0⟩, ⟨⟨⟨Q5, R5⟩, ⟨Q6, R6⟩, ⟨Q7, R7⟩⟩, O1⟩⟩,
    ⟨⟨⟨D1, S1⟩, ⟨D5, S5⟩⟩, ⟨⟨D2, S2⟩, ⟨D6, S6⟩⟩, ⟨⟨D3, S3⟩, ⟨D7, S7⟩⟩⟩,
    ⟨-, -, ⟨N1, G1⟩, ⟨N2, G2⟩, ⟨N3, G3⟩, ⟨N4, G4⟩, ⟨N5, G5⟩, ⟨N6, G6⟩⟩, ⟨⟨I10, I14⟩, ⟨I20, I24⟩, ⟨I30, I31⟩⟩, ⟨K0, K4⟩, ⟨L0, L1⟩⟩
  isplitl [A0 Q1 Q2 Q3 Q5 Q6 Q7 D1 D2 D3 D5 D6 D7 N1 N2 N3 N4 N5 N6 I10 I14 I20 I24 I30 I31]
  · iframe
  isplitl [O0 O1]
  · iapply (whole2 owM c (el_owM c)); isplitl [O0] <;> iassumption
  isplitl [RS]
  · iapply (whole8 rsS c (el_rsS c)); iexact RS
  isplitl [K0 K4 R1 R2 R3 R5 R6 R7]
  · iapply (whole8 rsR c (el_rsR c)); rw [by_cell]; iframe
  isplitl [S1 S2 S3 S5 S6 S7]
  · iapply (whole2 agS c (el_agS c))
    isplitl [S1 S2 S3]
    · iapply (agS_undeal (r2 0) c)
      iframe
    · iapply (agS_undeal (r2 1) c)
      iframe
  iapply (whole8 agR c (el_agR c)); rw [by_owner c]; iframe

end Cert.KernelIdeal.Talk
-- ==== Proof.Start.lean ====
module

public import proofs.«01_k».proof.Proof.Gather

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # The entry and the inputs -/

/-- Contents `X` of a whole buffer of device `c`. -/
def All {sp : Space} {s : Shape} {e : EltTy} (m : Memref sig .tc sp s e) (c : Dev nD) (X : Buf (Elt F) (m.view.loc (c : Thread nD τ))) : sProp 𝕄 :=
  m.view.loc (c : Thread nD τ) ↦{fullShare} X

theorem ent1 (c : Dev nD) : (⟨k0_dev1 c, k0_dev1_lt c⟩ : Dev nD) = peer c 0 := by revert c; decide
theorem ent2 (c : Dev nD) : (⟨k0_dev2 c, k0_dev2_lt c⟩ : Dev nD) = peer c 1 := by revert c; decide
theorem ent3 (c : Dev nD) : (⟨k0_dev3 c, k0_dev3_lt c⟩ : Dev nD) = peer c 2 := by revert c; decide

theorem restL_eq (c : Dev nD) : restL 0 c = rsL 0 c ++ (rsL 1 c ++ (rsL 2 c ++ (agL 0 c ++ (rsL 3 c ++ (agL 1 c ++ (rsL 4 c ++ (agL 2 c ++ (rsL 5 c ++ (agL 3 c
    ++ (rsL 6 c ++ (agL 4 c ++ (rsL 7 c ++ tailL c)))))))))))) := rfl
theorem above_rest (c : Dev nD) : Above 1 (restL 0 c) := by
  rw [restL_eq]
  exact .rs 0 c (by decide) (.rs 1 c (by decide) (.rs 2 c (by decide) (.ag 0 c (by decide) (.rs 3 c (by decide) (.ag 1 c (by decide) (.rs 4 c (by decide)
    (.ag 2 c (by decide) (.rs 5 c (by decide) (.ag 3 c (by decide) (.rs 6 c (by decide) (.ag 4 c (by decide) (.rs 7 c (by decide) (above_tail 1 (by decide) c)))))))))))))

/-- What a device signals its three peers with. -/
def Ent (c : Dev nD) (j : Fin 3) : sProp 𝕄 := iprop(dutyTok ER (barC (peer c j)) 0 j ∗ barPay (peer c j) j)
def Rb (c : Dev nD) : sProp 𝕄 := iprop(reached ER (barC (peer c 0)) 0 ∗ reached ER (barC (peer c 1)) 0 ∗ reached ER (barC (peer c 2)) 0)
/-- The staged inputs. -/
def In (x wq k v wo : Vec F S1024x1024 .bf16) (c : Dev nD) : sProp 𝕄 :=
  iprop(All (win0_0.stage 0) c x ∗ All (win0_1.stage 0) c wq ∗ All (win0_2.stage 0) c k ∗ All (win0_3.stage 0) c v ∗ All (win0_4.stage 0) c wo)

abbrev rF : Rect S1024x1024 := Rect.unit (s := S1024x1024) ![0, 0] S1024x1024.size inb_S1024x1024_S1024x1024_0_0

theorem set_zero (b : Ref sig .tc) {off : Fin b.ty.shape.rank → Nat} (h : off = fun _ => 0) (inb : ∀ a, off a + b.ty.shape.size a ≤ b.ty.shape.size a) :
    ((Memref.whole b).access (Rect.unit off b.ty.shape.size inb) : View sig .tc _ _ _).set = Finset.univ := by
  subst h; exact Memref.set_access_whole b
theorem two_zero : (![0, 0] : Fin 2 → Nat) = fun _ => 0 := by decide
theorem set_q : (qM.access rF).set = Finset.univ := set_zero cc0_scratch0 two_zero _
theorem read_q (f : Vec F S1024x1024 .bf16) : (qM.access rF).read (Elt F) f = f := Memref.read_access_unit_zero (Elt F) cc0_scratch0 two_zero _ f

theorem has_q (c : Dev nD) (q q' : FVec F S1024x1024 .bf16) (h : q' = q) : (Has qM rF c fullShare q' : sProp 𝕄) ⊢ Qc q c := by
  subst h
  unfold Has Qc
  rw [set_q]
  iintro ⟨%f, %hf, H⟩
  have h : f = q' := (read_q f).symm.trans hf
  subst h
  iexact H
theorem any_q (c : Dev nD) : (AnyB qM c : sProp 𝕄) ⊢ Any qM rF c fullShare := by
  unfold AnyB Any
  rw [set_q]

/-- The whole of staged input 0, as the body reads it. -/
def rd0 (x : Vec F S1024x1024 .bf16) : Vec F S1024x1024 .bf16 := View.readAt (Elt F) (win0_0.stage 0).view rF.toLoadRect x
theorem rd0_eq (x : Vec F S1024x1024 .bf16) : rd0 x = x := Memref.readAt_unit_zero (Elt F) cc0_stg0_0 two_zero _ x
/-- The whole of staged input 1, as the body reads it. -/
def rd1 (x : Vec F S1024x1024 .bf16) : Vec F S1024x1024 .bf16 := View.readAt (Elt F) (win0_1.stage 0).view rF.toLoadRect x
theorem rd1_eq (x : Vec F S1024x1024 .bf16) : rd1 x = x := Memref.readAt_unit_zero (Elt F) cc0_stg1_0 two_zero _ x
/-- The whole of staged input 2, as the body reads it. -/
def rd2 (x : Vec F S1024x1024 .bf16) : Vec F S1024x1024 .bf16 := View.readAt (Elt F) (win0_2.stage 0).view rF.toLoadRect x
theorem rd2_eq (x : Vec F S1024x1024 .bf16) : rd2 x = x := Memref.readAt_unit_zero (Elt F) cc0_stg2_0 two_zero _ x
/-- The whole of staged input 3, as the body reads it. -/
def rd3 (x : Vec F S1024x1024 .bf16) : Vec F S1024x1024 .bf16 := View.readAt (Elt F) (win0_3.stage 0).view rF.toLoadRect x
theorem rd3_eq (x : Vec F S1024x1024 .bf16) : rd3 x = x := Memref.readAt_unit_zero (Elt F) cc0_stg3_0 two_zero _ x
/-- The whole of staged input 4, as the body reads it. -/
def rd4 (x : Vec F S1024x1024 .bf16) : Vec F S1024x1024 .bf16 := View.readAt (Elt F) (win0_4.stage 0).view rF.toLoadRect x
theorem rd4_eq (x : Vec F S1024x1024 .bf16) : rd4 x = x := Memref.readAt_unit_zero (Elt F) cc0_stg4_0 two_zero _ x

set_option sl_exec.parts true in
theorem start0 (PV : Dev nD → Fin 8 → Vec F S1x128x1024 .bf16) (PO : Dev nD → Fin 8 → Vec F S1x128x1024 .f32) (x wq k v wo : Vec F S1024x1024 .bf16) (K : GSem nD τ sig → ℕ) (c : Dev nD)
    {α : Type} (Kn : Dev nD → BitVec 32 → (Σ' (v28 : FVec F S1024x1024 .bf16) (v30 : FVec F S1024x1024 .bf16) (v32 : FVec F S1024x1024 .bf16) (v59 : IVec S128x128 32) (v60 : IVec S128x128 32) (c64_i32_32 : BitVec 32) (v62 : IVec S128x128 32), IVec S128x128 32) → Prog (TpuEff nD τ sig (Elt F) Λ₀ .tc) α) {Q : α → sProp 𝕄} :
    (iprop(Inv PV (RV PV PO) K ∗ levAts L lv ∗ Rb c ∗ (Ent c 0 ∗ Ent c 1 ∗ Ent c 2) ∗ cred (tallyAt (barC c) () 3) ∗ atPos ER (barC c) 0 ∅ 0 ∗ OW c (launchL c)
        ∗ In x wq k v wo c ∗ AnyB qM c) : sProp 𝕄)
      ⊢ iprop(((OW c (restL 0 c) ∗ atPos ER (barC c) 1 ∅ 0 ∗ (barPay c 0 ∗ barPay c 1 ∗ barPay c 2) ∗ In x wq k v wo c ∗ Qc (k0_pay17 (rd0 x) (rd1 wq)) c)
          -∗ wp frame (wpE (defs₀ (F := F)) 𝒱₀ (c : Thread nD τ) none) Set.univ (Kn c (myw c) ⟨k0_pay18 (rd2 k), k0_pay19 (rd3 v), k0_pay20 (rd4 wo), k0_pay21, iota .tc S128x128 32 [1] iota_S128x128_d1_w32, 64#32, k0_pay22, k0_pay23⟩) Q)
        -∗ wp frame (wpE (defs₀ (F := F)) 𝒱₀ (c : Thread nD τ) none) Set.univ (do
          let ⟨d0, v2⟩ ← k0_part17 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10
          let r ← k0_part18 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10
          Kn d0 v2 r) Q) := by
  unfold In All Ent Rb launchL
  iintro ⟨#HI, #Hlev, ⟨#Hr0, #Hr1, #Hr2⟩, ⟨⟨T0, P0⟩, ⟨T1, P1⟩, ⟨T2, P2⟩⟩, Hc, Hat, HO, ⟨Hx, Hw, Hk', Hv, Ho⟩, Hq⟩ Hk
  ihave Hq := (any_q c) $$ Hq
  sl_exec_parts
  iapply (signal_bar PV (RV PV PO) K c 0 _ (ent1 c) rfl) $$ [T0 P0 HO]
  · isplitr; · iexact HI
    isplitr; · iexact Hr0
    isplitl [T0]; · iexact T0
    isplitl [P0]; · iexact P0
    iexact HO
  iintro HO
  sl_exec_parts
  iapply (signal_bar PV (RV PV PO) K c 1 _ (ent2 c) rfl) $$ [T1 P1 HO]
  · isplitr; · iexact HI
    isplitr; · iexact Hr1
    isplitl [T1]; · iexact T1
    isplitl [P1]; · iexact P1
    iexact HO
  iintro HO
  sl_exec_parts
  iapply (signal_bar PV (RV PV PO) K c 2 _ (ent3 c) rfl) $$ [T2 P2 HO]
  · isplitr; · iexact HI
    isplitr; · iexact Hr2
    isplitl [T2]; · iexact T2
    isplitl [P2]; · iexact P2
    iexact HO
  iintro HO
  sl_exec_parts
  iapply (wait_bar PV (RV PV PO) K c _ (above_rest c) rfl) $$ [Hc Hat HO]
  · isplitr; · iexact HI
    isplitr; · iexact Hlev
    isplitl [Hc]; · iexact Hc
    isplitl [HO]; · iexact HO
    iexact Hat
  iintro ⟨HO, Hat, HP⟩
  sl_exec_parts
  iapply load_any $$ Hq
  iintro %X Hq
  iapply store_any $$ Hq
  iintro Hq
  iapply ret_wp
  sl_exec_parts
  ihave Hq := (has_q c (k0_pay17 (rd0 x) (rd1 wq)) _ ?gq) $$ Hq
  case gq =>
    rfl
  iapply Hk
  isplitl [HO]; · iexact HO
  isplitl [Hat]; · iexact Hat
  isplitl [HP]; · iexact HP
  isplitl [Hx Hw Hk' Hv Ho]
  · isplitl [Hx]; · iexact Hx
    isplitl [Hw]; · iexact Hw
    isplitl [Hk']; · iexact Hk'
    isplitl [Hv]; · iexact Hv
    iexact Ho
  iexact Hq

/-- The entry: the three signals, the wait for the peers, and the queries. -/
theorem start (PV : Dev nD → Fin 8 → Vec F S1x128x1024 .bf16) (PO : Dev nD → Fin 8 → Vec F S1x128x1024 .f32) (x wq k v wo : Vec F S1024x1024 .bf16) (K : GSem nD τ sig → ℕ) (c : Dev nD)
    {α : Type} (Kn : Dev nD → BitVec 32 → (Σ' (v28 : FVec F S1024x1024 .bf16) (v30 : FVec F S1024x1024 .bf16) (v32 : FVec F S1024x1024 .bf16) (v59 : IVec S128x128 32) (v60 : IVec S128x128 32) (c64_i32_32 : BitVec 32) (v62 : IVec S128x128 32), IVec S128x128 32) → Prog (TpuEff nD τ sig (Elt F) Λ₀ .tc) α) {Q : α → sProp 𝕄} :
    (iprop(Inv PV (RV PV PO) K ∗ levAts L lv ∗ Rb c ∗ (Ent c 0 ∗ Ent c 1 ∗ Ent c 2) ∗ cred (tallyAt (barC c) () 3) ∗ atPos ER (barC c) 0 ∅ 0 ∗ OW c (launchL c)
        ∗ In x wq k v wo c ∗ AnyB qM c) : sProp 𝕄)
      ⊢ iprop(((OW c (restL 0 c) ∗ atPos ER (barC c) 1 ∅ 0 ∗ (barPay c 0 ∗ barPay c 1 ∗ barPay c 2) ∗ In x wq k v wo c ∗ Qc (k0_pay17 x wq) c)
          -∗ wp frame (wpE (defs₀ (F := F)) 𝒱₀ (c : Thread nD τ) none) Set.univ (Kn c (myw c) ⟨k0_pay18 k, k0_pay19 v, k0_pay20 wo, k0_pay21, iota .tc S128x128 32 [1] iota_S128x128_d1_w32, 64#32, k0_pay22, k0_pay23⟩) Q)
        -∗ wp frame (wpE (defs₀ (F := F)) 𝒱₀ (c : Thread nD τ) none) Set.univ (do
          let ⟨d0, v2⟩ ← k0_part17 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10
          let r ← k0_part18 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10
          Kn d0 v2 r) Q) := by
  have h := start0 PV PO x wq k v wo K c Kn (Q := Q)
  rw [rd0_eq, rd1_eq, rd2_eq, rd3_eq, rd4_eq] at h
  exact h

end Cert.KernelIdeal.Talk
-- ==== Proof.Ends.lean ====
module

public import proofs.«01_k».proof.Proof.Start
public import Idealize.ShloMosaic.Lib.Pointwise.Index
public import Idealize.ShloMosaic.Lib.Pipeline.ValueKit.Geometry

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # The whole result of a device, and its cells closed -/

/-- What a device starts its steps from: keys, values, output weights and queries as the body keeps them. -/
abbrev kIn (X : Fin 5 → Dev nD → Vec F S1024x1024 .bf16) (c : Dev nD) : FVec F S1024x1024 .bf16 := k0_pay18 (X 2 c)
abbrev vIn (X : Fin 5 → Dev nD → Vec F S1024x1024 .bf16) (c : Dev nD) : FVec F S1024x1024 .bf16 := k0_pay19 (X 3 c)
abbrev oIn (X : Fin 5 → Dev nD → Vec F S1024x1024 .bf16) (c : Dev nD) : FVec F S1024x1024 .bf16 := k0_pay20 (X 4 c)
abbrev qIn (X : Fin 5 → Dev nD → Vec F S1024x1024 .bf16) (c : Dev nD) : FVec F S1024x1024 .bf16 := k0_pay17 (X 0 c) (X 1 c)
abbrev PX (X : Fin 5 → Dev nD → Vec F S1024x1024 .bf16) := PVi (kIn X) (vIn X) (oIn X) (qIn X)
abbrev OX (X : Fin 5 → Dev nD → Vec F S1024x1024 .bf16) := POi (kIn X) (vIn X) (oIn X) (qIn X)
abbrev InX (X : Fin 5 → Dev nD → Vec F S1024x1024 .bf16) (c : Dev nD) : sProp 𝕄 := In (X 0 c) (X 1 c) (X 2 c) (X 3 c) (X 4 c) c

/-- The result of device `c`: its row chunks one under the other. -/
def outX (X : Fin 5 → Dev nD → Vec F S1024x1024 .bf16) (c : Dev nD) : Vec F S1024x1024 .f32 := fun i =>
  outV (PX X) (OX X) c ⟨(i 0).val / 128, Nat.div_lt_of_lt_mul (i 0).isLt⟩ (ix2 (n0 := 128) (n1 := 1024) ⟨(i 0).val % 128, Nat.mod_lt _ (by decide)⟩ (i 1))

theorem outX_emb (X : Fin 5 → Dev nD → Vec F S1024x1024 .bf16) (c : Dev nD) (s : Fin 8) (j : S128x1024.Idx) :
    outX X c ((rO s).emb j) = outV (PX X) (OX X) c s j := by
  have h0 : (((rO s).emb j) 0).val = 128 * s.val + (j 0).val := ValueKit.rect_emb_unit_val (s := S1024x1024) ![128 * s.val, 0] S128x1024.size (inbO s) j 0
  have h1 : (((rO s).emb j) 1).val = 0 + (j 1).val := ValueKit.rect_emb_unit_val (s := S1024x1024) ![128 * s.val, 0] S128x1024.size (inbO s) j 1
  have hj : (j 0).val < 128 := (j 0).isLt
  unfold outX
  have e1 : (⟨(((rO s).emb j) 0).val / 128, Nat.div_lt_of_lt_mul (((rO s).emb j) 0).isLt⟩ : Fin 8) = s := Fin.ext (by show _ / 128 = _; rw [h0]; omega)
  have e2 : ix2 (n0 := 128) (n1 := 1024) ⟨(((rO s).emb j) 0).val % 128, Nat.mod_lt _ (by decide)⟩ (((rO s).emb j) 1) = j := by
    refine Eq.trans ?_ (eq_ix2 (n0 := 128) (n1 := 1024) j).symm
    refine (ix2_inj _ _ _ _).mpr ⟨Fin.ext ?_, Fin.ext ?_⟩
    · show (((rO s).emb j) 0).val % 128 = (j 0).val; rw [h0]; omega
    · exact h1.trans (Nat.zero_add _)
  rw [e1, e2]

theorem out_join (X : Fin 5 → Dev nD → Vec F S1024x1024 .bf16) (c : Dev nD) :
    (bigSep Finset.univ fun s => (Has outM (rO s) c fullShare (outV (PX X) (OX X) c s) : sProp 𝕄)) ⊢ All outM c (outX X c) := by
  iintro H
  ihave H := (has_join outM rO c (el_outM c).1 (el_outM c).2 (outX X c) (fun s => outV (PX X) (OX X) c s)) $$ H
  icases H with ⟨%f, %hf, H⟩
  have h : f = outX X c := by
    funext i
    have hi : i ∈ Finset.univ.biUnion (fun b : Fin 8 => (rO b).set) := by rw [rO_cover]; exact Finset.mem_univ _
    obtain ⟨s, -, hs⟩ := Finset.mem_biUnion.mp hi
    obtain ⟨j, -, rfl⟩ := Finset.mem_map.mp ((Rect.map_emb_univ (rO s)).symm ▸ hs)
    exact (congrFun (hf s) j).trans (outX_emb X c s j).symm
  subst h
  unfold All
  iexact H

theorem close_all (PV : Dev nD → Fin 8 → Vec F S1x128x1024 .bf16) (RV' : Fin 8 → Vec F S1x128x1024 .bf16) (K : GSem nD τ sig → ℕ) (c : Dev nD) :
    iprop(Inv PV RV' K ∗ atPos ER (barC c) 1 ∅ 0 ∗ AllDone c)
      ⊢ (iprop(|={Set.univ}=> (semVal (barC c) 0 ∗ bigSep Finset.univ fun x : Fin 4 × Fin 8 => semVal (dC x.1 x.2 c) 0)) : sProp 𝕄) := by
  iintro ⟨#HI, Hb, Hd⟩
  imod (Rounds.cell_close ER (sched PV RV') (κ := K (barC c)) (Set.mem_univ _) id (duties_later PV RV' (barC c))) $$ [Hb] with Hb
  · isplitr; · iapply (inv_bar PV RV' K c); iexact HI
    iexact Hb
  unfold AllDone
  ihave Hd := (show iprop(Inv PV RV' K ∗ bigSep Finset.univ fun x : Fin 4 × Fin 8 => DN x.1 x.2 c)
      ⊢ (iprop(|={Set.univ}=> bigSep Finset.univ fun x : Fin 4 × Fin 8 => semVal (dC x.1 x.2 c) 0) : sProp 𝕄) from
    (bigSep_with_persistent fun x _ => by
      unfold DN
      iintro ⟨#HI, %R, %hR, H⟩
      imod (Rounds.cell_close ER (sched PV RV') (κ := K (dC x.1 x.2 c)) (Set.mem_univ _) id (R := R) (fun r hr => by
        rcases hR with rfl | hR
        · exact duties_later PV RV' _ r hr
        · rcases Nat.eq_zero_or_pos r with rfl | h
          · exact duties_d_un PV RV' _ _ _ hR
          · exact duties_later PV RV' _ r h)) $$ [H] with H
      · isplitr; · iapply (inv_d PV RV' K x.1 x.2 c); iexact HI
        iexact H
      imodintro
      iexact H).trans (bigSep_fupd _ _)) $$ [Hd]
  · isplitr; · iexact HI
    iexact Hd
  imod Hd
  imodintro
  isplitl [Hb]; · iexact Hb
  iexact Hd

end Cert.KernelIdeal.Talk
-- ==== Proof.Fin59.lean ====
module

public import proofs.«01_k».proof.Proof.Gather

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # The last chunks taken in, and the departures collected -/

/-- The wait for a sum's departure to the peer `o + 1` places on. -/
theorem ag_wait (PV : Dev nD → Fin 8 → Vec F S1x128x1024 .bf16) (PO : Dev nD → Fin 8 → Vec F S1x128x1024 .f32) (K : GSem nD τ sig → ℕ) (p : Fin 2) (o : Fin 3) (c : Dev nD)
    {α : Type} {Q : α → sProp 𝕄}
    {sem : DmaSem sig} (hS : sem = dsem 2 (at4 p o)) {sp sp' : Space} {s : Shape} {e e' : EltTy} {src : Memref sig .tc sp s e} {dst : Memref sig .tc sp' s e'}
    (hN : dst.view.dmaCredit = N) {h : src.view.WordExact} {h' : dst.view.WordExact}
    {k : PUnit → Prog (TpuEff nD τ sig (Elt F) Λ₀ .tc) α} :
    (iprop(Inv PV (RV PV PO) K ∗ levAts L lv ∗ (cred (tallyAt (dC 2 (at4 p o) c) () N) ∗ atPos ER (dC 2 (at4 p o) c) 0 ∅ 0) ∗ OW c []) : sProp 𝕄)
      ⊢ iprop(((Left c o p ∗ OW c []) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst h h') k) Q) := by
  iintro ⟨#HI, #Hlev, ⟨Hc, Ha⟩, HO⟩ Hk
  iapply (wait_cell PV (RV PV PO) K 2 (at4 p o) c (Or.inr (Or.inr (Or.inl ⟨rfl, at4_used _ _⟩))) [] (Above.nil _) hS hN) $$ [Hc Ha HO]
  · isplitr; · iexact HI
    isplitr; · iexact Hlev
    isplitl [Hc]; · iexact Hc
    isplitl [HO]; · iexact HO
    iexact Ha
  iintro ⟨HO, Ha, Hp⟩
  ihave Hp := (show (dPay PV (RV PV PO) 2 (at4 p o) c : sProp 𝕄) ⊢ Any agS (r2 (half (at4 p o))) c (shareOf (off4 (at4 p o))) from Entails.refl _) $$ Hp
  rw [half_at4, off4_at4]
  iapply Hk
  isplitl [Ha Hp]
  · unfold Left
    isplitl [Ha]; · iapply (DN.of_one 2 (at4 p o) c); iexact Ha
    iexact Hp
  iexact HO

set_option maxHeartbeats 4000000 in
set_option sl_exec.parts true in
theorem fin59 (ki vi woi qi : Dev nD → FVec F S1024x1024 .bf16) (K : GSem nD τ sig → ℕ) (c : Dev nD)
    {α : Type} (Kn : Prog (TpuEff nD τ sig (Elt F) Λ₀ .tc) α) {Q : α → sProp 𝕄} :
    (iprop(Inv (PVi ki vi woi qi) (RV (PVi ki vi woi qi) (POi ki vi woi qi)) K ∗ levAts L lv
        ∗ (Recv0 (PVi ki vi woi qi) (POi ki vi woi qi) 3 c ∗ Recv0 (PVi ki vi woi qi) (POi ki vi woi qi) 4 c ∗ Recv0 (PVi ki vi woi qi) (POi ki vi woi qi) 5 c ∗ Recv0 (PVi ki vi woi qi) (POi ki vi woi qi) 6 c ∗ Recv0 (PVi ki vi woi qi) (POi ki vi woi qi) 7 c)
        ∗ (bigSep Finset.univ fun s => iprop(Sent s c ∗ atPos ER (dC 0 s c) 0 ∅ 0))
        ∗ (cred (tallyAt (dC 2 (at4 0 0) c) () N) ∗ atPos ER (dC 2 (at4 0 0) c) 0 ∅ 0) ∗ (cred (tallyAt (dC 2 (at4 0 1) c) () N) ∗ atPos ER (dC 2 (at4 0 1) c) 0 ∅ 0) ∗ OW c []) : sProp 𝕄)
      ⊢ iprop((((Recv1 (PVi ki vi woi qi) (POi ki vi woi qi) 3 c ∗ Recv1 (PVi ki vi woi qi) (POi ki vi woi qi) 4 c ∗ Recv1 (PVi ki vi woi qi) (POi ki vi woi qi) 5 c ∗ Recv1 (PVi ki vi woi qi) (POi ki vi woi qi) 6 c ∗ Recv1 (PVi ki vi woi qi) (POi ki vi woi qi) 7 c)
          ∗ (bigSep Finset.univ fun s => iprop(DN 0 s c ∗ Any rsS (r8 s) c fullShare)) ∗ Left c 0 0 ∗ Left c 1 0 ∗ OW c [])
          -∗ wp frame (wpE (defs₀ (F := F)) 𝒱₀ (c : Thread nD τ) none) Set.univ Kn Q)
        -∗ wp frame (wpE (defs₀ (F := F)) 𝒱₀ (c : Thread nD τ) none) Set.univ (do
          let r ← k0_part58 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (myw c) (Scalar.cmpi .ne (myw c) 1#32)
          k0_part59 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (myw c) r
          Kn) Q) := by
  rw [by_chunk, by_chunk]
  unfold Recv0 Recv1 Left
  iintro ⟨#HI, #Hlev, ⟨⟨Hi3, Hu3⟩, ⟨Hi4, Hu4⟩, ⟨Hi5, Hu5⟩, ⟨Hi6, Hu6⟩, ⟨Hi7, Hu7⟩⟩, ⟨⟨S0, A0⟩, ⟨S1, A1⟩, ⟨S2, A2⟩, ⟨S3, A3⟩, ⟨S4, A4⟩, ⟨S5, A5⟩, ⟨S6, A6⟩, ⟨S7, A7⟩⟩, ⟨C1, D1⟩, ⟨C2, D2⟩, HO⟩ Hk
  sl_exec_parts
  iapply (recv_if (PVi ki vi woi qi) (POi ki vi woi qi) K 3 c (own_isnt 3 c) ?gf ?gw ?gN) $$ [Hi3 Hu3 HO]
  case gf => rfl
  case gw => exact fun _ => sem_at' 3 3 (by decide)
  case gN => exact fun _ => rfl
  · isplitr; · iexact HI
    isplitr; · iexact Hlev
    isplitl [Hi3]; · iexact Hi3
    isplitl [Hu3]; · iexact Hu3
    iexact HO
  iintro ⟨Hi3, Hu3, HO⟩
  iapply (recv_if (PVi ki vi woi qi) (POi ki vi woi qi) K 4 c (own_isnt 4 c) ?gf ?gw ?gN) $$ [Hi4 Hu4 HO]
  case gf => rfl
  case gw => exact fun _ => sem_at' 3 4 (by decide)
  case gN => exact fun _ => rfl
  · isplitr; · iexact HI
    isplitr; · iexact Hlev
    isplitl [Hi4]; · iexact Hi4
    isplitl [Hu4]; · iexact Hu4
    iexact HO
  iintro ⟨Hi4, Hu4, HO⟩
  iapply (recv_if (PVi ki vi woi qi) (POi ki vi woi qi) K 5 c (own_isnt 5 c) ?gf ?gw ?gN) $$ [Hi5 Hu5 HO]
  case gf => rfl
  case gw => exact fun _ => sem_at' 3 5 (by decide)
  case gN => exact fun _ => rfl
  · isplitr; · iexact HI
    isplitr; · iexact Hlev
    isplitl [Hi5]; · iexact Hi5
    isplitl [Hu5]; · iexact Hu5
    iexact HO
  iintro ⟨Hi5, Hu5, HO⟩
  iapply (recv_if (PVi ki vi woi qi) (POi ki vi woi qi) K 6 c (own_isnt 6 c) ?gf ?gw ?gN) $$ [Hi6 Hu6 HO]
  case gf => rfl
  case gw => exact fun _ => sem_at' 3 6 (by decide)
  case gN => exact fun _ => rfl
  · isplitr; · iexact HI
    isplitr; · iexact Hlev
    isplitl [Hi6]; · iexact Hi6
    isplitl [Hu6]; · iexact Hu6
    iexact HO
  iintro ⟨Hi6, Hu6, HO⟩
  iapply (recv_if (PVi ki vi woi qi) (POi ki vi woi qi) K 7 c (own_isnt 7 c) ?gf ?gw ?gN) $$ [Hi7 Hu7 HO]
  case gf => rfl
  case gw => exact fun _ => sem_at' 3 7 (by decide)
  case gN => exact fun _ => rfl
  · isplitr; · iexact HI
    isplitr; · iexact Hlev
    isplitl [Hi7]; · iexact Hi7
    isplitl [Hu7]; · iexact Hu7
    iexact HO
  iintro ⟨Hi7, Hu7, HO⟩
  iapply (rs_wait_if (PVi ki vi woi qi) (POi ki vi woi qi) K 0 c (own_isnt 0 c) ?gw ?gN) $$ [S0 A0 HO]
  case gw => exact fun _ => sem_at' 0 0 (by decide)
  case gN => exact fun _ => rfl
  · isplitr; · iexact HI
    isplitr; · iexact Hlev
    isplitl [S0]; · iexact S0
    isplitl [A0]; · iexact A0
    iexact HO
  iintro ⟨A0, S0, HO⟩
  iapply (rs_wait_if (PVi ki vi woi qi) (POi ki vi woi qi) K 1 c (own_isnt 1 c) ?gw ?gN) $$ [S1 A1 HO]
  case gw => exact fun _ => sem_at' 0 1 (by decide)
  case gN => exact fun _ => rfl
  · isplitr; · iexact HI
    isplitr; · iexact Hlev
    isplitl [S1]; · iexact S1
    isplitl [A1]; · iexact A1
    iexact HO
  iintro ⟨A1, S1, HO⟩
  iapply (rs_wait_if (PVi ki vi woi qi) (POi ki vi woi qi) K 2 c (own_isnt 2 c) ?gw ?gN) $$ [S2 A2 HO]
  case gw => exact fun _ => sem_at' 0 2 (by decide)
  case gN => exact fun _ => rfl
  · isplitr; · iexact HI
    isplitr; · iexact Hlev
    isplitl [S2]; · iexact S2
    isplitl [A2]; · iexact A2
    iexact HO
  iintro ⟨A2, S2, HO⟩
  iapply (rs_wait_if (PVi ki vi woi qi) (POi ki vi woi qi) K 3 c (own_isnt 3 c) ?gw ?gN) $$ [S3 A3 HO]
  case gw => exact fun _ => sem_at' 0 3 (by decide)
  case gN => exact fun _ => rfl
  · isplitr; · iexact HI
    isplitr; · iexact Hlev
    isplitl [S3]; · iexact S3
    isplitl [A3]; · iexact A3
    iexact HO
  iintro ⟨A3, S3, HO⟩
  iapply (rs_wait_if (PVi ki vi woi qi) (POi ki vi woi qi) K 4 c (own_isnt 4 c) ?gw ?gN) $$ [S4 A4 HO]
  case gw => exact fun _ => sem_at' 0 4 (by decide)
  case gN => exact fun _ => rfl
  · isplitr; · iexact HI
    isplitr; · iexact Hlev
    isplitl [S4]; · iexact S4
    isplitl [A4]; · iexact A4
    iexact HO
  iintro ⟨A4, S4, HO⟩
  sl_exec_parts
  iapply (rs_wait_if (PVi ki vi woi qi) (POi ki vi woi qi) K 5 c (own_isnt 5 c) ?gw ?gN) $$ [S5 A5 HO]
  case gw => exact fun _ => sem_at' 0 5 (by decide)
  case gN => exact fun _ => rfl
  · isplitr; · iexact HI
    isplitr; · iexact Hlev
    isplitl [S5]; · iexact S5
    isplitl [A5]; · iexact A5
    iexact HO
  iintro ⟨A5, S5, HO⟩
  iapply (rs_wait_if (PVi ki vi woi qi) (POi ki vi woi qi) K 6 c (own_isnt 6 c) ?gw ?gN) $$ [S6 A6 HO]
  case gw => exact fun _ => sem_at' 0 6 (by decide)
  case gN => exact fun _ => rfl
  · isplitr; · iexact HI
    isplitr; · iexact Hlev
    isplitl [S6]; · iexact S6
    isplitl [A6]; · iexact A6
    iexact HO
  iintro ⟨A6, S6, HO⟩
  iapply (rs_wait_if (PVi ki vi woi qi) (POi ki vi woi qi) K 7 c (own_isnt 7 c) ?gw ?gN) $$ [S7 A7 HO]
  case gw => exact fun _ => sem_at' 0 7 (by decide)
  case gN => exact fun _ => rfl
  · isplitr; · iexact HI
    isplitr; · iexact Hlev
    isplitl [S7]; · iexact S7
    isplitl [A7]; · iexact A7
    iexact HO
  iintro ⟨A7, S7, HO⟩
  iapply (ag_wait (PVi ki vi woi qi) (POi ki vi woi qi) K 0 0 c ?gw ?gN) $$ [C1 D1 HO]
  case gw => exact sem_at' 2 1 (by decide)
  case gN => rfl
  · isplitr; · iexact HI
    isplitr; · iexact Hlev
    isplitl [C1 D1]
    · isplitl [C1]; · iexact C1
      iexact D1
    iexact HO
  iintro ⟨L1, HO⟩
  iapply (ag_wait (PVi ki vi woi qi) (POi ki vi woi qi) K 0 1 c ?gw ?gN) $$ [C2 D2 HO]
  case gw => exact sem_at' 2 2 (by decide)
  case gN => rfl
  · isplitr; · iexact HI
    isplitr; · iexact Hlev
    isplitl [C2 D2]
    · isplitl [C2]; · iexact C2
      iexact D2
    iexact HO
  iintro ⟨L2, HO⟩
  iapply ret_wp
  iapply Hk
  unfold Left
  iframe

end Cert.KernelIdeal.Talk
-- ==== Proof.Steps01.lean ====
module

public import proofs.«01_k».proof.Proof.Hold

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # The first two chunks -/
set_option sl_exec.parts true in
/-- Chunk 0: the heads, the partial product, and what is done with it. -/
theorem step0 (ki vi woi qi : Dev nD → FVec F S1024x1024 .bf16) (K : GSem nD τ sig → ℕ) (c : Dev nD) (l : List (GSem nD τ sig))
    {α : Type} (Kn : (Σ' (v255 : IVec S128x256 32) (v256 : IVec S128x256 32) (v258 : IVec S128x256 32) (v272 : IVec S128x256 1), IVec S128x256 32) → Prog (TpuEff nD τ sig (Elt F) Λ₀ .tc) α) {Q : α → sProp 𝕄} :
    (iprop(Inv (PVi ki vi woi qi) (RV (PVi ki vi woi qi) (POi ki vi woi qi)) K ∗ Rch c ∗ Work (qi c) 0 c (rsL 0 c ++ l)) : sProp 𝕄)
      ⊢ iprop(((Done (PVi ki vi woi qi) (POi ki vi woi qi) (qi c) 0 c l) -∗ wp frame (wpE (defs₀ (F := F)) 𝒱₀ (c : Thread nD τ) none) Set.univ (Kn ⟨k0_pay40, (iota .tc S128x256 32 [1] iota_S128x256_d1_w32), k0_pay41, k0_pay42, k0_pay43⟩) Q)
        -∗ wp frame (wpE (defs₀ (F := F)) 𝒱₀ (c : Thread nD τ) none) Set.univ (do
          let ⟨v88, v109, v111⟩ ← k0_part19 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) k0_pay21 (iota .tc S128x128 32 [1] iota_S128x128_d1_w32) 64#32 k0_pay22 k0_pay23
          let v152 ← k0_part20 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v88 v109 v111
          let ⟨v189, v191⟩ ← k0_part21 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v88 v152
          let ⟨v227, c0_i32_99⟩ ← k0_part22 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (myw c) (ki c) (vi c) (woi c) v88 v189 v191
          let r ← k0_part23 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c (myw c) v227 c0_i32_99
          Kn r) Q) := by
  unfold Work Done CT Qc
  iintro ⟨#HI, #HR, ⟨Hq, ⟨%f7, Hct⟩, H9, H8, HO⟩⟩ Hk
  sl_exec_parts
  iapply load_any $$ H9
  iintro %X H9
  iapply store_any $$ H9
  iintro H9
  iapply (ownstore_if 0 c (own_is 0 c) (POi ki vi woi qi c 0)) $$ H8
  iintro ⟨H8, Ht⟩
  sl_exec_parts
  iapply (send_if (PVi ki vi woi qi) (POi ki vi woi qi) K 0 c (snd0 c) _ _ rfl _ ?gX ?gn ?go ?go' ?gS ?gR) $$ [H9 Ht HO]
  case gX => rfl
  case gn => exact snd0d c
  case go => exact fun _ => rfl
  case go' => exact snd0o c
  case gS => exact fun _ => sem_at 0 0 rfl
  case gR => exact fun h => sem_at 1 _ (snd0s c h)
  · isplitr; · iexact HI
    isplitr; · iexact HR
    isplitl [H9]; · iexact H9
    isplitl [Ht]; · iexact Ht
    iexact HO
  iintro ⟨Hs, HO⟩
  iapply ret_wp
  iapply Hk
  isplitl [Hq]; · iexact Hq
  isplitl [Hct]; · iexists _; iexact Hct
  isplitl [H8]; · iexact H8
  isplitl [Hs]; · iexact Hs
  iexact HO

set_option sl_exec.parts true in
/-- Chunk 1: the heads, the partial product, and what is done with it. -/
theorem step1 (ki vi woi qi : Dev nD → FVec F S1024x1024 .bf16) (K : GSem nD τ sig → ℕ) (c : Dev nD) (l : List (GSem nD τ sig))
    {α : Type} (Kn : (Σ' (v427 : IVec S128x384 32) (c64_i32_181 : BitVec 32) (v429 : IVec S128x384 32), BitVec 32) → Prog (TpuEff nD τ sig (Elt F) Λ₀ .tc) α) {Q : α → sProp 𝕄} :
    (iprop(Inv (PVi ki vi woi qi) (RV (PVi ki vi woi qi) (POi ki vi woi qi)) K ∗ Rch c ∗ Work (qi c) 1 c (rsL 1 c ++ l)) : sProp 𝕄)
      ⊢ iprop(((Done (PVi ki vi woi qi) (POi ki vi woi qi) (qi c) 1 c l) -∗ wp frame (wpE (defs₀ (F := F)) 𝒱₀ (c : Thread nD τ) none) Set.univ (Kn ⟨k0_pay59, 64#32, k0_pay60, 0#32⟩) Q)
        -∗ wp frame (wpE (defs₀ (F := F)) 𝒱₀ (c : Thread nD τ) none) Set.univ (do
          let ⟨v284, v313, v314⟩ ← k0_part24 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) k0_pay40 (iota .tc S128x256 32 [1] iota_S128x256_d1_w32) k0_pay41 k0_pay42 k0_pay43
          let v353 ← k0_part25 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v284 v313 v314
          let ⟨v393, v394⟩ ← k0_part26 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v284 v353
          let r ← k0_part27 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c (myw c) (ki c) (vi c) (woi c) v284 v393 v394
          Kn r) Q) := by
  unfold Work Done CT Qc
  iintro ⟨#HI, #HR, ⟨Hq, ⟨%f7, Hct⟩, H9, H8, HO⟩⟩ Hk
  sl_exec_parts
  iapply load_any $$ H9
  iintro %X H9
  iapply store_any $$ H9
  iintro H9
  iapply (ownstore_if 1 c (own_is 1 c) (POi ki vi woi qi c 1)) $$ H8
  iintro ⟨H8, Ht⟩
  iapply (send_if (PVi ki vi woi qi) (POi ki vi woi qi) K 1 c (snd1 c) _ _ rfl _ ?gX ?gn ?go ?go' ?gS ?gR) $$ [H9 Ht HO]
  case gX => rfl
  case gn => exact snd1d c
  case go => exact fun _ => rfl
  case go' => exact snd1o c
  case gS => exact fun _ => sem_at 0 1 rfl
  case gR => exact fun h => sem_at 1 _ (snd1s c h)
  · isplitr; · iexact HI
    isplitr; · iexact HR
    isplitl [H9]; · iexact H9
    isplitl [Ht]; · iexact Ht
    iexact HO
  iintro ⟨Hs, HO⟩
  iapply ret_wp
  iapply Hk
  isplitl [Hq]; · iexact Hq
  isplitl [Hct]; · iexists _; iexact Hct
  isplitl [H8]; · iexact H8
  isplitl [Hs]; · iexact Hs
  iexact HO

end Cert.KernelIdeal.Talk
-- ==== Proof.Steps23.lean ====
module

public import proofs.«01_k».proof.Proof.Hold

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # Chunks 2 and 3 -/
set_option sl_exec.parts true in
/-- Chunk 2: the heads, the partial product, and what is done with it. -/
theorem step2 (ki vi woi qi : Dev nD → FVec F S1024x1024 .bf16) (K : GSem nD τ sig → ℕ) (c : Dev nD) (l : List (GSem nD τ sig)) (hl : Above 2 (agL 0 c ++ l))
    {α : Type} (Kn : (Σ' (v626 : IVec S128x512 32) (c64_i32_264 : BitVec 32) (v628 : IVec S128x512 32) (v631 : IVec S128x512 32), BitVec 32) → Prog (TpuEff nD τ sig (Elt F) Λ₀ .tc) α) {Q : α → sProp 𝕄} :
    (iprop(Inv (PVi ki vi woi qi) (RV (PVi ki vi woi qi) (POi ki vi woi qi)) K ∗ levAts L lv ∗ Rch c ∗ Work (qi c) 2 c (rsL 2 c ++ (agL 0 c ++ l)) ∗ Sum0 (PVi ki vi woi qi) (POi ki vi woi qi) 0 c) : sProp 𝕄)
      ⊢ iprop(((Done (PVi ki vi woi qi) (POi ki vi woi qi) (qi c) 2 c l ∗ Sum1 (PVi ki vi woi qi) (POi ki vi woi qi) 0 c) -∗ wp frame (wpE (defs₀ (F := F)) 𝒱₀ (c : Thread nD τ) none) Set.univ (Kn ⟨k0_pay77, 64#32, k0_pay78, k0_pay79, 0#32⟩) Q)
        -∗ wp frame (wpE (defs₀ (F := F)) 𝒱₀ (c : Thread nD τ) none) Set.univ (do
          let v477 ← k0_part28 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 k0_pay59 64#32 k0_pay60 0#32
          let ⟨v480, v516⟩ ← k0_part29 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v477
          let v557 ← k0_part30 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v480 v516
          let v596 ← k0_part31 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v480 v557
          let r ← k0_part32 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c (myw c) (vi c) (woi c) v596
          Kn r) Q) := by
  unfold Work Done Sum0 Sum1 CT Qc
  iintro ⟨#HI, #Hlev, #HR, ⟨Hq, ⟨%f7, Hct⟩, H9, H8, HO⟩, ⟨Hw, Hp, Hu⟩⟩ Hk
  sl_exec_parts
  iapply load_any $$ H9
  iintro %X H9
  iapply store_any $$ H9
  iintro H9
  iapply (ownstore_if 2 c (own_is 2 c) (POi ki vi woi qi c 2)) $$ H8
  iintro ⟨H8, Ht⟩
  iapply (send_if (PVi ki vi woi qi) (POi ki vi woi qi) K 2 c (snd2 c) _ _ rfl _ ?gX ?gn ?go ?go' ?gS ?gR) $$ [H9 Ht HO]
  case gX => rfl
  case gn => exact snd2d c
  case go => exact fun _ => rfl
  case go' => exact snd2o c
  case gS => exact fun _ => sem_at 0 2 rfl
  case gR => exact fun h => sem_at 1 _ (snd2s c h)
  · isplitr; · iexact HI
    isplitr; · iexact HR
    isplitl [H9]; · iexact H9
    isplitl [Ht]; · iexact Ht
    iexact HO
  iintro ⟨Hs, HO⟩
  iapply (reduce_if (PVi ki vi woi qi) (POi ki vi woi qi) K 0 c (spr0 c) _ _ rfl (red_lv 0 c hl) ?gf ?gg ?w0 ?w1 ?w2 ?N0 ?N1 ?N2 (spr0d0 c) (spr0d1 c) (spr0d2 c) ?S0 ?S1 ?S2 ?R0 ?R1 ?R2) $$ [Hw Hp Hu HO]
  case gf => rfl
  case gg => rfl
  case w0 => exact fun _ => sem_at' 1 (at4 (par 0) 0) (by decide)
  case w1 => exact fun _ => sem_at' 1 (at4 (par 0) 1) (by decide)
  case w2 => exact fun _ => sem_at' 1 (at4 (par 0) 2) (by decide)
  case N0 => exact fun _ => rfl
  case N1 => exact fun _ => rfl
  case N2 => exact fun _ => rfl
  case S0 => exact fun _ => sem_at' 2 (at4 (par 0) 0) (by decide)
  case S1 => exact fun _ => sem_at' 2 (at4 (par 0) 1) (by decide)
  case S2 => exact fun _ => sem_at' 2 (at4 (par 0) 2) (by decide)
  case R0 => exact fun _ => sem_at' 3 0 (by decide)
  case R1 => exact fun _ => sem_at' 3 0 (by decide)
  case R2 => exact fun _ => sem_at' 3 0 (by decide)
  · isplitr; · iexact HI
    isplitr; · iexact Hlev
    isplitr; · iexact HR
    isplitl [Hw]; · iexact Hw
    isplitl [Hp]; · iexact Hp
    isplitl [Hu]; · iexact Hu
    iexact HO
  iintro ⟨Hp, Hu, HO⟩
  iapply ret_wp
  iapply Hk
  isplitr [Hp Hu]
  · isplitl [Hq]; · iexact Hq
    isplitl [Hct]; · iexists _; iexact Hct
    isplitl [H8]; · iexact H8
    isplitl [Hs]; · iexact Hs
    iexact HO
  isplitl [Hp]; · iexact Hp
  iexact Hu

set_option sl_exec.parts true in
/-- Chunk 3: the heads, the partial product, and what is done with it. -/
theorem step3 (ki vi woi qi : Dev nD → FVec F S1024x1024 .bf16) (K : GSem nD τ sig → ℕ) (c : Dev nD) (l : List (GSem nD τ sig)) (hl : Above 3 (agL 1 c ++ l))
    {α : Type} (Kn : (Σ' (v825 : IVec S128x640 32) (c64_i32_347 : BitVec 32) (v827 : IVec S128x640 32), IVec S128x640 32) → Prog (TpuEff nD τ sig (Elt F) Λ₀ .tc) α) {Q : α → sProp 𝕄} :
    (iprop(Inv (PVi ki vi woi qi) (RV (PVi ki vi woi qi) (POi ki vi woi qi)) K ∗ levAts L lv ∗ Rch c ∗ Work (qi c) 3 c (rsL 3 c ++ (agL 1 c ++ l)) ∗ Sum0 (PVi ki vi woi qi) (POi ki vi woi qi) 1 c) : sProp 𝕄)
      ⊢ iprop(((Done (PVi ki vi woi qi) (POi ki vi woi qi) (qi c) 3 c l ∗ Sum1 (PVi ki vi woi qi) (POi ki vi woi qi) 1 c) -∗ wp frame (wpE (defs₀ (F := F)) 𝒱₀ (c : Thread nD τ) none) Set.univ (Kn ⟨k0_pay99, 64#32, k0_pay100, k0_pay101⟩) Q)
        -∗ wp frame (wpE (defs₀ (F := F)) 𝒱₀ (c : Thread nD τ) none) Set.univ (do
          let ⟨v676, v677, v678⟩ ← k0_part33 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 k0_pay77 64#32 k0_pay78 k0_pay79 0#32
          let ⟨v679, v716, v718⟩ ← k0_part34 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v676 v677 v678
          let v759 ← k0_part35 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v679 v716 v718
          let ⟨v796, v798⟩ ← k0_part36 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v679 v759
          let r ← k0_part37 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c (myw c) (vi c) (woi c) v796 v798
          Kn r) Q) := by
  unfold Work Done Sum0 Sum1 CT Qc
  iintro ⟨#HI, #Hlev, #HR, ⟨Hq, ⟨%f7, Hct⟩, H9, H8, HO⟩, ⟨Hw, Hp, Hu⟩⟩ Hk
  sl_exec_parts
  iapply load_any $$ H9
  iintro %X H9
  iapply store_any $$ H9
  iintro H9
  iapply (ownstore_if 3 c (own_is 3 c) (POi ki vi woi qi c 3)) $$ H8
  iintro ⟨H8, Ht⟩
  iapply (send_if (PVi ki vi woi qi) (POi ki vi woi qi) K 3 c (snd3 c) _ _ rfl _ ?gX ?gn ?go ?go' ?gS ?gR) $$ [H9 Ht HO]
  case gX => rfl
  case gn => exact snd3d c
  case go => exact fun _ => rfl
  case go' => exact snd3o c
  case gS => exact fun _ => sem_at 0 3 rfl
  case gR => exact fun h => sem_at 1 _ (snd3s c h)
  · isplitr; · iexact HI
    isplitr; · iexact HR
    isplitl [H9]; · iexact H9
    isplitl [Ht]; · iexact Ht
    iexact HO
  iintro ⟨Hs, HO⟩
  iapply (reduce_if (PVi ki vi woi qi) (POi ki vi woi qi) K 1 c (spr1 c) _ _ rfl (red_lv 1 c hl) ?gf ?gg ?w0 ?w1 ?w2 ?N0 ?N1 ?N2 (spr1d0 c) (spr1d1 c) (spr1d2 c) ?S0 ?S1 ?S2 ?R0 ?R1 ?R2) $$ [Hw Hp Hu HO]
  case gf => rfl
  case gg => rfl
  case w0 => exact fun _ => sem_at' 1 (at4 (par 1) 0) (by decide)
  case w1 => exact fun _ => sem_at' 1 (at4 (par 1) 1) (by decide)
  case w2 => exact fun _ => sem_at' 1 (at4 (par 1) 2) (by decide)
  case N0 => exact fun _ => rfl
  case N1 => exact fun _ => rfl
  case N2 => exact fun _ => rfl
  case S0 => exact fun _ => sem_at' 2 (at4 (par 1) 0) (by decide)
  case S1 => exact fun _ => sem_at' 2 (at4 (par 1) 1) (by decide)
  case S2 => exact fun _ => sem_at' 2 (at4 (par 1) 2) (by decide)
  case R0 => exact fun _ => sem_at' 3 1 (by decide)
  case R1 => exact fun _ => sem_at' 3 1 (by decide)
  case R2 => exact fun _ => sem_at' 3 1 (by decide)
  · isplitr; · iexact HI
    isplitr; · iexact Hlev
    isplitr; · iexact HR
    isplitl [Hw]; · iexact Hw
    isplitl [Hp]; · iexact Hp
    isplitl [Hu]; · iexact Hu
    iexact HO
  iintro ⟨Hp, Hu, HO⟩
  iapply ret_wp
  iapply Hk
  isplitr [Hp Hu]
  · isplitl [Hq]; · iexact Hq
    isplitl [Hct]; · iexists _; iexact Hct
    isplitl [H8]; · iexact H8
    isplitl [Hs]; · iexact Hs
    iexact HO
  isplitl [Hp]; · iexact Hp
  iexact Hu

end Cert.KernelIdeal.Talk
-- ==== Proof.Steps45.lean ====
module

public import proofs.«01_k».proof.Proof.Hold

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # Chunks 4 and 5 -/
set_option sl_exec.parts true in
/-- Chunk 4: the heads, the partial product, and what is done with it. -/
theorem step4 (ki vi woi qi : Dev nD → FVec F S1024x1024 .bf16) (K : GSem nD τ sig → ℕ) (c : Dev nD) (l : List (GSem nD τ sig)) (hl : Above 4 (agL 2 c ++ l))
    {α : Type} (Kn : (Σ' (v1024 : IVec S128x768 32) (c64_i32_430 : BitVec 32) (v1026 : IVec S128x768 32) (v1033 : IVec S128x768 32) (v1035 : BitVec 32), BitVec 32) → Prog (TpuEff nD τ sig (Elt F) Λ₀ .tc) α) {Q : α → sProp 𝕄} :
    (iprop(Inv (PVi ki vi woi qi) (RV (PVi ki vi woi qi) (POi ki vi woi qi)) K ∗ levAts L lv ∗ Rch c ∗ Work (qi c) 4 c (rsL 4 c ++ (agL 2 c ++ l)) ∗ Sum0 (PVi ki vi woi qi) (POi ki vi woi qi) 2 c) : sProp 𝕄)
      ⊢ iprop(((Done (PVi ki vi woi qi) (POi ki vi woi qi) (qi c) 4 c l ∗ Sum1 (PVi ki vi woi qi) (POi ki vi woi qi) 2 c) -∗ wp frame (wpE (defs₀ (F := F)) 𝒱₀ (c : Thread nD τ) none) Set.univ (Kn ⟨k0_pay120, 64#32, k0_pay121, k0_pay122, (Scalar.extui (Scalar.cmpi .sgt 64#32 0#32)), 0#32⟩) Q)
        -∗ wp frame (wpE (defs₀ (F := F)) 𝒱₀ (c : Thread nD τ) none) Set.univ (do
          let ⟨v878, v879⟩ ← k0_part38 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 k0_pay99 64#32 k0_pay100 k0_pay101
          let ⟨v917, v920⟩ ← k0_part39 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v878 v879
          let v959 ← k0_part40 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v878 v917 v920
          let ⟨v997, v1000⟩ ← k0_part41 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v878 v959
          let r ← k0_part42 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c (myw c) (woi c) v997 v1000
          Kn r) Q) := by
  unfold Work Done Sum0 Sum1 CT Qc
  iintro ⟨#HI, #Hlev, #HR, ⟨Hq, ⟨%f7, Hct⟩, H9, H8, HO⟩, ⟨Hw, Hp, Hu⟩⟩ Hk
  sl_exec_parts
  iapply load_any $$ H9
  iintro %X H9
  iapply store_any $$ H9
  iintro H9
  iapply (ownstore_if 4 c (own_is 4 c) (POi ki vi woi qi c 4)) $$ H8
  iintro ⟨H8, Ht⟩
  iapply (send_if (PVi ki vi woi qi) (POi ki vi woi qi) K 4 c (snd4 c) _ _ rfl _ ?gX ?gn ?go ?go' ?gS ?gR) $$ [H9 Ht HO]
  case gX => rfl
  case gn => exact snd4d c
  case go => exact fun _ => rfl
  case go' => exact snd4o c
  case gS => exact fun _ => sem_at 0 4 rfl
  case gR => exact fun h => sem_at 1 _ (snd4s c h)
  · isplitr; · iexact HI
    isplitr; · iexact HR
    isplitl [H9]; · iexact H9
    isplitl [Ht]; · iexact Ht
    iexact HO
  iintro ⟨Hs, HO⟩
  iapply (reduce_if (PVi ki vi woi qi) (POi ki vi woi qi) K 2 c (spr2 c) _ _ rfl (red_lv 2 c hl) ?gf ?gg ?w0 ?w1 ?w2 ?N0 ?N1 ?N2 (spr2d0 c) (spr2d1 c) (spr2d2 c) ?S0 ?S1 ?S2 ?R0 ?R1 ?R2) $$ [Hw Hp Hu HO]
  case gf => rfl
  case gg => rfl
  case w0 => exact fun _ => sem_at' 1 (at4 (par 2) 0) (by decide)
  case w1 => exact fun _ => sem_at' 1 (at4 (par 2) 1) (by decide)
  case w2 => exact fun _ => sem_at' 1 (at4 (par 2) 2) (by decide)
  case N0 => exact fun _ => rfl
  case N1 => exact fun _ => rfl
  case N2 => exact fun _ => rfl
  case S0 => exact fun _ => sem_at' 2 (at4 (par 2) 0) (by decide)
  case S1 => exact fun _ => sem_at' 2 (at4 (par 2) 1) (by decide)
  case S2 => exact fun _ => sem_at' 2 (at4 (par 2) 2) (by decide)
  case R0 => exact fun _ => sem_at' 3 2 (by decide)
  case R1 => exact fun _ => sem_at' 3 2 (by decide)
  case R2 => exact fun _ => sem_at' 3 2 (by decide)
  · isplitr; · iexact HI
    isplitr; · iexact Hlev
    isplitr; · iexact HR
    isplitl [Hw]; · iexact Hw
    isplitl [Hp]; · iexact Hp
    isplitl [Hu]; · iexact Hu
    iexact HO
  iintro ⟨Hp, Hu, HO⟩
  iapply ret_wp
  iapply Hk
  isplitr [Hp Hu]
  · isplitl [Hq]; · iexact Hq
    isplitl [Hct]; · iexists _; iexact Hct
    isplitl [H8]; · iexact H8
    isplitl [Hs]; · iexact Hs
    iexact HO
  isplitl [Hp]; · iexact Hp
  iexact Hu

set_option sl_exec.parts true in
/-- Chunk 5: the heads, the partial product, and what is done with it. -/
theorem step5 (ki vi woi qi : Dev nD → FVec F S1024x1024 .bf16) (K : GSem nD τ sig → ℕ) (c : Dev nD) (l : List (GSem nD τ sig)) (hl : Above 5 (agL 3 c ++ l))
    {α : Type} (Kn : (Σ' (v1223 : IVec S128x896 32) (c64_i32_513 : BitVec 32) (v1225 : IVec S128x896 32) (v1232 : IVec S128x896 32), IVec S128x896 32) → Prog (TpuEff nD τ sig (Elt F) Λ₀ .tc) α) {Q : α → sProp 𝕄} :
    (iprop(Inv (PVi ki vi woi qi) (RV (PVi ki vi woi qi) (POi ki vi woi qi)) K ∗ levAts L lv ∗ Rch c ∗ Work (qi c) 5 c (rsL 5 c ++ (agL 3 c ++ l)) ∗ Sum0 (PVi ki vi woi qi) (POi ki vi woi qi) 3 c) : sProp 𝕄)
      ⊢ iprop(((Done (PVi ki vi woi qi) (POi ki vi woi qi) (qi c) 5 c l ∗ Sum1 (PVi ki vi woi qi) (POi ki vi woi qi) 3 c) -∗ wp frame (wpE (defs₀ (F := F)) 𝒱₀ (c : Thread nD τ) none) Set.univ (Kn ⟨k0_pay139, 64#32, k0_pay140, k0_pay141, k0_pay142⟩) Q)
        -∗ wp frame (wpE (defs₀ (F := F)) 𝒱₀ (c : Thread nD τ) none) Set.univ (do
          let ⟨v1077, v1081⟩ ← k0_part43 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) k0_pay120 64#32 k0_pay121 k0_pay122 (Scalar.extui (Scalar.cmpi .sgt 64#32 0#32)) 0#32
          let v1122 ← k0_part44 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v1077 v1081
          let v1161 ← k0_part45 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v1077 v1122
          let v1202 ← k0_part46 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v1077 v1161
          let r ← k0_part47 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c (myw c) (woi c) v1202
          Kn r) Q) := by
  unfold Work Done Sum0 Sum1 CT Qc
  iintro ⟨#HI, #Hlev, #HR, ⟨Hq, ⟨%f7, Hct⟩, H9, H8, HO⟩, ⟨Hw, Hp, Hu⟩⟩ Hk
  sl_exec_parts
  iapply load_any $$ H9
  iintro %X H9
  iapply store_any $$ H9
  iintro H9
  iapply (ownstore_if 5 c (own_is 5 c) (POi ki vi woi qi c 5)) $$ H8
  iintro ⟨H8, Ht⟩
  iapply (send_if (PVi ki vi woi qi) (POi ki vi woi qi) K 5 c (snd5 c) _ _ rfl _ ?gX ?gn ?go ?go' ?gS ?gR) $$ [H9 Ht HO]
  case gX => rfl
  case gn => exact snd5d c
  case go => exact fun _ => rfl
  case go' => exact snd5o c
  case gS => exact fun _ => sem_at 0 5 rfl
  case gR => exact fun h => sem_at 1 _ (snd5s c h)
  · isplitr; · iexact HI
    isplitr; · iexact HR
    isplitl [H9]; · iexact H9
    isplitl [Ht]; · iexact Ht
    iexact HO
  iintro ⟨Hs, HO⟩
  iapply (reduce_if (PVi ki vi woi qi) (POi ki vi woi qi) K 3 c (spr3 c) _ _ rfl (red_lv 3 c hl) ?gf ?gg ?w0 ?w1 ?w2 ?N0 ?N1 ?N2 (spr3d0 c) (spr3d1 c) (spr3d2 c) ?S0 ?S1 ?S2 ?R0 ?R1 ?R2) $$ [Hw Hp Hu HO]
  case gf => rfl
  case gg => rfl
  case w0 => exact fun _ => sem_at' 1 (at4 (par 3) 0) (by decide)
  case w1 => exact fun _ => sem_at' 1 (at4 (par 3) 1) (by decide)
  case w2 => exact fun _ => sem_at' 1 (at4 (par 3) 2) (by decide)
  case N0 => exact fun _ => rfl
  case N1 => exact fun _ => rfl
  case N2 => exact fun _ => rfl
  case S0 => exact fun _ => sem_at' 2 (at4 (par 3) 0) (by decide)
  case S1 => exact fun _ => sem_at' 2 (at4 (par 3) 1) (by decide)
  case S2 => exact fun _ => sem_at' 2 (at4 (par 3) 2) (by decide)
  case R0 => exact fun _ => sem_at' 3 3 (by decide)
  case R1 => exact fun _ => sem_at' 3 3 (by decide)
  case R2 => exact fun _ => sem_at' 3 3 (by decide)
  · isplitr; · iexact HI
    isplitr; · iexact Hlev
    isplitr; · iexact HR
    isplitl [Hw]; · iexact Hw
    isplitl [Hp]; · iexact Hp
    isplitl [Hu]; · iexact Hu
    iexact HO
  iintro ⟨Hp, Hu, HO⟩
  iapply ret_wp
  iapply Hk
  isplitr [Hp Hu]
  · isplitl [Hq]; · iexact Hq
    isplitl [Hct]; · iexists _; iexact Hct
    isplitl [H8]; · iexact H8
    isplitl [Hs]; · iexact Hs
    iexact HO
  isplitl [Hp]; · iexact Hp
  iexact Hu

end Cert.KernelIdeal.Talk
-- ==== Proof.Step6.lean ====
module

public import proofs.«01_k».proof.Proof.Hold

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # Chunk 6 -/
set_option sl_exec.parts true in
/-- Chunk 6: the heads, the partial product, and what is done with it. -/
theorem step6 (ki vi woi qi : Dev nD → FVec F S1024x1024 .bf16) (K : GSem nD τ sig → ℕ) (c : Dev nD) (l : List (GSem nD τ sig)) (hl : Above 6 (agL 4 c ++ l))
    {α : Type} (Kn : (Σ' (v1424 : IVec S128x1024 32) (v1438 : IVec S128x1024 1) (v1440 : IVec S128x1024 32), BitVec 32) → Prog (TpuEff nD τ sig (Elt F) Λ₀ .tc) α) {Q : α → sProp 𝕄} :
    (iprop(Inv (PVi ki vi woi qi) (RV (PVi ki vi woi qi) (POi ki vi woi qi)) K ∗ levAts L lv ∗ Rch c ∗ Work (qi c) 6 c (rsL 6 c ++ (agL 4 c ++ l)) ∗ Sum0 (PVi ki vi woi qi) (POi ki vi woi qi) 4 c) : sProp 𝕄)
      ⊢ iprop(((Done (PVi ki vi woi qi) (POi ki vi woi qi) (qi c) 6 c l ∗ Sum1 (PVi ki vi woi qi) (POi ki vi woi qi) 4 c) -∗ wp frame (wpE (defs₀ (F := F)) 𝒱₀ (c : Thread nD τ) none) Set.univ (Kn ⟨k0_pay160, k0_pay161, k0_pay162, 0#32⟩) Q)
        -∗ wp frame (wpE (defs₀ (F := F)) 𝒱₀ (c : Thread nD τ) none) Set.univ (do
          let ⟨v1276, v1281, v1283⟩ ← k0_part48 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) k0_pay139 64#32 k0_pay140 k0_pay141 k0_pay142
          let v1324 ← k0_part49 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v1276 v1281 v1283
          let ⟨v1361, v1363⟩ ← k0_part50 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v1276 v1324
          let v1404 ← k0_part51 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v1276 v1361 v1363
          let r ← k0_part52 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c (myw c) (woi c) v1404
          Kn r) Q) := by
  unfold Work Done Sum0 Sum1 CT Qc
  iintro ⟨#HI, #Hlev, #HR, ⟨Hq, ⟨%f7, Hct⟩, H9, H8, HO⟩, ⟨Hw, Hp, Hu⟩⟩ Hk
  sl_exec_parts
  iapply load_any $$ H9
  iintro %X H9
  iapply store_any $$ H9
  iintro H9
  iapply (ownstore_if 6 c (own_is 6 c) (POi ki vi woi qi c 6)) $$ H8
  iintro ⟨H8, Ht⟩
  iapply (send_if (PVi ki vi woi qi) (POi ki vi woi qi) K 6 c (snd6 c) _ _ rfl _ ?gX ?gn ?go ?go' ?gS ?gR) $$ [H9 Ht HO]
  case gX => rfl
  case gn => exact snd6d c
  case go => exact fun _ => rfl
  case go' => exact snd6o c
  case gS => exact fun _ => sem_at 0 6 rfl
  case gR => exact fun h => sem_at 1 _ (snd6s c h)
  · isplitr; · iexact HI
    isplitr; · iexact HR
    isplitl [H9]; · iexact H9
    isplitl [Ht]; · iexact Ht
    iexact HO
  iintro ⟨Hs, HO⟩
  iapply (reduce_if (PVi ki vi woi qi) (POi ki vi woi qi) K 4 c (spr4 c) _ _ rfl (red_lv 4 c hl) ?gf ?gg ?w0 ?w1 ?w2 ?N0 ?N1 ?N2 (spr4d0 c) (spr4d1 c) (spr4d2 c) ?S0 ?S1 ?S2 ?R0 ?R1 ?R2) $$ [Hw Hp Hu HO]
  case gf => rfl
  case gg => rfl
  case w0 => exact fun _ => sem_at' 1 (at4 (par 4) 0) (by decide)
  case w1 => exact fun _ => sem_at' 1 (at4 (par 4) 1) (by decide)
  case w2 => exact fun _ => sem_at' 1 (at4 (par 4) 2) (by decide)
  case N0 => exact fun _ => rfl
  case N1 => exact fun _ => rfl
  case N2 => exact fun _ => rfl
  case S0 => exact fun _ => sem_at' 2 (at4 (par 4) 0) (by decide)
  case S1 => exact fun _ => sem_at' 2 (at4 (par 4) 1) (by decide)
  case S2 => exact fun _ => sem_at' 2 (at4 (par 4) 2) (by decide)
  case R0 => exact fun _ => sem_at' 3 4 (by decide)
  case R1 => exact fun _ => sem_at' 3 4 (by decide)
  case R2 => exact fun _ => sem_at' 3 4 (by decide)
  · isplitr; · iexact HI
    isplitr; · iexact Hlev
    isplitr; · iexact HR
    isplitl [Hw]; · iexact Hw
    isplitl [Hp]; · iexact Hp
    isplitl [Hu]; · iexact Hu
    iexact HO
  iintro ⟨Hp, Hu, HO⟩
  iapply ret_wp
  iapply Hk
  isplitr [Hp Hu]
  · isplitl [Hq]; · iexact Hq
    isplitl [Hct]; · iexists _; iexact Hct
    isplitl [H8]; · iexact H8
    isplitl [Hs]; · iexact Hs
    iexact HO
  isplitl [Hp]; · iexact Hp
  iexact Hu

end Cert.KernelIdeal.Talk
-- ==== Proof.Step7.lean ====
module

public import proofs.«01_k».proof.Proof.Hold

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # Chunk 7 -/
set_option sl_exec.parts true in
set_option maxHeartbeats 1000000 in
/-- Chunk 7, then the last three sums, then the first three chunks that arrive. -/
theorem step7 (ki vi woi qi : Dev nD → FVec F S1024x1024 .bf16) (K : GSem nD τ sig → ℕ) (c : Dev nD)
    {α : Type} (Kn : BitVec 1 → Prog (TpuEff nD τ sig (Elt F) Λ₀ .tc) α) {Q : α → sProp 𝕄} :
    (iprop(Inv (PVi ki vi woi qi) (RV (PVi ki vi woi qi) (POi ki vi woi qi)) K ∗ levAts L lv ∗ Rch c ∗ Work (qi c) 7 c (rsL 7 c ++ tailL c)
        ∗ Sum0 (PVi ki vi woi qi) (POi ki vi woi qi) 5 c ∗ Sum0 (PVi ki vi woi qi) (POi ki vi woi qi) 6 c ∗ (REDpre 7 c ∗ Any outM (rO 7) c fullShare)
        ∗ Recv0 (PVi ki vi woi qi) (POi ki vi woi qi) 0 c ∗ Recv0 (PVi ki vi woi qi) (POi ki vi woi qi) 1 c ∗ Recv0 (PVi ki vi woi qi) (POi ki vi woi qi) 2 c) : sProp 𝕄)
      ⊢ iprop((((Qc (qi c) c ∗ CT c ∗ Sent 7 c) ∗ Sum1 (PVi ki vi woi qi) (POi ki vi woi qi) 5 c ∗ Sum1 (PVi ki vi woi qi) (POi ki vi woi qi) 6 c ∗ Sum1 (PVi ki vi woi qi) (POi ki vi woi qi) 7 c
          ∗ Recv1 (PVi ki vi woi qi) (POi ki vi woi qi) 0 c ∗ Recv1 (PVi ki vi woi qi) (POi ki vi woi qi) 1 c ∗ Recv1 (PVi ki vi woi qi) (POi ki vi woi qi) 2 c ∗ OW c [])
          -∗ wp frame (wpE (defs₀ (F := F)) 𝒱₀ (c : Thread nD τ) none) Set.univ (Kn (Scalar.cmpi .ne (myw c) 1#32)) Q)
        -∗ wp frame (wpE (defs₀ (F := F)) 𝒱₀ (c : Thread nD τ) none) Set.univ (do
          let ⟨v1475, v1482, v1485⟩ ← k0_part53 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) k0_pay160 k0_pay161 k0_pay162 0#32
          let v1524 ← k0_part54 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v1475 v1482 v1485
          let ⟨v1562, v1565⟩ ← k0_part55 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v1475 v1524
          let v1604 ← k0_part56 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (ki c) (vi c) v1475 v1562 v1565
          let r ← k0_part57 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c (myw c) (woi c) v1604
          Kn r) Q) := by
  unfold Work Sum0 Sum1 Recv0 Recv1 CT Qc tailL
  iintro ⟨#HI, #Hlev, #HR, ⟨Hq, ⟨%f7, Hct⟩, H9, H8, HO⟩, ⟨Hw5, Hp5, Hu5⟩, ⟨Hw6, Hp6, Hu6⟩, ⟨Hp7, Hu7⟩, ⟨Hi0, Hu0⟩, ⟨Hi1, Hu1⟩, ⟨Hi2, Hu2⟩⟩ Hk
  sl_exec_parts
  iapply load_any $$ H9
  iintro %X H9
  iapply store_any $$ H9
  iintro H9
  iapply (ownstore_if 7 c (own_is 7 c) (POi ki vi woi qi c 7)) $$ H8
  iintro ⟨H8, Ht⟩
  iapply (send_if (PVi ki vi woi qi) (POi ki vi woi qi) K 7 c (snd7 c) _ _ rfl _ ?gX ?gn ?go ?go' ?gS ?gR) $$ [H9 Ht HO]
  case gX => rfl
  case gn => exact snd7d c
  case go => exact fun _ => rfl
  case go' => exact snd7o c
  case gS => exact fun _ => sem_at 0 7 rfl
  case gR => exact fun h => sem_at 1 _ (snd7s c h)
  · isplitr; · iexact HI
    isplitr; · iexact HR
    isplitl [H9]; · iexact H9
    isplitl [Ht]; · iexact Ht
    iexact HO
  iintro ⟨Hs, HO⟩
  iapply (reduce_if (PVi ki vi woi qi) (POi ki vi woi qi) K 5 c (spr5 c) _ _ rfl (red_lv 5 c (above_tail 7 (by decide) c)) ?gf ?gg ?w0 ?w1 ?w2 ?N0 ?N1 ?N2 (spr5d0 c) (spr5d1 c) (spr5d2 c) ?S0 ?S1 ?S2 ?R0 ?R1 ?R2) $$ [Hw5 Hp5 Hu5 HO]
  case gf => rfl
  case gg => rfl
  case w0 => exact fun _ => sem_at' 1 (at4 (par 5) 0) (by decide)
  case w1 => exact fun _ => sem_at' 1 (at4 (par 5) 1) (by decide)
  case w2 => exact fun _ => sem_at' 1 (at4 (par 5) 2) (by decide)
  case N0 => exact fun _ => rfl
  case N1 => exact fun _ => rfl
  case N2 => exact fun _ => rfl
  case S0 => exact fun _ => sem_at' 2 (at4 (par 5) 0) (by decide)
  case S1 => exact fun _ => sem_at' 2 (at4 (par 5) 1) (by decide)
  case S2 => exact fun _ => sem_at' 2 (at4 (par 5) 2) (by decide)
  case R0 => exact fun _ => sem_at' 3 5 (by decide)
  case R1 => exact fun _ => sem_at' 3 5 (by decide)
  case R2 => exact fun _ => sem_at' 3 5 (by decide)
  · isplitr; · iexact HI
    isplitr; · iexact Hlev
    isplitr; · iexact HR
    isplitl [Hw5]; · iexact Hw5
    isplitl [Hp5]; · iexact Hp5
    isplitl [Hu5]; · iexact Hu5
    iexact HO
  iintro ⟨Hp5, Hu5, HO⟩
  iapply (reduce_if (PVi ki vi woi qi) (POi ki vi woi qi) K 6 c (spr6 c) _ _ rfl (red_lv 6 c (Above.ag 6 c (by decide) (Above.ag 7 c (by decide) (Above.nil _)))) ?gf ?gg ?w0 ?w1 ?w2 ?N0 ?N1 ?N2 (spr6d0 c) (spr6d1 c) (spr6d2 c) ?S0 ?S1 ?S2 ?R0 ?R1 ?R2) $$ [Hw6 Hp6 Hu6 HO]
  case gf => rfl
  case gg => rfl
  case w0 => exact fun _ => sem_at' 1 (at4 (par 6) 0) (by decide)
  case w1 => exact fun _ => sem_at' 1 (at4 (par 6) 1) (by decide)
  case w2 => exact fun _ => sem_at' 1 (at4 (par 6) 2) (by decide)
  case N0 => exact fun _ => rfl
  case N1 => exact fun _ => rfl
  case N2 => exact fun _ => rfl
  case S0 => exact fun _ => sem_at' 2 (at4 (par 6) 0) (by decide)
  case S1 => exact fun _ => sem_at' 2 (at4 (par 6) 1) (by decide)
  case S2 => exact fun _ => sem_at' 2 (at4 (par 6) 2) (by decide)
  case R0 => exact fun _ => sem_at' 3 6 (by decide)
  case R1 => exact fun _ => sem_at' 3 6 (by decide)
  case R2 => exact fun _ => sem_at' 3 6 (by decide)
  · isplitr; · iexact HI
    isplitr; · iexact Hlev
    isplitr; · iexact HR
    isplitl [Hw6]; · iexact Hw6
    isplitl [Hp6]; · iexact Hp6
    isplitl [Hu6]; · iexact Hu6
    iexact HO
  iintro ⟨Hp6, Hu6, HO⟩
  iapply (reduce_if (PVi ki vi woi qi) (POi ki vi woi qi) K 7 c (spr7 c) _ _ rfl (red_lv 7 c (Above.ag 7 c (by decide) (Above.nil _))) ?gf ?gg ?w0 ?w1 ?w2 ?N0 ?N1 ?N2 (spr7d0 c) (spr7d1 c) (spr7d2 c) ?S0 ?S1 ?S2 ?R0 ?R1 ?R2) $$ [H8 Hp7 Hu7 HO]
  case gf => rfl
  case gg => rfl
  case w0 => exact fun _ => sem_at' 1 (at4 (par 7) 0) (by decide)
  case w1 => exact fun _ => sem_at' 1 (at4 (par 7) 1) (by decide)
  case w2 => exact fun _ => sem_at' 1 (at4 (par 7) 2) (by decide)
  case N0 => exact fun _ => rfl
  case N1 => exact fun _ => rfl
  case N2 => exact fun _ => rfl
  case S0 => exact fun _ => sem_at' 2 (at4 (par 7) 0) (by decide)
  case S1 => exact fun _ => sem_at' 2 (at4 (par 7) 1) (by decide)
  case S2 => exact fun _ => sem_at' 2 (at4 (par 7) 2) (by decide)
  case R0 => exact fun _ => sem_at' 3 7 (by decide)
  case R1 => exact fun _ => sem_at' 3 7 (by decide)
  case R2 => exact fun _ => sem_at' 3 7 (by decide)
  · isplitr; · iexact HI
    isplitr; · iexact Hlev
    isplitr; · iexact HR
    isplitl [H8]; · iexact H8
    isplitl [Hp7]; · iexact Hp7
    isplitl [Hu7]; · iexact Hu7
    iexact HO
  iintro ⟨Hp7, Hu7, HO⟩
  iapply (recv_if (PVi ki vi woi qi) (POi ki vi woi qi) K 0 c (own_isnt 0 c) ?gf ?gw ?gN) $$ [Hi0 Hu0 HO]
  case gf => rfl
  case gw => exact fun _ => sem_at' 3 0 (by decide)
  case gN => exact fun _ => rfl
  · isplitr; · iexact HI
    isplitr; · iexact Hlev
    isplitl [Hi0]; · iexact Hi0
    isplitl [Hu0]; · iexact Hu0
    iexact HO
  iintro ⟨Hi0, Hu0, HO⟩
  iapply (recv_if (PVi ki vi woi qi) (POi ki vi woi qi) K 1 c (own_isnt 1 c) ?gf ?gw ?gN) $$ [Hi1 Hu1 HO]
  case gf => rfl
  case gw => exact fun _ => sem_at' 3 1 (by decide)
  case gN => exact fun _ => rfl
  · isplitr; · iexact HI
    isplitr; · iexact Hlev
    isplitl [Hi1]; · iexact Hi1
    isplitl [Hu1]; · iexact Hu1
    iexact HO
  iintro ⟨Hi1, Hu1, HO⟩
  iapply (recv_if (PVi ki vi woi qi) (POi ki vi woi qi) K 2 c (own_isnt 2 c) ?gf ?gw ?gN) $$ [Hi2 Hu2 HO]
  case gf => rfl
  case gw => exact fun _ => sem_at' 3 2 (by decide)
  case gN => exact fun _ => rfl
  · isplitr; · iexact HI
    isplitr; · iexact Hlev
    isplitl [Hi2]; · iexact Hi2
    isplitl [Hu2]; · iexact Hu2
    iexact HO
  iintro ⟨Hi2, Hu2, HO⟩
  iapply ret_wp
  iapply Hk
  isplitl [Hq Hct Hs]
  · isplitl [Hq]; · iexact Hq
    isplitl [Hct]; · iexists _; iexact Hct
    iexact Hs
  isplitl [Hp5 Hu5]
  · isplitl [Hp5]; · iexact Hp5
    iexact Hu5
  isplitl [Hp6 Hu6]
  · isplitl [Hp6]; · iexact Hp6
    iexact Hu6
  isplitl [Hp7 Hu7]
  · isplitl [Hp7]; · iexact Hp7
    iexact Hu7
  isplitl [Hi0 Hu0]
  · isplitl [Hi0]; · iexact Hi0
    iexact Hu0
  isplitl [Hi1 Hu1]
  · isplitl [Hi1]; · iexact Hi1
    iexact Hu1
  isplitl [Hi2 Hu2]
  · isplitl [Hi2]; · iexact Hi2
    iexact Hu2
  iexact HO

end Cert.KernelIdeal.Talk
-- ==== Proof.Chain.lean ====
module

public import proofs.«01_k».proof.Proof.Ends
public import proofs.«01_k».proof.Proof.Fin59
public import proofs.«01_k».proof.Proof.Steps01
public import proofs.«01_k».proof.Proof.Steps23
public import proofs.«01_k».proof.Proof.Steps45
public import proofs.«01_k».proof.Proof.Step6
public import proofs.«01_k».proof.Proof.Step7

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # The body as a chain of its steps -/

/-- The last waits of the long part. -/
noncomputable def tail60 : Prog (TpuEff nD τ sig (Elt F) Λ₀ .tc) PUnit := do
  let v1689 : Memref sig .tc .vmem S1x128x1024 .bf16 := agR.slice (Rect.unit (s := S8x128x1024) ![0, 0, 0] S1x128x1024.size inb_S8x128x1024_S1x128x1024_0_0_0) (fun _ => rfl)
  let v1690 : Memref sig .tc .vmem S128x1024 .bf16 := v1689.squeeze S128x1024 squeezes_S1x128x1024_S128x1024
  let v1685 : DmaSems sig S1 := cc0_scratch9.slice (Rect.unit (s := S8) ![3] S1.size inb_S8_S1_3)
  let v1686 : DmaSems sig S_ := v1685.squeeze S_ squeezes_S1_S_
  let v1687 : Memref sig .tc .vmem S1x128x1024 .bf16 := agS.slice (Rect.unit (s := S2x128x1024) ![0, 0, 0] S1x128x1024.size inb_S2x128x1024_S1x128x1024_0_0_0) (fun _ => rfl)
  let v1688 : Memref sig .tc .vmem S128x1024 .bf16 := v1687.squeeze S128x1024 squeezes_S1x128x1024_S128x1024
  Prog.lift (.waitDma2 v1686.sem v1690 v1688 (((Memref.isWhole_whole cc0_scratch6).wordExact_slice rfl _ wordsbf16_S8x128x1024_S1x128x1024_0_0_0).reshape _ _) (((Memref.isWhole_whole cc0_scratch5).wordExact_slice rfl _ wordsbf16_S2x128x1024_S1x128x1024_0_0_0).reshape _ _))
  pure ⟨⟩
/-- After the eighth step. -/
noncomputable def after7 (v2 : BitVec 32) (r : BitVec 1) : Prog (TpuEff nD τ sig (Elt F) Λ₀ .tc) PUnit := do
  let w ← k0_part58 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 r
  k0_part59 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 w
  tail60
/-- From step 7 on. -/
noncomputable def before7 (d0 : Dev nD) (v2 : BitVec 32) (v28 v30 v32 : FVec F S1024x1024 .bf16) (r : Σ' (v1424 : IVec S128x1024 32) (v1438 : IVec S128x1024 1) (v1440 : IVec S128x1024 32), BitVec 32) : Prog (TpuEff nD τ sig (Elt F) Λ₀ .tc) PUnit :=
  match r with
  | ⟨v1424, v1438, v1440, c0_i32_601⟩ => do
    let ⟨v1475, v1482, v1485⟩ ← k0_part53 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v1424 v1438 v1440 c0_i32_601
    let v1524 ← k0_part54 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v1475 v1482 v1485
    let ⟨v1562, v1565⟩ ← k0_part55 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v1475 v1524
    let v1604 ← k0_part56 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v1475 v1562 v1565
    let r ← k0_part57 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v32 v1604
    after7 v2 r
/-- From step 6 on. -/
noncomputable def before6 (d0 : Dev nD) (v2 : BitVec 32) (v28 v30 v32 : FVec F S1024x1024 .bf16) (r : Σ' (v1223 : IVec S128x896 32) (c64_i32_513 : BitVec 32) (v1225 : IVec S128x896 32) (v1232 : IVec S128x896 32), IVec S128x896 32) : Prog (TpuEff nD τ sig (Elt F) Λ₀ .tc) PUnit :=
  match r with
  | ⟨v1223, c64_i32_513, v1225, v1232, v1238⟩ => do
    let ⟨v1276, v1281, v1283⟩ ← k0_part48 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v1223 c64_i32_513 v1225 v1232 v1238
    let v1324 ← k0_part49 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v1276 v1281 v1283
    let ⟨v1361, v1363⟩ ← k0_part50 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v1276 v1324
    let v1404 ← k0_part51 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v1276 v1361 v1363
    let r ← k0_part52 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v32 v1404
    before7 d0 v2 v28 v30 v32 r
/-- From step 5 on. -/
noncomputable def before5 (d0 : Dev nD) (v2 : BitVec 32) (v28 v30 v32 : FVec F S1024x1024 .bf16) (r : Σ' (v1024 : IVec S128x768 32) (c64_i32_430 : BitVec 32) (v1026 : IVec S128x768 32) (v1033 : IVec S128x768 32) (v1035 : BitVec 32), BitVec 32) : Prog (TpuEff nD τ sig (Elt F) Λ₀ .tc) PUnit :=
  match r with
  | ⟨v1024, c64_i32_430, v1026, v1033, v1035, c0_i32_434⟩ => do
    let ⟨v1077, v1081⟩ ← k0_part43 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v1024 c64_i32_430 v1026 v1033 v1035 c0_i32_434
    let v1122 ← k0_part44 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v1077 v1081
    let v1161 ← k0_part45 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v1077 v1122
    let v1202 ← k0_part46 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v1077 v1161
    let r ← k0_part47 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v32 v1202
    before6 d0 v2 v28 v30 v32 r
/-- From step 4 on. -/
noncomputable def before4 (d0 : Dev nD) (v2 : BitVec 32) (v28 v30 v32 : FVec F S1024x1024 .bf16) (r : Σ' (v825 : IVec S128x640 32) (c64_i32_347 : BitVec 32) (v827 : IVec S128x640 32), IVec S128x640 32) : Prog (TpuEff nD τ sig (Elt F) Λ₀ .tc) PUnit :=
  match r with
  | ⟨v825, c64_i32_347, v827, v834⟩ => do
    let ⟨v878, v879⟩ ← k0_part38 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v825 c64_i32_347 v827 v834
    let ⟨v917, v920⟩ ← k0_part39 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v878 v879
    let v959 ← k0_part40 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v878 v917 v920
    let ⟨v997, v1000⟩ ← k0_part41 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v878 v959
    let r ← k0_part42 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v32 v997 v1000
    before5 d0 v2 v28 v30 v32 r
/-- From step 3 on. -/
noncomputable def before3 (d0 : Dev nD) (v2 : BitVec 32) (v28 v30 v32 : FVec F S1024x1024 .bf16) (r : Σ' (v626 : IVec S128x512 32) (c64_i32_264 : BitVec 32) (v628 : IVec S128x512 32) (v631 : IVec S128x512 32), BitVec 32) : Prog (TpuEff nD τ sig (Elt F) Λ₀ .tc) PUnit :=
  match r with
  | ⟨v626, c64_i32_264, v628, v631, c0_i32_266⟩ => do
    let ⟨v676, v677, v678⟩ ← k0_part33 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v626 c64_i32_264 v628 v631 c0_i32_266
    let ⟨v679, v716, v718⟩ ← k0_part34 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v676 v677 v678
    let v759 ← k0_part35 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v679 v716 v718
    let ⟨v796, v798⟩ ← k0_part36 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v679 v759
    let r ← k0_part37 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v30 v32 v796 v798
    before4 d0 v2 v28 v30 v32 r
/-- From step 2 on. -/
noncomputable def before2 (d0 : Dev nD) (v2 : BitVec 32) (v28 v30 v32 : FVec F S1024x1024 .bf16) (r : Σ' (v427 : IVec S128x384 32) (c64_i32_181 : BitVec 32) (v429 : IVec S128x384 32), BitVec 32) : Prog (TpuEff nD τ sig (Elt F) Λ₀ .tc) PUnit :=
  match r with
  | ⟨v427, c64_i32_181, v429, c0_i32_182⟩ => do
    let v477 ← k0_part28 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v427 c64_i32_181 v429 c0_i32_182
    let ⟨v480, v516⟩ ← k0_part29 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v477
    let v557 ← k0_part30 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v480 v516
    let v596 ← k0_part31 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v480 v557
    let r ← k0_part32 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v30 v32 v596
    before3 d0 v2 v28 v30 v32 r
/-- From step 1 on. -/
noncomputable def before1 (d0 : Dev nD) (v2 : BitVec 32) (v28 v30 v32 : FVec F S1024x1024 .bf16) (r : Σ' (v255 : IVec S128x256 32) (v256 : IVec S128x256 32) (v258 : IVec S128x256 32) (v272 : IVec S128x256 1), IVec S128x256 32) : Prog (TpuEff nD τ sig (Elt F) Λ₀ .tc) PUnit :=
  match r with
  | ⟨v255, v256, v258, v272, v273⟩ => do
    let ⟨v284, v313, v314⟩ ← k0_part24 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v255 v256 v258 v272 v273
    let v353 ← k0_part25 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v284 v313 v314
    let ⟨v393, v394⟩ ← k0_part26 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v284 v353
    let r ← k0_part27 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v28 v30 v32 v284 v393 v394
    before2 d0 v2 v28 v30 v32 r
/-- From step 0 on. -/
noncomputable def before0 (d0 : Dev nD) (v2 : BitVec 32) (r : Σ' (v28 : FVec F S1024x1024 .bf16) (v30 : FVec F S1024x1024 .bf16) (v32 : FVec F S1024x1024 .bf16) (v59 : IVec S128x128 32) (v60 : IVec S128x128 32) (c64_i32_32 : BitVec 32) (v62 : IVec S128x128 32), IVec S128x128 32) : Prog (TpuEff nD τ sig (Elt F) Λ₀ .tc) PUnit :=
  match r with
  | ⟨v28, v30, v32, v59, v60, c64_i32_32, v62, v69⟩ => do
    let ⟨v88, v109, v111⟩ ← k0_part19 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v59 v60 c64_i32_32 v62 v69
    let v152 ← k0_part20 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v88 v109 v111
    let ⟨v189, v191⟩ ← k0_part21 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v28 v30 v88 v152
    let ⟨v227, c0_i32_99⟩ ← k0_part22 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v28 v30 v32 v88 v189 v191
    let r ← k0_part23 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v227 c0_i32_99
    before1 d0 v2 v28 v30 v32 r
/-- The long part, as the chain. -/
theorem part60_chain : k0_part60_skel (F := F) (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 = (do
    let ⟨d0, v2⟩ ← k0_part17 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10
    let r ← k0_part18 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10
    before0 d0 v2 r) := rfl

end Cert.KernelIdeal.Talk
-- ==== Proof.Runs.lean ====
module

public import proofs.«01_k».proof.Proof.Chain

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # Each link of the chain, run -/

theorem run0 (ki vi woi qi : Dev nD → FVec F S1024x1024 .bf16) (K : GSem nD τ sig → ℕ) (c : Dev nD) (l : List (GSem nD τ sig)) {Q : PUnit → sProp 𝕄} :
    (iprop(Inv (PVi ki vi woi qi) (RV (PVi ki vi woi qi) (POi ki vi woi qi)) K ∗ Rch c ∗ Work (qi c) 0 c (rsL 0 c ++ l)) : sProp 𝕄)
      ⊢ iprop(((Done (PVi ki vi woi qi) (POi ki vi woi qi) (qi c) 0 c l) -∗ wp frame (wpE (defs₀ (F := F)) 𝒱₀ (c : Thread nD τ) none) Set.univ (before1 c (myw c) (ki c) (vi c) (woi c) ⟨k0_pay40, (iota .tc S128x256 32 [1] iota_S128x256_d1_w32), k0_pay41, k0_pay42, k0_pay43⟩) Q)
        -∗ wp frame (wpE (defs₀ (F := F)) 𝒱₀ (c : Thread nD τ) none) Set.univ (before0 c (myw c) ⟨ki c, vi c, woi c, k0_pay21, iota .tc S128x128 32 [1] iota_S128x128_d1_w32, 64#32, k0_pay22, k0_pay23⟩) Q) :=
  step0 ki vi woi qi K c l (before1 c (myw c) (ki c) (vi c) (woi c))

theorem run1 (ki vi woi qi : Dev nD → FVec F S1024x1024 .bf16) (K : GSem nD τ sig → ℕ) (c : Dev nD) (l : List (GSem nD τ sig)) {Q : PUnit → sProp 𝕄} :
    (iprop(Inv (PVi ki vi woi qi) (RV (PVi ki vi woi qi) (POi ki vi woi qi)) K ∗ Rch c ∗ Work (qi c) 1 c (rsL 1 c ++ l)) : sProp 𝕄)
      ⊢ iprop(((Done (PVi ki vi woi qi) (POi ki vi woi qi) (qi c) 1 c l) -∗ wp frame (wpE (defs₀ (F := F)) 𝒱₀ (c : Thread nD τ) none) Set.univ (before2 c (myw c) (ki c) (vi c) (woi c) ⟨k0_pay59, 64#32, k0_pay60, 0#32⟩) Q)
        -∗ wp frame (wpE (defs₀ (F := F)) 𝒱₀ (c : Thread nD τ) none) Set.univ (before1 c (myw c) (ki c) (vi c) (woi c) ⟨k0_pay40, (iota .tc S128x256 32 [1] iota_S128x256_d1_w32), k0_pay41, k0_pay42, k0_pay43⟩) Q) :=
  step1 ki vi woi qi K c l (before2 c (myw c) (ki c) (vi c) (woi c))

theorem run2 (ki vi woi qi : Dev nD → FVec F S1024x1024 .bf16) (K : GSem nD τ sig → ℕ) (c : Dev nD) (l : List (GSem nD τ sig)) (hl : Above 2 (agL 0 c ++ l)) {Q : PUnit → sProp 𝕄} :
    (iprop(Inv (PVi ki vi woi qi) (RV (PVi ki vi woi qi) (POi ki vi woi qi)) K ∗ levAts L lv ∗ Rch c ∗ Work (qi c) 2 c (rsL 2 c ++ (agL 0 c ++ l)) ∗ Sum0 (PVi ki vi woi qi) (POi ki vi woi qi) 0 c) : sProp 𝕄)
      ⊢ iprop(((Done (PVi ki vi woi qi) (POi ki vi woi qi) (qi c) 2 c l ∗ Sum1 (PVi ki vi woi qi) (POi ki vi woi qi) 0 c) -∗ wp frame (wpE (defs₀ (F := F)) 𝒱₀ (c : Thread nD τ) none) Set.univ (before3 c (myw c) (ki c) (vi c) (woi c) ⟨k0_pay77, 64#32, k0_pay78, k0_pay79, 0#32⟩) Q)
        -∗ wp frame (wpE (defs₀ (F := F)) 𝒱₀ (c : Thread nD τ) none) Set.univ (before2 c (myw c) (ki c) (vi c) (woi c) ⟨k0_pay59, 64#32, k0_pay60, 0#32⟩) Q) :=
  step2 ki vi woi qi K c l hl (before3 c (myw c) (ki c) (vi c) (woi c))

theorem run3 (ki vi woi qi : Dev nD → FVec F S1024x1024 .bf16) (K : GSem nD τ sig → ℕ) (c : Dev nD) (l : List (GSem nD τ sig)) (hl : Above 3 (agL 1 c ++ l)) {Q : PUnit → sProp 𝕄} :
    (iprop(Inv (PVi ki vi woi qi) (RV (PVi ki vi woi qi) (POi ki vi woi qi)) K ∗ levAts L lv ∗ Rch c ∗ Work (qi c) 3 c (rsL 3 c ++ (agL 1 c ++ l)) ∗ Sum0 (PVi ki vi woi qi) (POi ki vi woi qi) 1 c) : sProp 𝕄)
      ⊢ iprop(((Done (PVi ki vi woi qi) (POi ki vi woi qi) (qi c) 3 c l ∗ Sum1 (PVi ki vi woi qi) (POi ki vi woi qi) 1 c) -∗ wp frame (wpE (defs₀ (F := F)) 𝒱₀ (c : Thread nD τ) none) Set.univ (before4 c (myw c) (ki c) (vi c) (woi c) ⟨k0_pay99, 64#32, k0_pay100, k0_pay101⟩) Q)
        -∗ wp frame (wpE (defs₀ (F := F)) 𝒱₀ (c : Thread nD τ) none) Set.univ (before3 c (myw c) (ki c) (vi c) (woi c) ⟨k0_pay77, 64#32, k0_pay78, k0_pay79, 0#32⟩) Q) :=
  step3 ki vi woi qi K c l hl (before4 c (myw c) (ki c) (vi c) (woi c))

theorem run4 (ki vi woi qi : Dev nD → FVec F S1024x1024 .bf16) (K : GSem nD τ sig → ℕ) (c : Dev nD) (l : List (GSem nD τ sig)) (hl : Above 4 (agL 2 c ++ l)) {Q : PUnit → sProp 𝕄} :
    (iprop(Inv (PVi ki vi woi qi) (RV (PVi ki vi woi qi) (POi ki vi woi qi)) K ∗ levAts L lv ∗ Rch c ∗ Work (qi c) 4 c (rsL 4 c ++ (agL 2 c ++ l)) ∗ Sum0 (PVi ki vi woi qi) (POi ki vi woi qi) 2 c) : sProp 𝕄)
      ⊢ iprop(((Done (PVi ki vi woi qi) (POi ki vi woi qi) (qi c) 4 c l ∗ Sum1 (PVi ki vi woi qi) (POi ki vi woi qi) 2 c) -∗ wp frame (wpE (defs₀ (F := F)) 𝒱₀ (c : Thread nD τ) none) Set.univ (before5 c (myw c) (ki c) (vi c) (woi c) ⟨k0_pay120, 64#32, k0_pay121, k0_pay122, (Scalar.extui (Scalar.cmpi .sgt 64#32 0#32)), 0#32⟩) Q)
        -∗ wp frame (wpE (defs₀ (F := F)) 𝒱₀ (c : Thread nD τ) none) Set.univ (before4 c (myw c) (ki c) (vi c) (woi c) ⟨k0_pay99, 64#32, k0_pay100, k0_pay101⟩) Q) :=
  step4 ki vi woi qi K c l hl (before5 c (myw c) (ki c) (vi c) (woi c))

theorem run5 (ki vi woi qi : Dev nD → FVec F S1024x1024 .bf16) (K : GSem nD τ sig → ℕ) (c : Dev nD) (l : List (GSem nD τ sig)) (hl : Above 5 (agL 3 c ++ l)) {Q : PUnit → sProp 𝕄} :
    (iprop(Inv (PVi ki vi woi qi) (RV (PVi ki vi woi qi) (POi ki vi woi qi)) K ∗ levAts L lv ∗ Rch c ∗ Work (qi c) 5 c (rsL 5 c ++ (agL 3 c ++ l)) ∗ Sum0 (PVi ki vi woi qi) (POi ki vi woi qi) 3 c) : sProp 𝕄)
      ⊢ iprop(((Done (PVi ki vi woi qi) (POi ki vi woi qi) (qi c) 5 c l ∗ Sum1 (PVi ki vi woi qi) (POi ki vi woi qi) 3 c) -∗ wp frame (wpE (defs₀ (F := F)) 𝒱₀ (c : Thread nD τ) none) Set.univ (before6 c (myw c) (ki c) (vi c) (woi c) ⟨k0_pay139, 64#32, k0_pay140, k0_pay141, k0_pay142⟩) Q)
        -∗ wp frame (wpE (defs₀ (F := F)) 𝒱₀ (c : Thread nD τ) none) Set.univ (before5 c (myw c) (ki c) (vi c) (woi c) ⟨k0_pay120, 64#32, k0_pay121, k0_pay122, (Scalar.extui (Scalar.cmpi .sgt 64#32 0#32)), 0#32⟩) Q) :=
  step5 ki vi woi qi K c l hl (before6 c (myw c) (ki c) (vi c) (woi c))

theorem run6 (ki vi woi qi : Dev nD → FVec F S1024x1024 .bf16) (K : GSem nD τ sig → ℕ) (c : Dev nD) (l : List (GSem nD τ sig)) (hl : Above 6 (agL 4 c ++ l)) {Q : PUnit → sProp 𝕄} :
    (iprop(Inv (PVi ki vi woi qi) (RV (PVi ki vi woi qi) (POi ki vi woi qi)) K ∗ levAts L lv ∗ Rch c ∗ Work (qi c) 6 c (rsL 6 c ++ (agL 4 c ++ l)) ∗ Sum0 (PVi ki vi woi qi) (POi ki vi woi qi) 4 c) : sProp 𝕄)
      ⊢ iprop(((Done (PVi ki vi woi qi) (POi ki vi woi qi) (qi c) 6 c l ∗ Sum1 (PVi ki vi woi qi) (POi ki vi woi qi) 4 c) -∗ wp frame (wpE (defs₀ (F := F)) 𝒱₀ (c : Thread nD τ) none) Set.univ (before7 c (myw c) (ki c) (vi c) (woi c) ⟨k0_pay160, k0_pay161, k0_pay162, 0#32⟩) Q)
        -∗ wp frame (wpE (defs₀ (F := F)) 𝒱₀ (c : Thread nD τ) none) Set.univ (before6 c (myw c) (ki c) (vi c) (woi c) ⟨k0_pay139, 64#32, k0_pay140, k0_pay141, k0_pay142⟩) Q) :=
  step6 ki vi woi qi K c l hl (before7 c (myw c) (ki c) (vi c) (woi c))

theorem run7 (ki vi woi qi : Dev nD → FVec F S1024x1024 .bf16) (K : GSem nD τ sig → ℕ) (c : Dev nD) {Q : PUnit → sProp 𝕄} :
    (iprop(Inv (PVi ki vi woi qi) (RV (PVi ki vi woi qi) (POi ki vi woi qi)) K ∗ levAts L lv ∗ Rch c ∗ Work (qi c) 7 c (rsL 7 c ++ tailL c)
        ∗ Sum0 (PVi ki vi woi qi) (POi ki vi woi qi) 5 c ∗ Sum0 (PVi ki vi woi qi) (POi ki vi woi qi) 6 c ∗ (REDpre 7 c ∗ Any outM (rO 7) c fullShare)
        ∗ Recv0 (PVi ki vi woi qi) (POi ki vi woi qi) 0 c ∗ Recv0 (PVi ki vi woi qi) (POi ki vi woi qi) 1 c ∗ Recv0 (PVi ki vi woi qi) (POi ki vi woi qi) 2 c) : sProp 𝕄)
      ⊢ iprop((((Qc (qi c) c ∗ CT c ∗ Sent 7 c) ∗ Sum1 (PVi ki vi woi qi) (POi ki vi woi qi) 5 c ∗ Sum1 (PVi ki vi woi qi) (POi ki vi woi qi) 6 c ∗ Sum1 (PVi ki vi woi qi) (POi ki vi woi qi) 7 c
          ∗ Recv1 (PVi ki vi woi qi) (POi ki vi woi qi) 0 c ∗ Recv1 (PVi ki vi woi qi) (POi ki vi woi qi) 1 c ∗ Recv1 (PVi ki vi woi qi) (POi ki vi woi qi) 2 c ∗ OW c [])
          -∗ wp frame (wpE (defs₀ (F := F)) 𝒱₀ (c : Thread nD τ) none) Set.univ (after7 (myw c) (Scalar.cmpi .ne (myw c) 1#32)) Q)
        -∗ wp frame (wpE (defs₀ (F := F)) 𝒱₀ (c : Thread nD τ) none) Set.univ (before7 c (myw c) (ki c) (vi c) (woi c) ⟨k0_pay160, k0_pay161, k0_pay162, 0#32⟩) Q) :=
  step7 ki vi woi qi K c (after7 (myw c))

theorem run8 (ki vi woi qi : Dev nD → FVec F S1024x1024 .bf16) (K : GSem nD τ sig → ℕ) (c : Dev nD) {Q : PUnit → sProp 𝕄} :
    (iprop(Inv (PVi ki vi woi qi) (RV (PVi ki vi woi qi) (POi ki vi woi qi)) K ∗ levAts L lv
        ∗ (Recv0 (PVi ki vi woi qi) (POi ki vi woi qi) 3 c ∗ Recv0 (PVi ki vi woi qi) (POi ki vi woi qi) 4 c ∗ Recv0 (PVi ki vi woi qi) (POi ki vi woi qi) 5 c ∗ Recv0 (PVi ki vi woi qi) (POi ki vi woi qi) 6 c ∗ Recv0 (PVi ki vi woi qi) (POi ki vi woi qi) 7 c)
        ∗ (bigSep Finset.univ fun s => iprop(Sent s c ∗ atPos ER (dC 0 s c) 0 ∅ 0))
        ∗ (cred (tallyAt (dC 2 (at4 0 0) c) () N) ∗ atPos ER (dC 2 (at4 0 0) c) 0 ∅ 0) ∗ (cred (tallyAt (dC 2 (at4 0 1) c) () N) ∗ atPos ER (dC 2 (at4 0 1) c) 0 ∅ 0) ∗ OW c []) : sProp 𝕄)
      ⊢ iprop((((Recv1 (PVi ki vi woi qi) (POi ki vi woi qi) 3 c ∗ Recv1 (PVi ki vi woi qi) (POi ki vi woi qi) 4 c ∗ Recv1 (PVi ki vi woi qi) (POi ki vi woi qi) 5 c ∗ Recv1 (PVi ki vi woi qi) (POi ki vi woi qi) 6 c ∗ Recv1 (PVi ki vi woi qi) (POi ki vi woi qi) 7 c)
          ∗ (bigSep Finset.univ fun s => iprop(DN 0 s c ∗ Any rsS (r8 s) c fullShare)) ∗ Left c 0 0 ∗ Left c 1 0 ∗ OW c [])
          -∗ wp frame (wpE (defs₀ (F := F)) 𝒱₀ (c : Thread nD τ) none) Set.univ tail60 Q)
        -∗ wp frame (wpE (defs₀ (F := F)) 𝒱₀ (c : Thread nD τ) none) Set.univ (after7 (myw c) (Scalar.cmpi .ne (myw c) 1#32)) Q) :=
  fin59 ki vi woi qi K c tail60

theorem runStart (PV : Dev nD → Fin 8 → Vec F S1x128x1024 .bf16) (PO : Dev nD → Fin 8 → Vec F S1x128x1024 .f32) (x wq k v wo : Vec F S1024x1024 .bf16) (K : GSem nD τ sig → ℕ) (c : Dev nD) {Q : PUnit → sProp 𝕄} :
    (iprop(Inv PV (RV PV PO) K ∗ levAts L lv ∗ Rb c ∗ (Ent c 0 ∗ Ent c 1 ∗ Ent c 2) ∗ cred (tallyAt (barC c) () 3) ∗ atPos ER (barC c) 0 ∅ 0 ∗ OW c (launchL c)
        ∗ In x wq k v wo c ∗ AnyB qM c) : sProp 𝕄)
      ⊢ iprop(((OW c (restL 0 c) ∗ atPos ER (barC c) 1 ∅ 0 ∗ (barPay c 0 ∗ barPay c 1 ∗ barPay c 2) ∗ In x wq k v wo c ∗ Qc (k0_pay17 x wq) c)
          -∗ wp frame (wpE (defs₀ (F := F)) 𝒱₀ (c : Thread nD τ) none) Set.univ (before0 c (myw c) ⟨k0_pay18 k, k0_pay19 v, k0_pay20 wo, k0_pay21, iota .tc S128x128 32 [1] iota_S128x128_d1_w32, 64#32, k0_pay22, k0_pay23⟩) Q)
        -∗ wp frame (wpE (defs₀ (F := F)) 𝒱₀ (c : Thread nD τ) none) Set.univ (k0_part60 (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Q) := by
  rw [k0_part60_eq_skeleton, part60_chain]
  exact start PV PO x wq k v wo K c before0

end Cert.KernelIdeal.Talk
-- ==== Proof.Body.lean ====
module

public import proofs.«01_k».proof.Proof.Runs

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # The body of one device -/

/-- A device's scratch, at any contents. -/
def Bufs (c : Dev nD) : sProp 𝕄 := iprop(AnyB qM c ∗ AnyB ctM c ∗ AnyB owM c ∗ AnyB rsS c ∗ AnyB rsR c ∗ AnyB agS c ∗ AnyB agR c)
/-- What a device starts from, besides its buffers. -/
def Begin (c : Dev nD) : sProp 𝕄 :=
  iprop((dutyTok ER (barC (peer c 0)) 0 0 ∗ dutyTok ER (barC (peer c 1)) 0 1 ∗ dutyTok ER (barC (peer c 2)) 0 2)
    ∗ cred (tallyAt (barC c) () 3) ∗ atPos ER (barC c) 0 ∅ 0 ∗ Toks c ∗ Opened c ∗ Crs c)
/-- Its own counters at the end. -/
def Ended (c : Dev nD) : sProp 𝕄 := iprop(semVal (barC c) 0 ∗ bigSep Finset.univ fun x : Fin 4 × Fin 8 => semVal (dC x.1 x.2 c) 0)

instance (c : Dev nD) : BI.Persistent (Rb (F := F) c) := by unfold Rb; infer_instance

theorem ret_upd {α : Type} {Q : α → sProp 𝕄} (c : Dev nD) (a : α) :
    iprop(|={Set.univ}=> Q a) ⊢ wp frame (wpE (defs₀ (F := F)) 𝒱₀ (c : Thread nD τ) none) Set.univ (Pure.pure a : Prog (TpuEff nD τ sig (Elt F) Λ₀ .tc) α) Q := by
  show _ ⊢ wp frame _ Set.univ (Prog.ret a) Q
  rw [wp_ret]

set_option maxHeartbeats 4000000 in
set_option sl_exec.parts true in
/-- One device's body: from its staged inputs to its whole result, every counter of its own closed. -/
theorem body_run (X : Fin 5 → Dev nD → Vec F S1024x1024 .bf16) (K : GSem nD τ sig → ℕ) (c : Dev nD) {Q : PUnit → sProp 𝕄} :
    (iprop(Inv (PX X) (RV (PX X) (OX X)) K ∗ levAts L lv ∗ Rb c ∗ Rch c ∗ Begin c ∗ OW c (launchL c) ∗ InX X c ∗ AnyB outM c ∗ Bufs c) : sProp 𝕄)
      ⊢ iprop(((Ended c ∗ OW c [] ∗ InX X c ∗ All outM c (outX X c) ∗ Bufs c) -∗ Q ⟨⟩)
        -∗ wp frame (wpE (defs₀ (F := F)) 𝒱₀ (c : Thread nD τ) none) Set.univ (cc0_body (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Q) := by
  unfold Begin Bufs
  iintro ⟨#HI, #Hlev, #HB, #HR, ⟨⟨T0, T1, T2⟩, Hc, Hat, HT, Hop, Hcr⟩, HO, HX, Hout, ⟨Hq, Hct, How, HrS, HrR, HaS, HaR⟩⟩ Hk
  rw [cc0_body_eq_skeleton, cc0_body_skel, wp_bind]
  unfold AnyB
  ihave HrS := (any_split rsS r8 c (el_rsS c).1 (el_rsS c).2) $$ HrS
  ihave HrR := (any_split rsR r8 c (el_rsR c).1 (el_rsR c).2) $$ HrR
  ihave HaS := (any_split agS r2 c (el_agS c).1 (el_agS c).2) $$ HaS
  ihave HaR := (any_split agR r8 c (el_agR c).1 (el_agR c).2) $$ HaR
  ihave How := (any_split owM r2 c (el_owM c).1 (el_owM c).2) $$ How
  ihave Hout := (any_split outM rO c (el_outM c).1 (el_outM c).2) $$ Hout
  ihave Hg := (give_slots c) $$ [HrR HaR]
  · isplitr; · iexact HR
    isplitl [HrR]; · iexact HrR
    iexact HaR
  icases Hg with ⟨⟨P0, P1, P2⟩, HkR, HkA⟩
  iapply (runStart (PX X) (OX X) (X 0 c) (X 1 c) (X 2 c) (X 3 c) (X 4 c) K c) $$ [T0 T1 T2 P0 P1 P2 Hc Hat HO HX Hq]
  · isplitr; · iexact HI
    isplitr; · iexact Hlev
    isplitr; · iexact HB
    isplitl [T0 T1 T2 P0 P1 P2]
    · unfold Ent
      isplitl [T0 P0]; · isplitl [T0] <;> iassumption
      isplitl [T1 P1]; · isplitl [T1] <;> iassumption
      isplitl [T2] <;> iassumption
    isplitl [Hc]; · iexact Hc
    isplitl [Hat]; · iexact Hat
    isplitl [HO]; · iexact HO
    isplitl [HX]; · iexact HX
    unfold AnyB
    iexact Hq
  iintro ⟨HO, Hat, HP, HX, Hq⟩
  ihave Hd := (deal c) $$ [HP HT How HaS Hop Hcr]
  · isplitl [HP]; · iexact HP
    isplitl [HT]; · iexact HT
    isplitl [How]; · iexact How
    isplitl [HaS]; · iexact HaS
    isplitl [Hop]; · iexact Hop
    iexact Hcr
  icases Hd with ⟨Hd, Hdep, Hidle⟩
  unfold Ready
  icases Hd with ⟨F1, F2, F3, F4⟩
  ihave F1 := (Entails.of_eq (by_chunk fun s => (RSpre s c : sProp 𝕄))) $$ F1
  icases F1 with ⟨RS0, RS1, RS2, RS3, RS4, RS5, RS6, RS7⟩
  ihave F2 := (Entails.of_eq (by_chunk fun s => (REDpre s c : sProp 𝕄))) $$ F2
  icases F2 with ⟨RP0, RP1, RP2, RP3, RP4, RP5, RP6, RP7⟩
  ihave F3 := (Entails.of_eq (by_chunk fun s => (INpre s c : sProp 𝕄))) $$ F3
  icases F3 with ⟨IN0, IN1, IN2, IN3, IN4, IN5, IN6, IN7⟩
  ihave F4 := (Entails.of_eq (by_chunk fun s => (atPos ER (dC 0 s c) 0 ∅ 0 : sProp 𝕄))) $$ F4
  icases F4 with ⟨AP0, AP1, AP2, AP3, AP4, AP5, AP6, AP7⟩
  ihave HrS := (Entails.of_eq (by_chunk fun s => (Any rsS (r8 s) c fullShare : sProp 𝕄))) $$ HrS
  ihave Hout := (Entails.of_eq (by_chunk fun s => (Any outM (rO s) c fullShare : sProp 𝕄))) $$ Hout
  icases HrS with ⟨R0, R1, R2, R3, R4, R5, R6, R7⟩
  icases Hout with ⟨U0, U1, U2, U3, U4, U5, U6, U7⟩
  ihave HO := (show (OW c (restL 0 c) : sProp 𝕄) ⊢ _ from Entails.of_eq (congrArg (OW c) (restL_eq c))) $$ HO
  ihave Hct := (show iprop(∃ f, ctM.view.loc (c : Thread nD τ) ↦{fullShare} f) ⊢ (CT c : sProp 𝕄) from Entails.refl _) $$ Hct
  iapply (run0 (kIn X) (vIn X) (oIn X) (qIn X) K c _) $$ [Hq Hct R0 RS0 HO]
  · isplitr; · iexact HI
    isplitr; · iexact HR
    unfold Work
    isplitl [Hq]; · iexact Hq
    isplitl [Hct]; · iexact Hct
    isplitl [R0]; · iexact R0
    isplitl [RS0]; · iexact RS0
    iexact HO
  unfold Done
  iintro ⟨Hq, Hct, W0, S0, HO⟩
  iapply (run1 (kIn X) (vIn X) (oIn X) (qIn X) K c _) $$ [Hq Hct R1 RS1 HO]
  · isplitr; · iexact HI
    isplitr; · iexact HR
    unfold Work
    isplitl [Hq]; · iexact Hq
    isplitl [Hct]; · iexact Hct
    isplitl [R1]; · iexact R1
    isplitl [RS1]; · iexact RS1
    iexact HO
  unfold Done
  iintro ⟨Hq, Hct, W1, S1, HO⟩
  iapply (run2 (kIn X) (vIn X) (oIn X) (qIn X) K c _ (.ag 0 c (by decide) (.rs 3 c (by decide) (.ag 1 c (by decide) (.rs 4 c (by decide) (.ag 2 c (by decide) (.rs 5 c (by decide) (.ag 3 c (by decide) (.rs 6 c (by decide) (.ag 4 c (by decide) (.rs 7 c (by decide) (above_tail 2 (by decide) c)))))))))))) $$ [Hq Hct R2 RS2 HO W0 RP0 U0]
  · isplitr; · iexact HI
    isplitr; · iexact Hlev
    isplitr; · iexact HR
    isplitl [Hq Hct R2 RS2 HO]
    · unfold Work
      isplitl [Hq]; · iexact Hq
      isplitl [Hct]; · iexact Hct
      isplitl [R2]; · iexact R2
      isplitl [RS2]; · iexact RS2
      iexact HO
    unfold Sum0
    isplitl [W0]; · iexact W0
    isplitl [RP0]; · iexact RP0
    iexact U0
  unfold Done Sum1
  iintro ⟨⟨Hq, Hct, W2, S2, HO⟩, RE0, U0⟩
  iapply (run3 (kIn X) (vIn X) (oIn X) (qIn X) K c _ (.ag 1 c (by decide) (.rs 4 c (by decide) (.ag 2 c (by decide) (.rs 5 c (by decide) (.ag 3 c (by decide) (.rs 6 c (by decide) (.ag 4 c (by decide) (.rs 7 c (by decide) (above_tail 3 (by decide) c)))))))))) $$ [Hq Hct R3 RS3 HO W1 RP1 U1]
  · isplitr; · iexact HI
    isplitr; · iexact Hlev
    isplitr; · iexact HR
    isplitl [Hq Hct R3 RS3 HO]
    · unfold Work
      isplitl [Hq]; · iexact Hq
      isplitl [Hct]; · iexact Hct
      isplitl [R3]; · iexact R3
      isplitl [RS3]; · iexact RS3
      iexact HO
    unfold Sum0
    isplitl [W1]; · iexact W1
    isplitl [RP1]; · iexact RP1
    iexact U1
  unfold Done Sum1
  iintro ⟨⟨Hq, Hct, W3, S3, HO⟩, RE1, U1⟩
  iapply (run4 (kIn X) (vIn X) (oIn X) (qIn X) K c _ (.ag 2 c (by decide) (.rs 5 c (by decide) (.ag 3 c (by decide) (.rs 6 c (by decide) (.ag 4 c (by decide) (.rs 7 c (by decide) (above_tail 4 (by decide) c)))))))) $$ [Hq Hct R4 RS4 HO W2 RP2 U2]
  · isplitr; · iexact HI
    isplitr; · iexact Hlev
    isplitr; · iexact HR
    isplitl [Hq Hct R4 RS4 HO]
    · unfold Work
      isplitl [Hq]; · iexact Hq
      isplitl [Hct]; · iexact Hct
      isplitl [R4]; · iexact R4
      isplitl [RS4]; · iexact RS4
      iexact HO
    unfold Sum0
    isplitl [W2]; · iexact W2
    isplitl [RP2]; · iexact RP2
    iexact U2
  unfold Done Sum1
  iintro ⟨⟨Hq, Hct, W4, S4, HO⟩, RE2, U2⟩
  iapply (run5 (kIn X) (vIn X) (oIn X) (qIn X) K c _ (.ag 3 c (by decide) (.rs 6 c (by decide) (.ag 4 c (by decide) (.rs 7 c (by decide) (above_tail 5 (by decide) c)))))) $$ [Hq Hct R5 RS5 HO W3 RP3 U3]
  · isplitr; · iexact HI
    isplitr; · iexact Hlev
    isplitr; · iexact HR
    isplitl [Hq Hct R5 RS5 HO]
    · unfold Work
      isplitl [Hq]; · iexact Hq
      isplitl [Hct]; · iexact Hct
      isplitl [R5]; · iexact R5
      isplitl [RS5]; · iexact RS5
      iexact HO
    unfold Sum0
    isplitl [W3]; · iexact W3
    isplitl [RP3]; · iexact RP3
    iexact U3
  unfold Done Sum1
  iintro ⟨⟨Hq, Hct, W5, S5, HO⟩, RE3, U3⟩
  iapply (run6 (kIn X) (vIn X) (oIn X) (qIn X) K c _ (.ag 4 c (by decide) (.rs 7 c (by decide) (above_tail 6 (by decide) c)))) $$ [Hq Hct R6 RS6 HO W4 RP4 U4]
  · isplitr; · iexact HI
    isplitr; · iexact Hlev
    isplitr; · iexact HR
    isplitl [Hq Hct R6 RS6 HO]
    · unfold Work
      isplitl [Hq]; · iexact Hq
      isplitl [Hct]; · iexact Hct
      isplitl [R6]; · iexact R6
      isplitl [RS6]; · iexact RS6
      iexact HO
    unfold Sum0
    isplitl [W4]; · iexact W4
    isplitl [RP4]; · iexact RP4
    iexact U4
  unfold Done Sum1
  iintro ⟨⟨Hq, Hct, W6, S6, HO⟩, RE4, U4⟩
  iapply (run7 (kIn X) (vIn X) (oIn X) (qIn X) K c) $$ [Hq Hct R7 RS7 HO W5 RP5 U5 W6 RP6 U6 RP7 U7 IN0 U0 IN1 U1 IN2 U2]
  · isplitr; · iexact HI
    isplitr; · iexact Hlev
    isplitr; · iexact HR
    unfold Work Sum0 Recv0
    isplitl [Hq Hct R7 RS7 HO]
    · isplitl [Hq]; · iexact Hq
      isplitl [Hct]; · iexact Hct
      isplitl [R7]; · iexact R7
      isplitl [RS7]; · iexact RS7
      iexact HO
    isplitl [W5 RP5 U5]; · isplitl [W5]; · iexact W5
                           isplitl [RP5] <;> iassumption
    isplitl [W6 RP6 U6]; · isplitl [W6]; · iexact W6
                           isplitl [RP6] <;> iassumption
    isplitl [RP7 U7]; · isplitl [RP7] <;> iassumption
    isplitl [IN0 U0]; · isplitl [IN0] <;> iassumption
    isplitl [IN1 U1]; · isplitl [IN1] <;> iassumption
    isplitl [IN2] <;> iassumption
  unfold Sum1 Recv1
  iintro ⟨⟨Hq, Hct, S7⟩, ⟨RE5, U5⟩, ⟨RE6, U6⟩, ⟨RE7, U7⟩, ⟨IN0, V0⟩, ⟨IN1, V1⟩, ⟨IN2, V2⟩, HO⟩
  ihave Hs := (sums_done c) $$ [RE0 RE1 RE2 RE3 RE4 RE5 RE6 RE7]
  · iapply (Entails.of_eq (by_chunk fun s => (REDpost s c : sProp 𝕄)).symm)
    iframe
  unfold SumCr Dep
  icases Hs with ⟨Hsums, ⟨C1, C2, C3⟩, ⟨C5, C6, C7⟩⟩
  icases Hdep with ⟨⟨D1, D5⟩, ⟨D2, D6⟩, ⟨D3, D7⟩⟩
  iapply (run8 (kIn X) (vIn X) (oIn X) (qIn X) K c) $$ [IN3 U3 IN4 U4 IN5 U5 IN6 U6 IN7 U7 S0 S1 S2 S3 S4 S5 S6 S7 AP0 AP1 AP2 AP3 AP4 AP5 AP6 AP7 C1 D1 C2 D2 HO]
  · isplitr; · iexact HI
    isplitr; · iexact Hlev
    unfold Recv0
    isplitl [IN3 U3 IN4 U4 IN5 U5 IN6 U6 IN7 U7]; · iframe
    isplitl [S0 S1 S2 S3 S4 S5 S6 S7 AP0 AP1 AP2 AP3 AP4 AP5 AP6 AP7]
    · iapply (Entails.of_eq (by_chunk fun s => iprop(Sent s c ∗ atPos ER (dC 0 s c) 0 ∅ 0 : sProp 𝕄)).symm)
      iframe
    isplitl [C1 D1]; · isplitl [C1] <;> iassumption
    isplitl [C2 D2]; · isplitl [C2] <;> iassumption
    iexact HO
  unfold Recv1
  iintro ⟨⟨⟨IN3, V3⟩, ⟨IN4, V4⟩, ⟨IN5, V5⟩, ⟨IN6, V6⟩, ⟨IN7, V7⟩⟩, HS, L1, L2, HO⟩
  unfold tail60
  sl_exec
  iapply (ag_wait (PX X) (OX X) K 0 2 c ?gw ?gN) $$ [C3 D3 HO]
  case gw => exact sem_at' 2 3 (by decide)
  case gN => rfl
  · isplitr; · iexact HI
    isplitr; · iexact Hlev
    isplitl [C3 D3]; · isplitl [C3] <;> iassumption
    iexact HO
  iintro ⟨L3, HO⟩
  iapply ret_wp
  sl_exec
  iapply (ag_wait (PX X) (OX X) K 1 0 c ?gw ?gN) $$ [C5 D5 HO]
  case gw => exact sem_at' 2 5 (by decide)
  case gN => rfl
  · isplitr; · iexact HI
    isplitr; · iexact Hlev
    isplitl [C5 D5]; · isplitl [C5] <;> iassumption
    iexact HO
  iintro ⟨L5, HO⟩
  iapply (ag_wait (PX X) (OX X) K 1 1 c ?gw ?gN) $$ [C6 D6 HO]
  case gw => exact sem_at' 2 6 (by decide)
  case gN => rfl
  · isplitr; · iexact HI
    isplitr; · iexact Hlev
    isplitl [C6 D6]; · isplitl [C6] <;> iassumption
    iexact HO
  iintro ⟨L6, HO⟩
  iapply (ag_wait (PX X) (OX X) K 1 2 c ?gw ?gN) $$ [C7 D7 HO]
  case gw => exact sem_at' 2 7 (by decide)
  case gN => rfl
  · isplitr; · iexact HI
    isplitr; · iexact Hlev
    isplitl [C7 D7]; · isplitl [C7] <;> iassumption
    iexact HO
  iintro ⟨L7, HO⟩
  icases Hsums with ⟨Z0, Z1⟩
  ihave HS := (Entails.of_eq (bigSep_sep' (s := Finset.univ) (fun s : Fin 8 => (DN 0 s c : sProp 𝕄)) (fun s => Any rsS (r8 s) c fullShare))) $$ HS
  icases HS with ⟨HS, HR'⟩
  ihave Hg := (gather c) $$ [HS HR' Z0 Z1 L1 L2 L3 L5 L6 L7 IN0 IN1 IN2 IN3 IN4 IN5 IN6 IN7 Hidle HkR HkA]
  · isplitl [HS HR']; · isplitl [HS] <;> iassumption
    isplitl [Z0 Z1]; · isplitl [Z0] <;> iassumption
    isplitl [L1 L2 L3 L5 L6 L7]; · iframe
    isplitl [IN0 IN1 IN2 IN3 IN4 IN5 IN6 IN7]
    · iapply (Entails.of_eq (by_chunk fun s => (INpost s c : sProp 𝕄)).symm)
      iframe
    isplitl [Hidle]; · iexact Hidle
    isplitl [HkR] <;> iassumption
  icases Hg with ⟨Hdn, How, HrS, HrR, HaS, HaR⟩
  ihave Hout := (out_join X c) $$ [V0 V1 V2 V3 V4 V5 V6 V7]
  · iapply (Entails.of_eq (by_chunk fun s => (Has outM (rO s) c fullShare (outV (PX X) (OX X) c s) : sProp 𝕄)).symm)
    unfold PX OX
    iframe
  iapply (ret_upd c)
  imod (close_all (PX X) (RV (PX X) (OX X)) K c) $$ [Hat Hdn] with ⟨Hb, Hd⟩
  · isplitr; · iexact HI
    isplitl [Hat] <;> iassumption
  imodintro
  iapply Hk
  unfold Ended
  isplitl [Hb Hd]; · isplitl [Hb] <;> iassumption
  isplitl [HO]; · iexact HO
  isplitl [HX]; · iexact HX
  isplitl [Hout]; · iexact Hout
  unfold AnyB
  isplitl [Hq]; · iexists _; unfold Qc; iexact Hq
  isplitl [Hct]; · unfold CT; iexact Hct
  isplitl [How]; · iexact How
  isplitl [HrS]; · iexact HrS
  isplitl [HrR]; · iexact HrR
  isplitl [HaS] <;> iassumption

end Cert.KernelIdeal.Talk
-- ==== Proof.Ghost.lean ====
module

public import proofs.«01_k».proof.Proof.Body

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # The protocol's cells, rights and claims at launch, and what each device gets of them -/

/-! ## Cells -/

/-- The kernel's own completion counters. -/
def osem (x : Fin 4 × Fin 8) : SemLoc sig := .dma (dsem x.1 x.2)
theorem osem_inj : Function.Injective osem := fun x y h => by
  have h' : dsem x.1 x.2 = dsem y.1 y.2 := SemLoc.dma.inj h
  have := (dec_dsem x.1 x.2).symm.trans ((congrArg dec h').trans (dec_dsem y.1 y.2))
  exact Option.some.inj this
theorem osem_ne_bar (x : Fin 4 × Fin 8) : osem x ≠ .reg barS := fun h => by cases h

def barEmb : Dev nD ↪ GSem nD τ sig := ⟨fun c => barC c, fun _ _ h => congrArg (fun g : GSem nD τ sig => g.1.1) h⟩
def scEmb : Dev nD × Fin 4 × Fin 8 ↪ GSem nD τ sig :=
  ⟨fun x => ((x.1 : Thread nD τ), osem x.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

/-! ## The rights to pay -/

/-- The entry right device `c` uses at the peer `o + 1` places on. -/
def entEmb : Dev nD × Fin 3 ↪ GSem nD τ sig × ℕ × Duty :=
  ⟨fun x => (barC (peer x.1 x.2), 0, x.2), fun x y h => by
    have h2 : x.2 = y.2 := congrArg (fun t : GSem nD τ sig × ℕ × Duty => t.2.2) h
    have h1 : peer x.1 x.2 = peer y.1 y.2 := congrArg (fun t : GSem nD τ sig × ℕ × Duty => t.1.1.1) h
    refine Prod.ext ?_ h2
    rw [← payer_peer x.1 x.2, ← payer_peer y.1 y.2, h1, h2]⟩

/-- The cells device `c` pays in its exchange with the peer `o + 1` places on, for the chunks of parity `p`. -/
def payKey (x : Dev nD × Fin 3 × Fin 2 × Fin 4) : Dev nD × Fin 4 × Fin 8 :=
  match x with
  | (c, o, p, 0) => (c, 0, own (peer c o) p)
  | (c, o, p, 1) => (peer c o, 1, at4 p o)
  | (c, o, p, 2) => (c, 2, at4 p o)
  | (c, o, p, 3) => (peer c o, 3, own c p)

theorem payKey_inv : ∃ g : Dev nD × Fin 4 × Fin 8 → Dev nD × Fin 3 × Fin 2 × Fin 4, ∀ c o p a, g (payKey (c, o, p, a)) = (c, o, p, a) := by
  refine ⟨fun y =>
    if y.2.1 = 0 then (y.1, ⟨(y.2.2.val / 2 + 3 - y.1.val) % 4 % 3, Nat.mod_lt _ (by decide)⟩, par y.2.2, 0)
    else if y.2.1 = 1 then (payer y.1 (off4 y.2.2), off4 y.2.2, half y.2.2, 1)
    else if y.2.1 = 2 then (y.1, off4 y.2.2, half y.2.2, 2)
    else (owner y.2.2, ⟨(y.1.val + 3 - y.2.2.val / 2) % 4 % 3, Nat.mod_lt _ (by decide)⟩, par y.2.2, 3), ?_⟩
  decide +kernel
theorem payKey_inj : Function.Injective payKey := by
  obtain ⟨g, hg⟩ := payKey_inv
  exact Function.LeftInverse.injective (g := g) fun x => hg x.1 x.2.1 x.2.2.1 x.2.2.2

def payEmb : Dev nD × Fin 3 × Fin 2 × Fin 4 ↪ GSem nD τ sig × ℕ × Duty :=
  ⟨fun x => (scEmb (payKey x), 0, 0), fun x y h => payKey_inj (scEmb.injective (congrArg Prod.fst h))⟩

def talkToks : Finset (GSem nD τ sig × ℕ × Duty) := Finset.univ.map entEmb ∪ Finset.univ.map payEmb

theorem disjoint_toks : Disjoint (Finset.univ.map entEmb) (Finset.univ.map payEmb) := by
  rw [Finset.disjoint_left]
  rintro t h₁ h₂
  obtain ⟨x, -, rfl⟩ := Finset.mem_map.mp h₁
  obtain ⟨y, -, h⟩ := Finset.mem_map.mp h₂
  exact osem_ne_bar (payKey y).2 (congrArg (fun t : GSem nD τ sig × ℕ × Duty => t.1.2) h)

/-- The rights of device `c`. -/
def Rights (c : Dev nD) : sProp 𝕄 :=
  iprop((dutyTok ER (barC (peer c 0)) 0 0 ∗ dutyTok ER (barC (peer c 1)) 0 1 ∗ dutyTok ER (barC (peer c 2)) 0 2) ∗ Toks c)

theorem by_four {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) _

theorem pay_tok (c : Dev nD) (o : Fin 3) (p : Fin 2) :
    (bigSep Finset.univ fun a : Fin 4 => (dutyTok ER (payEmb (c, o, p, a)).1 (payEmb (c, o, p, a)).2.1 (payEmb (c, o, p, a)).2.2 : sProp 𝕄)) = Tok c o p := by
  rw [by_four]; rfl

theorem toks_eq : bigSep talkToks (fun x => (dutyTok ER x.1 x.2.1 x.2.2 : sProp 𝕄)) = bigSep Finset.univ fun c : Dev nD => Rights c := by
  unfold talkToks
  rw [bigSep_union disjoint_toks, bigSep_map, bigSep_map, bigSep_univ_prod, bigSep_univ_prod]
  refine Eq.trans ?_ (bigSep_sep' (M := 𝕄) Finset.univ (fun c : Dev nD => iprop(dutyTok ER (barC (peer c 0)) 0 0 ∗ dutyTok ER (barC (peer c 1)) 0 1 ∗ dutyTok ER (barC (peer c 2)) 0 2)) fun c => Toks c).symm
  refine congrArg₂ (fun a b : sProp 𝕄 => iprop(a ∗ b)) (bigSep_congr fun c _ => ?_) (bigSep_congr fun c _ => ?_)
  · rw [bigSep_fin3]; rfl
  · rw [bigSep_univ_prod, bigSep_fin3, bigSep_univ_prod, bigSep_univ_prod, bigSep_univ_prod, by_two, by_two, by_two]
    simp only [pay_tok]; rfl

/-! ## The claims on what is to arrive -/

theorem oweL_count (l : List (GSem nD τ sig)) (g : GSem nD τ sig) : oweL l g () = l.count g * amt g.2 := by
  induction l with
  | nil => rw [oweL_nil, List.count_nil, Nat.zero_mul]; rfl
  | cons a l ih =>
    rw [oweL_cons, Pi.add_apply, Finsupp.add_apply, ih, tallyAt_apply, List.count_cons, Nat.add_mul]
    by_cases h : a = g
    · subst h; rw [if_pos ⟨rfl, rfl⟩, if_pos (beq_self_eq_true a), Nat.one_mul]
    · rw [if_neg (fun h' => h h'.1.symm), if_neg (by simpa using h), Nat.zero_mul]

theorem launch_at (c : Dev nD) (sm : SemLoc sig) (n : ℕ) (h : ∑ d : Dev nD, (launchL d).count ((c : Thread nD τ), sm) = n) :
    tallyOn ((c : Thread nD τ), sm) (launchCredit (Pipeline.owing O₀) 0 ((c : Thread nD τ), sm)) = (tallyAt ((c : Thread nD τ), sm) () (n * amt sm) : CellTallies nD τ sig Unit) := by
  unfold tallyAt; refine congrArg _ (Finsupp.ext fun u => ?_); cases u
  rw [Pipeline.launchCredit_owing, Finsupp.single_eq_same, ← h, Finset.sum_mul]
  exact Finset.sum_congr rfl fun d _ => oweL_count (launchL d) ((c : Thread nD τ), sm)

theorem count_bar (c : Dev nD) : ∑ d : Dev nD, (launchL d).count ((c : Thread nD τ), .reg barS) = 3 := by revert c; decide +kernel

/-- The counters device `c` waits arrivals on. -/
def arrKey (c : Dev nD) (x : Fin 3 × Fin 2 × Fin 2) : Fin 4 × Fin 8 :=
  match x with
  | (o, p, 0) => (1, at4 p o)
  | (o, p, 1) => (3, own (peer c o) p)
theorem arrKey_inj (c : Dev nD) : Function.Injective (arrKey c) := by revert c; decide +kernel
theorem count_arr (c : Dev nD) (x : Fin 3 × Fin 2 × Fin 2) : ∑ d : Dev nD, (launchL d).count ((c : Thread nD τ), osem (arrKey c x)) = 1 := by
  revert c x; decide +kernel
def arrEmb (c : Dev nD) : Fin 3 × Fin 2 × Fin 2 ↪ SemLoc sig := ⟨fun x => osem (arrKey c x), fun _ _ h => arrKey_inj c (osem_inj h)⟩

theorem arr_cr (c : Dev nD) (o : Fin 3) (p : Fin 2) :
    (bigSep Finset.univ fun a : Fin 2 => (cred (tallyAt ((c : Thread nD τ), arrEmb c (o, p, a)) () N) : sProp 𝕄)) = Cr c o p := by
  rw [by_two]; rfl

theorem creds (c : Dev nD) : (Pipeline.launchCred O₀ c : sProp 𝕄) ⊢ iprop(cred (tallyAt (barC c) () 3) ∗ Crs c) := by
  unfold Pipeline.launchCred
  rw [bigSep_univ_at _ (SemLoc.reg barS), launch_at c (.reg barS) 3 (count_bar c)]
  refine sep_mono_right ?_
  refine (bigSep_subset (t := Finset.univ.map (arrEmb c)) fun sm h => ?_).trans ?_
  · obtain ⟨x, -, rfl⟩ := Finset.mem_map.mp h
    exact Finset.mem_erase.mpr ⟨osem_ne_bar _, Finset.mem_univ _⟩
  · have e : (bigSep Finset.univ fun x : Fin 3 × Fin 2 × Fin 2 => (cred (tallyAt ((c : Thread nD τ), arrEmb c x) () N) : sProp 𝕄)) = Crs c := by
      rw [bigSep_univ_prod, bigSep_fin3, bigSep_univ_prod, bigSep_univ_prod, bigSep_univ_prod]
      simp only [arr_cr]
      rw [by_two, by_two, by_two]; rfl
    rw [bigSep_map, ← e]
    refine bigSep_mono fun x _ => Entails.of_eq (congrArg cred ((launch_at c (arrEmb c x) 1 (count_arr c x)).trans ?_))
    rw [Nat.one_mul]; rfl

/-! ## What a device starts from, its completion counters not yet open -/

variable (PV : Dev nD → Fin 8 → Vec F S1x128x1024 .bf16) (RV : Fin 8 → Vec F S1x128x1024 .bf16)

/-- The records every device may consult. -/
def Records (K : GSem nD τ sig → ℕ) : sProp 𝕄 := iprop(Inv PV RV K ∗ bigSep barCells fun g => reached ER g 0)
instance (K : GSem nD τ sig → ℕ) : BI.Persistent (Records PV RV K) := by unfold Records; infer_instance

/-- What stays with device `c`. -/
def Linear (c : Dev nD) : sProp 𝕄 :=
  iprop(atPos ER (barC c) 0 ∅ 0 ∗ (bigSep Finset.univ fun x : Fin 4 × Fin 8 => openTok ER (dC x.1 x.2 c)) ∗ Rights c)

/-- What device `c` carries to the kernel. -/
def Carry (c : Dev nD) : sProp 𝕄 :=
  iprop((∃ K, Inv PV RV K ∗ Rb c ∗ Linear c) ∗ cred (tallyAt (barC c) () 3) ∗ Crs c)
/-- … and has inside it. -/
def Within (c : Dev nD) : sProp 𝕄 :=
  iprop((∃ K, Inv PV RV K) ∗ levAts L lv ∗ Rb c ∗ Rch c ∗ Begin c)

theorem reached_bar (c : Dev nD) : (bigSep barCells fun g => (reached ER g 0 : sProp 𝕄)) ⊢ reached ER (barC c) 0 :=
  bigSep_elim (Finset.mem_map_of_mem barEmb (Finset.mem_univ c))

theorem carry_intro (K : GSem nD τ sig → ℕ) (c : Dev nD) :
    iprop(Records PV RV K ∗ Linear c) ⊢ (iprop(∃ K, Inv PV RV K ∗ Rb c ∗ Linear c) : sProp 𝕄) := by
  unfold Records Rb
  iintro ⟨⟨#HI, #HR⟩, HL⟩
  iexists K
  isplitr; · iexact HI
  isplitr
  · isplitr; · iapply (reached_bar (F := F) (peer c 0)); iexact HR
    isplitr; · iapply (reached_bar (F := F) (peer c 1)); iexact HR
    iapply (reached_bar (F := F) (peer c 2)); iexact HR
  iexact HL

theorem inv_eq (K : GSem nD τ sig → ℕ) :
    (bigSep (barCells ∪ scCells) fun g => (cellInv ER (sched PV RV) (K g) g : sProp 𝕄)) = Inv PV RV K := by
  rw [bigSep_union disjoint_cells, bigSep_map, bigSep_map]; rfl

/-- Opening one completion counter. -/
theorem open_one (K : GSem nD τ sig → ℕ) (c : Dev nD) (x : Fin 4 × Fin 8) :
    iprop(Inv PV RV K ∗ (openTok ER (dC x.1 x.2 c) ∗ semVal (dC x.1 x.2 c) 0))
      ⊢ (|={Set.univ}=> (iprop(atPos ER (dC x.1 x.2 c) 0 ∅ 0 ∗ reached ER (dC x.1 x.2 c) 0)) : sProp 𝕄) := by
  iintro ⟨#HI, Ho, Hs⟩
  imod (Rounds.cell_open ER (sched PV RV) (g := dC x.1 x.2 c) (Set.mem_univ (K (dC x.1 x.2 c)))) $$ [Ho Hs] with ⟨Ha, Hr⟩
  · isplitr
    · unfold Inv
      icases HI with ⟨-, #HI⟩
      iapply (show (bigSep Finset.univ fun x : Dev nD × Fin 4 × Fin 8 => cellInv ER (sched PV RV) (K (dC x.2.1 x.2.2 x.1)) (dC x.2.1 x.2.2 x.1)) ⊢ (cellInv ER (sched PV RV) (K (dC x.1 x.2 c)) (dC x.1 x.2 c) : sProp 𝕄) from
        bigSep_elim (Φ := fun x : Dev nD × Fin 4 × Fin 8 => (cellInv ER (sched PV RV) (K (dC x.2.1 x.2.2 x.1)) (dC x.2.1 x.2.2 x.1) : sProp 𝕄)) (Finset.mem_univ (c, x.1, x.2)))
      iexact HI
    isplitl [Ho] <;> iassumption
  imodintro
  isplitl [Ha] <;> iassumption

theorem within_intro (c : Dev nD) :
    iprop(Carry PV RV c ∗ (bigSep Finset.univ fun x : Fin 4 × Fin 8 => semVal (dC x.1 x.2 c) 0) ∗ levAts L lv) ⊢ (|={Set.univ}=> Within PV RV c : sProp 𝕄) := by
  unfold Carry Within Linear Rights Begin Opened Rch
  iintro ⟨⟨⟨%K, #HI, #HB, Hat, Ho, Ht, HT⟩, Hc, Hcr⟩, Hs, #Hlev⟩
  ihave H := (show iprop((bigSep Finset.univ fun x : Fin 4 × Fin 8 => (openTok ER (dC x.1 x.2 c) : sProp 𝕄)) ∗ bigSep Finset.univ fun x : Fin 4 × Fin 8 => (semVal (dC x.1 x.2 c) 0 : sProp 𝕄)) ⊢ _ from
    Entails.of_eq (bigSep_sep' (M := 𝕄) Finset.univ (fun x : Fin 4 × Fin 8 => openTok ER (dC x.1 x.2 c)) fun x => semVal (dC x.1 x.2 c) 0).symm) $$ [Ho Hs]
  · isplitl [Ho] <;> iassumption
  ihave H := (bigSep_with_persistent (R := Inv PV RV K) (S := Finset.univ)
    (Φ := fun x : Fin 4 × Fin 8 => iprop(openTok ER (dC x.1 x.2 c) ∗ semVal (dC x.1 x.2 c) 0)) fun x _ => open_one PV RV K c x) $$ [H]
  · isplitr; · iexact HI
    iexact H
  imod (bigSep_fupd (M := 𝕄) Finset.univ fun x : Fin 4 × Fin 8 => iprop(atPos ER (dC x.1 x.2 c) 0 ∅ 0 ∗ reached ER (dC x.1 x.2 c) 0)) $$ H with H
  ihave H := (show _ ⊢ (iprop((bigSep Finset.univ fun x : Fin 4 × Fin 8 => atPos ER (dC x.1 x.2 c) 0 ∅ 0) ∗ bigSep Finset.univ fun x : Fin 4 × Fin 8 => reached ER (dC x.1 x.2 c) 0) : sProp 𝕄) from
    Entails.of_eq (bigSep_sep' (M := 𝕄) Finset.univ (fun x : Fin 4 × Fin 8 => atPos ER (dC x.1 x.2 c) 0 ∅ 0) fun x => reached ER (dC x.1 x.2 c) 0)) $$ H
  icases H with ⟨Hop, #HR⟩
  imodintro
  isplitr; · iexists K; iexact HI
  isplitr; · iexact Hlev
  isplitr; · iexact HB
  isplitr; · iexact HR
  isplitl [Ht]; · iexact Ht
  isplitl [Hc]; · iexact Hc
  isplitl [Hat]; · iexact Hat
  isplitl [HT]; · iexact HT
  isplitl [Hop] <;> iassumption

end Cert.KernelIdeal.Talk
-- ==== Proof.Launch.lean ====
module

public import proofs.«01_k».proof.Proof.Ghost
public import proofs.«01_k».proof.Proof.Gen.KernelIdeal.Regions
public import Idealize.ShloMosaic.Lib.Pipeline.ValueKit

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

/-! # The kernel region and its body -/

variable (m : (ℓ : Loc nD τ sig) → Buf (Elt F) ℓ) (ρ : Dev nD → PrngReg)

/-- What the region reads: on each device, its five operands when the region is entered. -/
def Xm (k : Fin 5) (c : Dev nD) : Vec F S1024x1024 .bf16 :=
  match k with
  | 0 => V1 m c main_v5
  | 1 => V1 m c main_arg1
  | 2 => V1 m c main_v11
  | 3 => V1 m c main_v17
  | 4 => V1 m c main_arg4

abbrev PM := PX (Xm m)
abbrev RM := RV (PX (Xm m)) (OX (Xm m))

/-- What a device holds before and after its one point. -/
def Pre (c : Dev nD) : sProp 𝕄 := iprop(Within (PM m) (RM m) c ∗ Bufs c ∗ ∃ r, prngReg c r)
def Post (c : Dev nD) : sProp 𝕄 := iprop(Ended c ∗ Bufs c ∗ ∃ r, prngReg c r)

def dat (c : Dev nD) : Dat τ (Elt F) Unit ℕ UU ℕ cfg0 c where
  A w := V1 m c (Proc.devRef .tc (Pipeline.arrRef spec0 w))
  after w _ := match w with
    | ⟨0, _⟩ => Xm m 0 c
    | ⟨1, _⟩ => Xm m 1 c
    | ⟨2, _⟩ => Xm m 2 c
    | ⟨3, _⟩ => Xm m 3 c
    | ⟨4, _⟩ => Xm m 4 c
    | ⟨5, _⟩ => outX (Xm m) c
  Φ t := if t.val = 0 then Pre m c else Post c
  q _ := fullShare
  owed t := if t.val = 0 then O₀ c else 0

def pdats : (p : Fin 1) → (c : Dev nD) → Dat τ (Elt F) Unit ℕ UU ℕ (Pipeline.pin (pcfgs (F := F)) adm p) c
  | 0 => dat m

/-! ## The staged operands and the written result -/

theorem emb_0 (j : S1024x1024.Idx) : (win0_0.blk t0_0).view.emb j = j := by
  show (win0_0.rect t0_0).emb j = j
  funext a; apply Fin.ext
  exact Pipeline.Window.rect_emb_val_of_index_zero win0_0 t0_0 a rfl j
theorem emb_1 (j : S1024x1024.Idx) : (win0_1.blk t0_0).view.emb j = j := by
  show (win0_1.rect t0_0).emb j = j
  funext a; apply Fin.ext
  exact Pipeline.Window.rect_emb_val_of_index_zero win0_1 t0_0 a rfl j
theorem emb_2 (j : S1024x1024.Idx) : (win0_2.blk t0_0).view.emb j = j := by
  show (win0_2.rect t0_0).emb j = j
  funext a; apply Fin.ext
  exact Pipeline.Window.rect_emb_val_of_index_zero win0_2 t0_0 a rfl j
theorem emb_3 (j : S1024x1024.Idx) : (win0_3.blk t0_0).view.emb j = j := by
  show (win0_3.rect t0_0).emb j = j
  funext a; apply Fin.ext
  exact Pipeline.Window.rect_emb_val_of_index_zero win0_3 t0_0 a rfl j
theorem emb_4 (j : S1024x1024.Idx) : (win0_4.blk t0_0).view.emb j = j := by
  show (win0_4.rect t0_0).emb j = j
  funext a; apply Fin.ext
  exact Pipeline.Window.rect_emb_val_of_index_zero win0_4 t0_0 a rfl j
theorem emb_5 (j : S1024x1024.Idx) : (win0_5.blk t0_0).view.emb j = j := by
  show (win0_5.rect t0_0).emb j = j
  funext a; apply Fin.ext
  exact Pipeline.Window.rect_emb_val_of_index_zero win0_5 t0_0 a rfl j

theorem before_0 (c : Dev nD) (d) : (dat m c).before 0 t0_0 d = Xm m 0 c := by
  unfold Pipeline.Dat.before; rw [if_pos (by decide)]
  funext j
  exact congrArg (Xm m 0 c) (emb_0 j)
theorem before_1 (c : Dev nD) (d) : (dat m c).before 1 t0_0 d = Xm m 1 c := by
  unfold Pipeline.Dat.before; rw [if_pos (by decide)]
  funext j
  exact congrArg (Xm m 1 c) (emb_1 j)
theorem before_2 (c : Dev nD) (d) : (dat m c).before 2 t0_0 d = Xm m 2 c := by
  unfold Pipeline.Dat.before; rw [if_pos (by decide)]
  funext j
  exact congrArg (Xm m 2 c) (emb_2 j)
theorem before_3 (c : Dev nD) (d) : (dat m c).before 3 t0_0 d = Xm m 3 c := by
  unfold Pipeline.Dat.before; rw [if_pos (by decide)]
  funext j
  exact congrArg (Xm m 3 c) (emb_3 j)
theorem before_4 (c : Dev nD) (d) : (dat m c).before 4 t0_0 d = Xm m 4 c := by
  unfold Pipeline.Dat.before; rw [if_pos (by decide)]
  funext j
  exact congrArg (Xm m 4 c) (emb_4 j)

theorem arr_5 (c : Dev nD) : (dat m c).arrAt 5 cfg0.N = outX (Xm m) c := by
  refine (dat m c).arrAt_eq_of_after_last 5 t0_0 (by decide +kernel) _ (fun j => ?_)
  rfl

/-! ## What the region owes -/

theorem owed_first (c : Dev nD) : (dat m c).owed t0_0.castSucc = O₀ c := by
  show (if (t0_0.castSucc : Fin (cfg0.N + 1)).val = 0 then O₀ c else 0) = O₀ c; exact if_pos rfl
theorem owed_zero (c : Dev nD) : (pdats m 0 c).owed 0 = O₀ c := by
  show (if ((0 : Fin (cfg0.N + 1)).val = 0) then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owes_in (c : Dev nD) : ((dat m c).owesAt () t0_0.castSucc : sProp 𝕄) ⊢ OW c (launchL c) := by
  unfold Dat.owesAt Pipeline.owesWithin OW; rw [owed_first]
  iintro ⟨%W, -, HO⟩; iexists W; iexact HO
theorem owes_out (c : Dev nD) : (OW c [] : sProp 𝕄) ⊢ (dat m c).owesAt () t0_0.succ := by
  unfold Dat.owesAt Pipeline.owesWithin Dat.bound OW; rw [show (dat m c).owed t0_0.succ = 0 from owed_last m c, oweL_nil]
  iintro ⟨%W, HO⟩; iexists W; isplitr; · ipureintro; exact fun _ _ => Or.inl trivial
  iexact HO

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem body_obligation (c : Dev nD) : BodyObligation (dat (F := F) m c) (defs₀ (F := F)) 𝒱₀ () Set.univ := fun t => by
  obtain rfl := fin_N0 t
  rw [bigSep_W0, bigSep_W0]
  simp only [owns_whole_eq]
  rw [show (dat m c).Φ t0_0.castSucc = Pre m c from rfl, show (dat m c).Φ t0_0.succ = Post c from rfl]
  unfold Pre Post Within
  iintro ⟨⟨⟨⟨%K, #HI⟩, #Hlev, #HB, #HR, Hb⟩, Hs, Hp⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before_0] at h0; rw [before_1] at h1; rw [before_2] at h2; rw [before_3] at h3; rw [before_4] at h4
  subst h0; subst h1; subst h2; subst h3; subst h4
  ihave HO := (owes_in m c) $$ HO
  iapply (body_run (Xm m) K c) $$ [Hb HO H0 H1 H2 H3 H4 H5 Hs]
  · isplitr; · iexact HI
    isplitr; · iexact Hlev
    isplitr; · iexact HB
    isplitr; · iexact HR
    isplitl [Hb]; · iexact Hb
    isplitl [HO]; · iexact HO
    isplitl [H0 H1 H2 H3 H4]
    · unfold InX In All
      isplitl [H0]; · iexact H0
      isplitl [H1]; · iexact H1
      isplitl [H2]; · iexact H2
      isplitl [H3]; · iexact H3
      iexact H4
    isplitl [H5]; · unfold AnyB; iexists f5; iexact H5
    iexact Hs
  unfold InX In All
  iintro ⟨He, HO, ⟨H0, H1, H2, H3, H4⟩, H5, Hs⟩
  isplitl [He Hs Hp]
  · isplitl [He]; · iexact He
    isplitl [Hs] <;> iassumption
  isplitl [HO]; · iapply (owes_out m c); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

end Cert.KernelIdeal.Talk
-- ==== Proof.Main.lean ====
module

public import proofs.«01_k».proof.Proof.Launch

@[expose] public section

set_option maxRecDepth 16384

noncomputable section

namespace Cert.KernelIdeal.Talk

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)

variable {F : FTy → Type} [FloatOps F] [Named F]

local notation "𝕄" => MT nD τ sig Unit (Elt F) ℕ UU ℕ

/-! # The whole program's run -/

variable (m : (ℓ : Loc nD τ sig) → Buf (Elt F) ℓ) (ρ : Dev nD → PrngReg)

/-- What the region leaves: each device's whole result. -/
def outs : Outs (F := F) := fun _ r c => Function.update (V1 m c) (Proc.devRef .tc main_v18) (outX (Xm m) c) (Proc.devRef .tc r)
theorem outs_v18 (c : Dev nD) : outs m 2 main_v18 c = outX (Xm m) c := by unfold outs; exact Function.update_self _ _ _

/-! ## The region's record -/

theorem own_facts : Pipeline.OwnSemFacts spec0 osem := ⟨by decide, osem_inj, by decide⟩

theorem own_eq (c : Dev nD) : (Pipeline.ownSems0 osem c : sProp 𝕄) = bigSep Finset.univ fun x : Fin 4 × Fin 8 => semVal (dC x.1 x.2 c) 0 := rfl

theorem hopen (c : Dev nD) : iprop(Carry (PM m) (RM m) c ∗ Pipeline.ownSems0 osem c ∗ levAts L lv) ⊢ (|={Set.univ}=> Within (PM m) (RM m) c : sProp 𝕄) := by
  rw [own_eq]
  exact within_intro (PM m) (RM m) c

theorem rest_eq (c : Dev nD) : (Pipeline.scopedRest (Ix := Unit) (Name := ℕ) (U := UU) (Lvl := ℕ) (Val := Elt F) (Pipeline.pin (pcfgs (F := F)) adm 0).spec c : sProp 𝕄) = Bufs c := scopedRest0_eq c

theorem hin (c : Dev nD) : iprop(Pipeline.scopedRest (Pipeline.pin (pcfgs (F := F)) adm 0).spec c ∗ (∃ r, prngReg c r) ∗ StableHlo.held (c.tc : Thread nD τ) ∅ (V1 m c) ∗ Within (PM m) (RM m) c)
    ⊢ (pdats m 0 c).Φ 0 := by
  rw [show (pdats m 0 c).Φ 0 = Pre m c from rfl, rest_eq]
  unfold Pre
  iintro ⟨Hs, Hp, -, HW⟩
  isplitl [HW]; · iexact HW
  isplitl [Hs] <;> iassumption

theorem held_none (c : Dev nD) (W : Valuation τ sig (Elt F)) : (StableHlo.held (c.tc : Thread nD τ) ∅ W : sProp 𝕄) = BI.emp := by
  unfold StableHlo.held
  exact BI.bigSep_empty

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c) ∗ Pipeline.ownSems0 osem c ∗ semVal (barC c) 0) := by
  rw [show (pdats m 0 c).Φ (Fin.last _) = Post c from rfl, rest_eq, own_eq, held_none]
  unfold Post Ended
  iintro ⟨⟨Hb, Ho⟩, Hs, Hp⟩
  isplitl [Hs]; · iexact Hs
  isplitl [Hp]; · iexact Hp
  isplitr; · iempintro
  isplitl [Ho] <;> iassumption

theorem stage_lv : ∀ (c : Dev nD) (w : Fin 6) (s : Fin (cfg0.win w).nbuf), lv ((c : Thread nD τ), .dma ((cfg0.win w).sem s)) () ≤ 0 := by decide +kernel
theorem launch_lv : ∀ (c : Dev nD), ∀ g ∈ launchL c, g.1.2 = .tc ∧ 0 < lv g () := by decide +kernel

theorem owed_lv (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · have hg := launch_lv c g (oweL_pos h)
    exact ⟨by unfold L; rw [if_pos hg.1]; exact Finset.mem_singleton_self _, hg.2⟩
  · exact absurd h (Nat.lt_irrefl 0)

theorem at_v18 (c : Dev nD) : V2 m (outs m) c (Proc.devRef .tc main_v18) = outs m 2 main_v18 c := Function.update_self _ _ _
theorem arr_out (c : Dev nD) : (w : Fin 6) → (pdats m 0 c).arrAt w (Pipeline.pin (pcfgs (F := F)) adm 0).N = V2 m (outs m) c (Proc.devRef .tc (Pipeline.arrRef (Pipeline.pin (pcfgs (F := F)) adm 0).spec w))
  | 0 => ((dat m c).arrAt_in 0 rfl _).trans (V2_of m (outs m) c main_v5 (by decide)).symm
  | 1 => ((dat m c).arrAt_in 1 rfl _).trans (V2_of m (outs m) c main_arg1 (by decide)).symm
  | 2 => ((dat m c).arrAt_in 2 rfl _).trans (V2_of m (outs m) c main_v11 (by decide)).symm
  | 3 => ((dat m c).arrAt_in 3 rfl _).trans (V2_of m (outs m) c main_v17 (by decide)).symm
  | 4 => ((dat m c).arrAt_in 4 rfl _).trans (V2_of m (outs m) c main_arg4 (by decide)).symm
  | 5 => (arr_5 m c).trans ((outs_v18 m c).symm.trans (at_v18 m c).symm)

theorem share_full (c : Dev nD) (w : Fin 6) : (dat m c).share w = fullShare := by unfold Dat.share; exact ite_self _

abbrev Rest : Finset (DevRef τ sig) := Pipeline.ucRefs τ sig \ Pipeline.arrRefs (τ := τ) spec0

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ Rest (Finset.empty_subset _) launch0.toP rfl (fun c => (body_obligation m c).loose)
    (fun _ => 0) O₀ (fun c => (owed_zero m c).trans (zero_add _).symm) (owed_last m) (fun _ => rfl) (fun c w => share_full m c w)
    (V1 m) (V2 m (outs m)) (fun c b hb => by
      refine Function.update_of_ne (fun h => ?_) _ _
      subst h
      exact (Finset.mem_sdiff.mp (Finset.mem_sdiff.mp hb).1).2 (by decide +kernel))
    (Carry (PM m) (RM m)) (fun c => semVal (barC c) 0) (Within (PM m) (RM m)) (fun c => semVal (barC c) 0) (hopen m) (hin m) (hout m)
    (fun c => by iintro H; imodintro; iexact H)
    (fun _ => 0)
    ⟨fun c w s => by rw [L_tc]; exact Finset.mem_singleton_self _, fun c w s => stage_lv c w s, fun c t g i h => owed_lv m c t g i h⟩
    (fun _ => iprop(emp))
    (fun _ _ => rfl) (arr_out m)

/-! ## Between the items -/

/-- What rides beside the buffers before the region, and after it. -/
def E (j : Fin 2) (c : Dev nD) : sProp 𝕄 :=
  match j with
  | 0 => iprop(Carry (PM m) (RM m) c ∗ (∃ r, prngReg c r) ∗ OW c (launchL c))
  | 1 => iprop(semVal (barC c) 0 ∗ OW c [])

theorem held_split (c : Dev nD) (W : Valuation τ sig (Elt F)) :
    (StableHlo.held (c : Thread nD τ) (Pipeline.ucRefs τ sig) W : sProp 𝕄)
      = iprop(StableHlo.held (c.tc : Thread nD τ) (Pipeline.arrRefs (τ := τ) spec0) W ∗ StableHlo.held (c.tc : Thread nD τ) Rest W) :=
  StableHlo.held_sub_split (c : Thread nD τ) (Pipeline.arrRefs_sub_ucRefs spec0 (by decide)) W

theorem reg_pre (c : Dev nD) : iprop(StableHlo.held (c : Thread nD τ) (Pipeline.ucRefs τ sig) (V1 m c) ∗ E m 0 c) ⊢ (reg m).pre c := by
  show _ ⊢ (iprop(StableHlo.held (c.tc : Thread nD τ) (Pipeline.arrRefs (τ := τ) spec0) (V1 m c) ∗ (∃ r, prngReg c r)
    ∗ (StableHlo.held (c.tc : Thread nD τ) Rest (V1 m c) ∗ emp) ∗ Carry (PM m) (RM m) c ∗ ∃ Wd, owes (c : Thread nD τ) (0 + O₀ c) Wd) : sProp 𝕄)
  rw [held_split, zero_add]
  unfold E OW
  iintro ⟨⟨Ha, Hr⟩, HC, Hp, HO⟩
  isplitl [Ha]; · iexact Ha
  isplitl [Hp]; · iexact Hp
  isplitl [Hr]
  · isplitl [Hr]; · iexact Hr
    iempintro
  isplitl [HC]; · iexact HC
  iexact HO

theorem reg_post (c : Dev nD) : (reg m).post c ⊢ iprop(StableHlo.held (c : Thread nD τ) (Pipeline.ucRefs τ sig) (V2 m (outs m) c) ∗ E m 1 c) := by
  show (iprop(StableHlo.held (c.tc : Thread nD τ) (Pipeline.arrRefs (τ := τ) spec0) (V2 m (outs m) c) ∗ (∃ r, prngReg c r)
    ∗ (StableHlo.held (c.tc : Thread nD τ) Rest (V2 m (outs m) c) ∗ emp) ∗ semVal (barC c) 0 ∗ ∃ Wd, owes (c : Thread nD τ) (0 : CellTallies nD τ sig Unit) Wd) : sProp 𝕄) ⊢ _
  rw [held_split]
  unfold E OW
  rw [oweL_nil]
  iintro ⟨Ha, -, ⟨Hr, -⟩, Hb, HO⟩
  isplitl [Ha Hr]
  · isplitl [Ha] <;> iassumption
  isplitl [Hb] <;> iassumption

/-! ## The launch -/

def u₀ : UU :=
  (initOf (Pipeline.cells (Pipeline.pin (pcfgs (F := F)) adm) cellOf_inj) (Pipeline.launchToks (Pipeline.pin (pcfgs (F := F)) adm) cellOf_inj),
    launchOf barCells scCells talkToks)

/-- The protocol's launch element, all of it on device 0 until the launch deals it. -/
def G (c : Dev nD) : sProp 𝕄 := if c = 0 then BI.own (ER (launchOf barCells scCells talkToks)) else iprop(emp)
theorem all_G : bigSep Finset.univ (G (F := F)) = BI.own (ER (launchOf barCells scCells talkToks)) := by
  rw [bigSep_univ_at _ (0 : Dev nD), bigSep_congr (s := Finset.univ.erase (0 : Dev nD)) (Φ := G (F := F)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem sems_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- A device's launch holdings that are not the protocol's ghost state. -/
def Plain (c : Dev nD) : sProp 𝕄 :=
  iprop(StableHlo.held (c : Thread nD τ) (Pipeline.ucRefs τ sig) (V0 m c) ∗ (cred (tallyAt (barC c) () 3) ∗ Crs c)
    ∗ OW c (launchL c) ∗ ∃ r, prngReg c r)

theorem first_intro (K : GSem nD τ sig → ℕ) (c : Dev nD) :
    iprop(Records (PM m) (RM m) K ∗ (Linear c ∗ Plain m c)) ⊢ (iprop(StableHlo.held (c : Thread nD τ) (Pipeline.ucRefs τ sig) (V0 m c) ∗ E m 0 c) : sProp 𝕄) := by
  unfold Plain E Carry
  iintro ⟨#HR, Hl, Hh, ⟨Hc, Hcr⟩, HO, Hp⟩
  isplitl [Hh]; · iexact Hh
  isplitl [Hl Hc Hcr]
  · isplitl [Hl]
    · iapply (carry_intro (PM m) (RM m) K c)
      isplitr; · iexact HR
      iexact Hl
    isplitl [Hc] <;> iassumption
  isplitl [Hp] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ E m 0 c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(Plain m c ∗ (semVal (barC c) 0 ∗ G c)) : sProp 𝕄) := by
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c), sems_eq]
    unfold Plain
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · unfold OW; iexists ∅; iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun x : Fin 4 × Fin 8 => openTok ER (dC x.1 x.2 c)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(Plain m c ∗ (semVal (barC c) 0 ∗ G c)) : sProp 𝕄) from bigSep_mono fun c _ => hcore c) $$ H
  ihave H2 := (Entails.of_eq (bigSep_sep' (M := 𝕄) Finset.univ (fun c : Dev nD => Plain m c) fun c => iprop(semVal (barC c) 0 ∗ G c))) $$ H'
  icases H2 with ⟨HB, H3⟩
  ihave H4 := (Entails.of_eq (bigSep_sep' (M := 𝕄) Finset.univ (fun c : Dev nD => (semVal (barC c) 0 : sProp 𝕄)) fun c => G c)) $$ H3
  icases H4 with ⟨Hv, HG⟩
  ihave Hu := (show bigSep Finset.univ (G (F := F)) ⊢ BI.own (ER (launchOf barCells scCells talkToks)) from Entails.of_eq all_G) $$ HG
  imod (Rounds.fund_launch ER (sched (PM m) (RM m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := Records (PM m) (RM m) κ) (Φ := fun c => iprop(Linear c ∗ Plain m c)) fun c _ => first_intro m κ c)
  isplitr
  · unfold Records
    isplitr
    · iapply (Entails.of_eq (inv_eq (PM m) (RM m) κ)); iexact Hinv
    iexact Hr
  iapply (Entails.of_eq (bigSep_sep' (M := 𝕄) Finset.univ (fun c : Dev nD => Linear c) fun c => Plain m c).symm)
  isplitr [HB]
  · unfold Linear
    iapply (Entails.of_eq (bigSep_sep' (M := 𝕄) Finset.univ (fun c : Dev nD => atPos ER (barC c) 0 ∅ 0)
      fun c => iprop((bigSep Finset.univ fun x : Fin 4 × Fin 8 => openTok ER (dC x.1 x.2 c)) ∗ Rights c)).symm)
    isplitl [Hat]; · iapply hat $$ Hat
    iapply (Entails.of_eq (bigSep_sep' (M := 𝕄) Finset.univ
      (fun c : Dev nD => bigSep Finset.univ fun x : Fin 4 × Fin 8 => openTok ER (dC x.1 x.2 c)) fun c => Rights c).symm)
    isplitl [Hopen]; · iapply hop $$ Hopen
    iapply (Entails.of_eq (toks_eq (F := F))) $$ Htok
  · iexact HB

/-! ## The run -/

theorem unscoped_eq : ∀ sm : SemLoc sig, sm.isScoped .tc = false → sm = .reg barS := by decide

theorem uc_mem (r : Ref sig .tc) (h : ¬ r.isScoped) : (Proc.devRef .tc r : DevRef τ sig) ∈ Pipeline.ucRefs τ sig :=
  Finset.mem_filter.mpr ⟨StableHlo.devRef_mem_tcRefs r, h⟩

abbrev items (c : Dev nD) : List (Seg (pcfgs (F := F)) adm (pdats m) () defs₀ 𝒱₀ L lv) :=
  segs m (outs m) 𝒱₀ L lv (E m) () (pdats m) (reg m) c

set_option backward.isDefEq.respectTransparency.types false in
/-- From any memory with zero counters, every weakly fair execution terminates; every final state has each unscoped buffer
    of each device at `V3`, and every counter at zero. -/
theorem run_main : θ_run defs (onTc (τ := τ) (main (F := F))) ⟨m, fun _ => 0, ρ⟩
    (fun r => (∀ c : Dev nD, ∀ b ∈ Pipeline.ucRefs τ sig, r.2.mem (c, b) = V3 m (outs m) c b) ∧ r.2.sem = fun _ => 0) := by
  refine Pipeline.θ_run_regions_kit_dev_sems (pcfgs (F := F)) adm (pdats m) () cellOf_inj EP defs₀ 𝒱₀ L lv m ρ main
    (items m)
    (fun c Q => by
      rewrite [main_chain c, Seg.run_eq_chain,
        show (items m c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [items, segs, Seg.pipes_host, Seg.pipes_region, Seg.pipes_nil]; decide) O₀ L_of_ne (G (F := F)) (u₀ (F := F))
    (by
      unfold u₀
      iintro Hu
      ihave H := (ownU_pair _ _) $$ Hu
      icases H with ⟨HP, HX⟩
      imodintro
      isplitl [HP]; · iexact HP
      rw [all_G]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barC c) 0))
    (hch := fun c => ⟨.rfl, reg_pre m c, reg_post m c, ?_⟩)
    (hinit := init m ρ)
    (QY := fun c s => (∀ b ∈ Pipeline.ucRefs τ sig, s.mem (c, b) = V3 m (outs m) c b) ∧ s.sem (barC c) = 0)
    (hfin := fun c s' => ?_)
    (hQ := fun s h hs => ⟨fun c => (h c).1, sem_eq_zero hs fun c sm hsm => by
        obtain rfl := unscoped_eq sm hsm
        exact (h c).2⟩)
  · show iprop(StableHlo.held (c : Thread nD τ) (Pipeline.ucRefs τ sig) (V3 m (outs m) c) ∗ E m 1 c) ⊢ _
    unfold E OW
    rw [oweL_nil]
    iintro ⟨Hh, Hb, HO⟩
    isplitr [HO]
    · isplitl [Hh] <;> iassumption
    iexact HO
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨h, by simpa using hb⟩
    · iexact HSI

/-- … so it ends with the arguments as launched. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (uc_mem main_arg0 (by decide))).trans (V3_main_arg0 m (outs m) c), (h.1 c _ (uc_mem main_arg1 (by decide))).trans (V3_main_arg1 m (outs m) c),
      (h.1 c _ (uc_mem main_arg2 (by decide))).trans (V3_main_arg2 m (outs m) c), (h.1 c _ (uc_mem main_arg3 (by decide))).trans (V3_main_arg3 m (outs m) c),
      (h.1 c _ (uc_mem main_arg4 (by decide))).trans (V3_main_arg4 m (outs m) c)⟩, h.2⟩) (run_main m ρ)

end Cert.KernelIdeal.Talk
-- ==== Proof.Frames.lean ====
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run

@[expose] public section

set_option maxRecDepth 16384

noncomputable section

/-! # The frames

The idealized kernel reads like the kernel but for one constant's name. Over words that name stands for the constant
itself, so there the run of the one is the run of the other. -/

namespace Cert.KernelIdeal.Talk

open Cert.Kernel.Gen Cert.KernelIdeal.Gen
open Idealize.ShloMosaic Idealize.ShloMosaic.TcCoe Idealize.SL.Sem

/-- Over words a named constant is the constant it is printed for. -/
@[reducible] def wordNamed : Named Bits := ⟨fun _ _ _ b => Scalar.ofBits _ b⟩

section same
attribute [local instance] wordNamed
set_option backward.isDefEq.respectTransparency false

theorem main_same : Cert.Kernel.main (F := Bits) = Cert.KernelIdeal.main (F := Bits) := rfl
theorem body_same : Cert.Kernel.cc0_body (F := Bits) = Cert.KernelIdeal.cc0_body (F := Bits) := rfl
theorem defs₀_same : Cert.Kernel.defs₀ (F := Bits) = Cert.KernelIdeal.defs₀ (F := Bits) := by
  funext p l a
  cases p
  · match l, a with
    | 0, (t, s) => exact congrFun (congrFun rfl _) _
  · rfl
  · rfl
theorem defs_same : Cert.Kernel.defs (F := Bits) = Cert.KernelIdeal.defs (F := Bits) :=
  congrArg (Pipeline.defs (Cert.KernelIdeal.pcfgs (F := Bits))) defs₀_same

/-- The kernel runs, leaves its arguments and ends quiet. -/
theorem frame_kernel : Cert.quiescent_Kernel (hKernel := Cert.Kernel.Gen.facts) := fun m ρ _ => by
  have e := congrArg₂ (fun D M => θ_run D (onTc (τ := τ) M) ⟨m, fun _ => 0, ρ⟩) defs_same main_same
  have h := run_frame (F := Bits) m ρ
  rw [show θ_run (Cert.KernelIdeal.defs (F := Bits)) (onTc (τ := τ) (Cert.KernelIdeal.main (F := Bits))) ⟨m, fun _ => 0, ρ⟩ = _ from e.symm] at h
  exact h

end same

/-- So does the idealized one. -/
theorem frame_ideal : Cert.quiescent_KernelIdeal (hKernelIdeal := Cert.KernelIdeal.Gen.facts) := fun m ρ _ => run_frame (F := Ideal) m ρ

/-- The reference runs on the host alone and has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's constant is named minus infinity. -/
theorem preserves : Cert.preserves_Kernel_KernelIdeal :=
  IdealRules.named_const.statement Cert.KernelIdeal.κ "mask" .f32 0xCE6E6B28#32 ⊥ rfl

end Cert.KernelIdeal.Talk
-- ==== Proof.Soft.lean ====
module

public import Idealize.ShloMosaic.PureOps
public import Idealize.ShloMosaic.PureOps.Ideal
public import Mathlib.Data.EReal.Operations
public import Mathlib.Data.EReal.Inv
public import Mathlib.Algebra.BigOperators.Fin

@[expose] public section

noncomputable section

namespace Cert.Soft

open Idealize.ShloMosaic

/-! ## Softmax without and with the greatest score taken off, over the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A nonnegative real factor distributes over any sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h,
      EReal.right_distrib_of_nonneg_of_ne_top (by exact_mod_cast hc) (EReal.coe_ne_top c), ih]

/-- A sum over the first `m` of `n` places is the sum over all of them when the rest are zero. -/
theorem sum_castLE {m n : ℕ} (h : m ≤ n) (f : Fin n → EReal) (hz : ∀ j : Fin n, m ≤ j.val → f j = 0) :
    ∑ j : Fin m, f (Fin.castLE h j) = ∑ j : Fin n, f j := by
  have e := Finset.sum_map (Finset.univ : Finset (Fin m)) (Fin.castLEEmb h) f
  refine Eq.trans e.symm ?_
  refine Finset.sum_subset (Finset.subset_univ _) fun j _ hj => hz j ?_
  by_contra hlt
  exact hj (Finset.mem_map.2 ⟨⟨j.val, by omega⟩, Finset.mem_univ _, Fin.ext rfl⟩)

/-- The greatest of the kept scores is a real number. -/
theorem fold_max_real {n : ℕ} (keep : Fin n → Prop) [DecidablePred keep] (r : Fin n → ℝ) (hk : ∃ j, keep j) :
    ∃ μ : ℝ, Finset.univ.fold max (⊥ : EReal) (fun j => if keep j then (r j : EReal) else ⊥) = (μ : EReal) := by
  obtain ⟨j, hj⟩ := hk
  have hbot : Finset.univ.fold max (⊥ : EReal) (fun j => if keep j then (r j : EReal) else ⊥) ≠ ⊥ := by
    have h : (r j : EReal) ≤ Finset.univ.fold max (⊥ : EReal) (fun j => if keep j then (r j : EReal) else ⊥) :=
      (Finset.le_fold_max _).2 (Or.inr ⟨j, Finset.mem_univ _, by rw [if_pos hj]⟩)
    intro e
    rw [e] at h
    exact EReal.coe_ne_bot _ (le_bot_iff.1 h)
  have htop : Finset.univ.fold max (⊥ : EReal) (fun j => if keep j then (r j : EReal) else ⊥) ≠ ⊤ := by
    refine ne_of_lt ((Finset.fold_max_lt _).2 ⟨bot_lt_top, fun x _ => ?_⟩)
    split
    · exact EReal.coe_lt_top _
    · exact bot_lt_top
  exact ⟨_, (EReal.coe_toReal htop hbot).symm⟩

/-- A kept score's weight. -/
def wt {n : ℕ} (keep : Fin n → Prop) [DecidablePred keep] (r : Fin n → ℝ) (j : Fin n) : ℝ := if keep j then Real.exp (r j) else 0

theorem wt_pos {n : ℕ} (keep : Fin n → Prop) [DecidablePred keep] (r : Fin n → ℝ) (hk : ∃ j, keep j) : 0 < ∑ j, wt keep r j := by
  obtain ⟨j, hj⟩ := hk
  refine Finset.sum_pos' (fun i _ => ?_) ⟨j, Finset.mem_univ _, ?_⟩
  · unfold wt; split
    · exact (Real.exp_pos _).le
    · exact le_refl _
  · unfold wt; rw [if_pos hj]; exact Real.exp_pos _

theorem exp_shift {n : ℕ} (keep : Fin n → Prop) [DecidablePred keep] (r : Fin n → ℝ) (μ : ℝ) (j : Fin n) :
    Ideal.exp ((if keep j then (r j : EReal) else ⊥) - (μ : EReal)) = ((wt keep r j * Real.exp (-μ) : ℝ) : EReal) := by
  unfold wt
  by_cases h : keep j
  · rw [if_pos h, if_pos h, ← EReal.coe_sub, Ideal.exp_coe, sub_eq_add_neg, Real.exp_add]
  · rw [if_neg h, if_neg h, EReal.bot_sub, Ideal.exp_bot, zero_mul, EReal.coe_zero]

/-- Weights normalised after the sum are weights normalised before it, shifted by any real. -/
theorem soft {n : ℕ} (keep : Fin n → Prop) [DecidablePred keep] (r : Fin n → ℝ) (v : Fin n → EReal) (μ : ℝ) (hk : ∃ j, keep j) :
    Ideal.div (∑ j, (wt keep r j : EReal) * v j) (∑ j, (wt keep r j : EReal)) =
      ∑ j, v j * Ideal.div (Ideal.exp ((if keep j then (r j : EReal) else ⊥) - (μ : EReal)))
        (0 + ∑ k, Ideal.exp ((if keep k then (r k : EReal) else ⊥) - (μ : EReal))) := by
  have hz := wt_pos keep r hk
  have he := Real.exp_pos (-μ)
  simp only [exp_shift, zero_add]
  rw [← coe_sum, ← coe_sum, ← Finset.sum_mul, Ideal.div_coe hz.ne', sum_mul_real _ _ _ (one_div_pos.2 hz).le]
  refine Finset.sum_congr rfl fun j _ => ?_
  rw [Ideal.div_coe (mul_pos hz he).ne', ← EReal.coe_mul, mul_comm (wt keep r j : EReal) (v j), mul_assoc, ← EReal.coe_mul]
  congr 2
  field_simp

end Cert.Soft
-- ==== Proof.RefDefs.lean ====
module

public import proofs.«01_k».proof.Proof.Gen.ReferenceIdeal.Run
public import proofs.«01_k».proof.Proof.Soft
public import Idealize.ShloMosaic.Lib.ValueIdx
public import Idealize.ShloMosaic.Lib.Pointwise
public import Idealize.ShloMosaic.Lib.Pipeline.Value
public import Idealize.ShloMosaic.Lib.KernelVsHost

@[expose] public section

set_option maxRecDepth 16384

noncomputable section

namespace Cert.ReferenceIdeal.Val

open Idealize.ShloMosaic Idealize.ShloMosaic.TcCoe Cert.ReferenceIdeal Cert.ReferenceIdeal.Gen

/-! The reference in layers: projected queries, masked scores, weights, context, output. The printed term of the
result is the last of these layers by unfolding, and each contraction is read at one entry as a plain sum. -/

/-- The block number of each position. -/
def blockNo : IVec S1024 32 :=
  select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))

/-- Which keys each row attends to. -/
def maskR : IVec S1024x1024 1 :=
  cmpi .sle (broadcastInDim S1024x1024 ![0, 1] bcast_S1x1024_S1024x1024_0_1 (broadcastInDim S1x1024 ![1] bcast_S1024_S1x1024_1 blockNo)) (broadcastInDim S1024x1024 ![0, 1] bcast_S1024x1_S1024x1024_0_1 (broadcastInDim S1024x1 ![0] bcast_S1024_S1024x1_0 blockNo))

/-- Whether a row attends to any key. -/
def anyR : IVec S1024 1 :=
  Host.reduce IntOp.ori maskR (constantI S_ 1 0#1) reducesTo_S1024x1024_S1024_d1 h_S_

/-- The projected queries. -/
def qR (x : FVec Ideal S1x1024x1024 .bf16) (wq : FVec Ideal S1024x4096 .bf16) : FVec Ideal S1x1024x4096 .f32 :=
  Host.dotGeneral dot_S1x1024x1024_S1024x4096_S1x1024x4096_2_0_01_1_n_n none (extf .f32 x bitsLt_bf16_f32) (extf .f32 wq bitsLt_bf16_f32)

/-- The raw products of queries and keys. -/
def dotR (q : FVec Ideal S1x1024x4096 .f32) (k : FVec Ideal S1x1024x32x128 .bf16) : FVec Ideal S1x32x1024x1024 .f32 :=
  Host.dotGeneral dot_S1x1024x32x128_S1x1024x32x128_S1x32x1024x1024_3_3_1_1_02_02 none (shapeCast _ q shapeCasts_S1x1024x4096_S1x1024x32x128) (extf .f32 k bitsLt_bf16_f32)

/-- The scaled scores, minus infinity where masked. -/
def scR (d : FVec Ideal S1x32x1024x1024 .f32) : FVec Ideal S1x32x1024x1024 .f32 :=
  select (broadcastInDim S1x32x1024x1024 ![0, 1, 2, 3] bcast_S1x1x1024x1024_S1x32x1024x1024_0_1_2_3 (broadcastInDim S1x1x1024x1024 ![2, 3] bcast_S1024x1024_S1x1x1024x1024_2_3 maskR)) (mulf d (broadcastInDim S1x32x1024x1024 ![] bcast_S_S1x32x1024x1024 (constant S_ .f32 0x3DB504F3#32))) (broadcastInDim S1x32x1024x1024 ![] bcast_S_S1x32x1024x1024 (id (constant S_ .f32 0xFF800000#32)))

/-- The largest score of each row. -/
def maxR (s : FVec Ideal S1x32x1024x1024 .f32) : FVec Ideal S1x32x1024 .f32 :=
  Host.reduce FloatOps.maximumf s (constant S_ .f32 0xFF800000#32) reducesTo_S1x32x1024x1024_S1x32x1024_d3 h_S_

/-- The exponentials of the scores less their row's largest. -/
def exR (s : FVec Ideal S1x32x1024x1024 .f32) : FVec Ideal S1x32x1024x1024 .f32 :=
  Host.exp (subf s (broadcastInDim S1x32x1024x1024 ![0, 1, 2, 3] bcast_S1x32x1024x1_S1x32x1024x1024_0_1_2_3 (broadcastInDim S1x32x1024x1 ![0, 1, 2] bcast_S1x32x1024_S1x32x1024x1_0_1_2 (maxR s))))

/-- The row sums of the exponentials. -/
def sumR (e : FVec Ideal S1x32x1024x1024 .f32) : FVec Ideal S1x32x1024 .f32 :=
  Host.reduceAdd e (constant S_ .f32 0x00000000#32) reducesTo_S1x32x1024x1024_S1x32x1024_d3 h_S_

/-- The weights. -/
def wR (e : FVec Ideal S1x32x1024x1024 .f32) : FVec Ideal S1x32x1024x1024 .f32 :=
  select (broadcastInDim S1x32x1024x1024 ![0, 1, 2, 3] bcast_S1x1x1024x1_S1x32x1024x1024_0_1_2_3 (broadcastInDim S1x1x1024x1 ![2] bcast_S1024_S1x1x1024x1_2 anyR)) (Host.divf e (broadcastInDim S1x32x1024x1024 ![0, 1, 2, 3] bcast_S1x32x1024x1_S1x32x1024x1024_0_1_2_3 (select (broadcastInDim S1x32x1024x1 ![0, 1, 2, 3] bcast_S1x1x1024x1_S1x32x1024x1_0_1_2_3 (broadcastInDim S1x1x1024x1 ![2] bcast_S1024_S1x1x1024x1_2 anyR)) (broadcastInDim S1x32x1024x1 ![0, 1, 2] bcast_S1x32x1024_S1x32x1024x1_0_1_2 (sumR e)) (broadcastInDim S1x32x1024x1 ![] bcast_S_S1x32x1024x1 (id (constant S_ .f32 0x3F800000#32)))))) (broadcastInDim S1x32x1024x1024 ![] bcast_S_S1x32x1024x1024 (id (constant S_ .f32 0x00000000#32)))

/-- The context, head by head. -/
def ctxR (v : FVec Ideal S1x1024x32x128 .bf16) (w : FVec Ideal S1x32x1024x1024 .f32) : FVec Ideal S1x32x128x1024 .f32 :=
  Host.dotGeneral dot_S1x1024x32x128_S1x32x1024x1024_S1x32x128x1024_1_3_3_2_02_01 none (extf .f32 v bitsLt_bf16_f32) w

/-- The output projection. -/
def outR (y : FVec Ideal S1x32x128x1024 .f32) (wo : FVec Ideal S4096x1024 .bf16) : FVec Ideal S1x1024x1024 .f32 :=
  Host.dotGeneral dot_S1x1024x4096_S4096x1024_S1x1024x1024_2_0_01_1_n_n none (shapeCast _ (transpose S1x1024x32x128 [0, 3, 1, 2] y transposes_S1x32x128x1024_S1x1024x32x128_0_3_1_2) shapeCasts_S1x1024x32x128_S1x1024x4096) (extf .f32 wo bitsLt_bf16_f32)

/-- The printed term of the result is these layers. -/
theorem res_layers (m : (ℓ : Loc nD τ sig) → Buf (Elt Ideal) ℓ) (c : Dev nD) :
    Cert.ReferenceIdeal.Value.res_main_v38 m c
      = outR (ctxR (m (c.tc.loc main_arg3)) (wR (exR (scR (dotR (qR (m (c.tc.loc main_arg0)) (m (c.tc.loc main_arg1)))
          (m (c.tc.loc main_arg2))))))) (m (c.tc.loc main_arg4)) := rfl

/-- A contraction over one axis, read at one entry. -/
theorem dot_at {sl sr so : Shape} {φ₁ φ₂ : FTy} (d : DotDims sl sr so) {a : Fin sl.rank} {K : ℕ}
    (hc : d.lhsContracting = [a]) (hK : sl.size a = K) (l : FVec Ideal sl φ₁) (r : FVec Ideal sr φ₂) (j : so.Idx)
    (li : Fin K → sl.Idx) (ri : Fin K → sr.Idx)
    (hl : ∀ k, d.lhsIdx j (d.contrIdx₁ hc hK k) = li k) (hr : ∀ k, d.rhsIdx j (d.contrIdx₁ hc hK k) = ri k) :
    (Host.dotGeneral d none l r : FVec Ideal so .f32) j = ∑ k : Fin K, (l (li k) : EReal) * (r (ri k) : EReal) := by
  refine (Ideal.dotGeneral_apply d none _ l r j).trans ((DotDims.sum_contr₁ d hc hK _).trans ?_)
  exact Finset.sum_congr rfl fun k _ => by rw [hl k, hr k]

end Cert.ReferenceIdeal.Val
-- ==== Proof.HeadVal.lean ====
module

public import proofs.«01_k».proof.Proof.Ends
public import proofs.«01_k».proof.Proof.Soft
public import Idealize.ShloMosaic.Lib.MatmulPlain
public import Idealize.ShloMosaic.Lib.ValueIdx
public import Idealize.ShloMosaic.Lib.Pointwise
public import Idealize.ShloMosaic.Lib.Pipeline.Value

@[expose] public section

set_option maxRecDepth 16384

noncomputable section

namespace Cert.KernelIdeal.Talk

open Cert.KernelIdeal.Gen
open Idealize.ShloMosaic Idealize.ShloMosaic.TcCoe

/-! ## One head's context at an index, over the extended reals -/

/-- Division by 64 rounding down, of one word. -/
def fdivW (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 64#32 0#32)) (Scalar.extui (Scalar.cmpi .slt 64#32 0#32))))
    (Scalar.cmpi .ne (Scalar.remsi x 64#32) 0#32))
    (Scalar.subi (Scalar.divsi x 64#32) 1#32) (Scalar.divsi x 64#32)

theorem fdiv64_apply {n : Shape} (x : IVec n 32) (i : n.Idx) : fdiv64 x i = fdivW (x i) := rfl

theorem fdivW_ofNat (a : Fin 1024) : fdivW (BitVec.ofNat 32 a.val) = BitVec.ofNat 32 (a.val / 64) := by
  revert a; decide +kernel

theorem sle_ofNat (a b : Fin 16) : IntOp.cmpi .sle (BitVec.ofNat 32 a.val) (BitVec.ofNat 32 b.val) = if a.val ≤ b.val then 1#1 else 0#1 := by
  revert a b; decide +kernel

theorem mask_named : (Named.named κ "mask" 0xCE6E6B28#32 : Ideal .f32) = (⊥ : EReal) :=
  IdealRules.named_const.ideal_named_scalar _ _ _ _ rfl

theorem mm_plain {M K N : ℕ} {φ₁ φ₂ : FTy} (lhs : FVec Ideal ⟨2, ![M, K]⟩ φ₁) (rhs : FVec Ideal ⟨2, ![K, N]⟩ φ₂) (r : Fin M) (c : Fin N) :
    matmul (F := Ideal) (DotDims.plain M K N) none lhs rhs (constant ⟨2, ![M, N]⟩ .f32 0x00000000#32) (ix2 r c) = ∑ k : Fin K, lhs (ix2 r k) * rhs (ix2 k c) := by
  refine (Ideal.matmul_plain_apply (M := M) (K := K) (N := N) none lhs rhs _ r c).trans ?_
  rw [ValueIdx.constant_apply, Ideal.ofBits_zero_f32, zero_add]
  rfl
theorem mm_trans {M K N : ℕ} {φ₁ φ₂ : FTy} (lhs : FVec Ideal ⟨2, ![M, K]⟩ φ₁) (rhs : FVec Ideal ⟨2, ![N, K]⟩ φ₂) (r : Fin M) (c : Fin N) :
    matmul (F := Ideal) (DotDims.transposedRhs M K N) none lhs rhs (constant ⟨2, ![M, N]⟩ .f32 0x00000000#32) (ix2 r c) = ∑ k : Fin K, lhs (ix2 r k) * rhs (ix2 c k) := by
  refine (Ideal.matmul_transposedRhs_apply (M := M) (K := K) (N := N) none lhs rhs _ r c).trans ?_
  rw [ValueIdx.constant_apply, Ideal.ofBits_zero_f32, zero_add]
  rfl
theorem exp_apply {s : Shape} (a : FVec Ideal s .f32) (i : s.Idx) : exp a i = Ideal.exp (a i) := rfl

/-- Whether query row `p` of chunk `s` sees key `j`. -/
abbrev sees (i j : ℕ) : Prop := j / 64 ≤ i / 64

theorem iota_apply0 (s : Fin 8) (p : Fin 128) (j : Fin (128 * (s.val + 1))) :
    iota .tc (shW s) 32 [0] (iota0 s) (ix2 p j) = BitVec.ofNat 32 p.val := iota_single_apply _ _ _ _ _ _
theorem iota_apply1 (s : Fin 8) (p : Fin 128) (j : Fin (128 * (s.val + 1))) :
    iota .tc (shW s) 32 [1] (iota1 s) (ix2 p j) = BitVec.ofNat 32 j.val := iota_single_apply _ _ _ _ _ _

theorem add_ofNat (s : Fin 8) (p : Fin 128) : IntOp.addi (BitVec.ofNat 32 (128 * s.val)) (BitVec.ofNat 32 p.val) = BitVec.ofNat 32 (128 * s.val + p.val) := by
  show BitVec.ofNat 32 (128 * s.val) + BitVec.ofNat 32 p.val = _
  rw [BitVec.ofNat_add]

theorem negV_apply (s : Fin 8) (p : Fin 128) (j : Fin (128 * (s.val + 1))) :
    negV (F := Ideal) s (ix2 p j) = if sees (128 * s.val + p.val) j.val then (0 : EReal) else ⊥ := by
  have hp := p.isLt
  have hj := j.isLt
  have hs := s.isLt
  unfold negV
  rw [ValueIdx.select_apply]
  have e : cmpi .sle (fdiv64 (iota .tc (shW s) 32 [1] (iota1 s)))
      (fdiv64 (addi (broadcast (shW s) (BitVec.ofNat 32 (128 * s.val))) (iota .tc (shW s) 32 [0] (iota0 s)))) (ix2 p j)
      = if j.val / 64 ≤ (128 * s.val + p.val) / 64 then 1#1 else 0#1 := by
    show IntOp.cmpi .sle (fdivW (iota .tc (shW s) 32 [1] (iota1 s) (ix2 p j)))
      (fdivW (IntOp.addi (BitVec.ofNat 32 (128 * s.val)) (iota .tc (shW s) 32 [0] (iota0 s) (ix2 p j)))) = _
    rw [iota_apply0, iota_apply1, add_ofNat, fdivW_ofNat ⟨j.val, by omega⟩, fdivW_ofNat ⟨128 * s.val + p.val, by omega⟩]
    exact sle_ofNat ⟨j.val / 64, by omega⟩ ⟨(128 * s.val + p.val) / 64, by omega⟩
  rw [e]
  by_cases h : j.val / 64 ≤ (128 * s.val + p.val) / 64
  · rw [if_pos h, if_pos h]
    exact Ideal.ofBits_zero_f32
  · rw [if_neg h, if_neg h]
    exact mask_named

theorem slK_apply {α : Type} (s h : Fin 8) (x : S1024x1024.Idx → α) (j : Fin (128 * (s.val + 1))) (e : Fin 128) (J N : Fin 1024)
    (hJ : J.val = j.val) (hN : N.val = 128 * h.val + e.val) :
    extractStridedSlice (shK s) ![0, 128 * h.val] x (slK s h) (ix2 j e) = x (ix2 J N) := by
  refine extractStridedSlice_apply _ _ _ _ _ fun a => ?_
  match a with
  | ⟨0, _⟩ => show J.val = 0 + j.val; omega
  | ⟨1, _⟩ => show N.val = 128 * h.val + e.val; omega

/-- The score of query `p` and key `j` as the body computes it. -/
theorem expV_apply (s h : Fin 8) (k : FVec Ideal S1024x1024 .bf16) (q : FVec Ideal S128x128 .bf16) (p : Fin 128) (j : Fin (128 * (s.val + 1)))
    (r : ℝ) (hr : ∑ e : Fin 128, q (ix2 p e) * extractStridedSlice (shK s) ![0, 128 * h.val] k (slK s h) (ix2 j e) = (r : EReal)) :
    expV s h k q (ix2 p j) = ((if sees (128 * s.val + p.val) j.val then Real.exp r else 0 : ℝ) : EReal) := by
  unfold expV
  rw [exp_apply, ValueIdx.addf_apply, mm_trans, negV_apply, hr]
  by_cases h : sees (128 * s.val + p.val) j.val
  · rw [if_pos h, if_pos h, add_zero, Ideal.exp_coe]
  · rw [if_neg h, if_neg h, EReal.add_bot, Ideal.exp_bot, EReal.coe_zero]

theorem headV_apply (s h : Fin 8) (k v : FVec Ideal S1024x1024 .bf16) (q : FVec Ideal S128x128 .bf16) (p e : Fin 128) :
    headV s h k v q (ix2 p e) = Ideal.div
      (∑ j : Fin (128 * (s.val + 1)), expV s h k q (ix2 p j) * extractStridedSlice (shK s) ![0, 128 * h.val] v (slK s h) (ix2 j e))
      (∑ j : Fin (128 * (s.val + 1)), expV s h k q (ix2 p j)) := by
  unfold headV
  rw [shapeCast_self, ValueIdx.truncf_apply, ValueIdx.divf_apply, mm_plain]
  refine congrArg₂ Ideal.div rfl ?_
  refine (broadcastTo_apply _ _ _ (ix2 p 0) fun a => ?_).trans ?_
  · match a with
    | ⟨0, _⟩ => rfl
    | ⟨1, _⟩ => rfl
  refine (shapeCast_apply _ _ _ (ix1 p) ?_).trans ?_
  · rw [Shape.rowMajor_val_one, Shape.rowMajor_val_two]
    show p.val = p.val * 1 + 0
    omega
  refine (Ideal.multiReduction_add_single (a := (1 : Fin (shW s).rank)) _ _ (redW s) _ _ _).trans ?_
  refine Finset.sum_congr rfl fun j _ => congrArg _ ?_
  funext a
  match a with
  | ⟨0, _⟩ => rfl
  | ⟨1, _⟩ => rfl

end Cert.KernelIdeal.Talk
-- ==== Proof.RefVal.lean ====
module

public import proofs.«01_k».proof.Proof.RefDefs
public import proofs.«01_k».proof.Proof.HeadVal

@[expose] public section

set_option maxRecDepth 16384

noncomputable section

namespace Cert.ReferenceIdeal.Val

open Idealize.ShloMosaic Idealize.ShloMosaic.TcCoe Cert.ReferenceIdeal Cert.ReferenceIdeal.Gen
open Cert.KernelIdeal.Talk (sees sle_ofNat)

/-! ## The four contractions -/

theorem qR_apply (x : FVec Ideal S1x1024x1024 .bf16) (wq : FVec Ideal S1024x4096 .bf16) (i : Fin 1024) (n : Fin 4096) :
    qR x wq (ix3 (0 : Fin 1) i n) = ∑ d : Fin 1024, (x (ix3 (0 : Fin 1) i d) : EReal) * (wq (ix2 d n) : EReal) := by
  refine dot_at dot_S1x1024x1024_S1024x4096_S1x1024x4096_2_0_01_1_n_n (K := 1024) rfl rfl _ _ _
    (fun d => ix3 (0 : Fin 1) i d) (fun d => ix2 d n) (fun d => ?_) (fun d => ?_)
  · funext a
    match a with
    | ⟨0, _⟩ => rfl
    | ⟨1, _⟩ => rfl
    | ⟨2, _⟩ => rfl
  · funext a
    match a with
    | ⟨0, _⟩ => rfl
    | ⟨1, _⟩ => rfl

theorem dotR_apply (q : FVec Ideal S1x1024x4096 .f32) (k : FVec Ideal S1x1024x32x128 .bf16) (H : Fin 32) (i j : Fin 1024)
    (N : Fin 128 → Fin 4096) (hN : ∀ e, (N e).val = 128 * H.val + e.val) :
    dotR q k (ix4 (0 : Fin 1) H i j) = ∑ e : Fin 128, (q (ix3 (0 : Fin 1) i (N e)) : EReal) * (k (ix4 (0 : Fin 1) j H e) : EReal) := by
  refine (dot_at dot_S1x1024x32x128_S1x1024x32x128_S1x32x1024x1024_3_3_1_1_02_02 (K := 128) rfl rfl _ _ _
    (fun e => ix4 (0 : Fin 1) i H e) (fun e => ix4 (0 : Fin 1) j H e) (fun e => ?_) (fun e => ?_)).trans ?_
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl
  · refine Finset.sum_congr rfl fun e _ => congrArg (· * (k (ix4 (0 : Fin 1) j H e) : EReal)) ?_
    refine shapeCast_apply _ _ _ (ix3 (0 : Fin 1) i (N e)) ?_
    rw [Shape.rowMajor_val_three, Shape.rowMajor_val_four]
    simp only [ix3_0, ix3_1, ix3_2, ix4_0, ix4_1, ix4_2, ix4_3, hN]
    show _ = _
    simp
    omega

theorem ctxR_apply (v : FVec Ideal S1x1024x32x128 .bf16) (w : FVec Ideal S1x32x1024x1024 .f32) (H : Fin 32) (e : Fin 128) (i : Fin 1024) :
    ctxR v w (ix4 (0 : Fin 1) H e i) = ∑ j : Fin 1024, (v (ix4 (0 : Fin 1) j H e) : EReal) * (w (ix4 (0 : Fin 1) H i j) : EReal) := by
  refine dot_at dot_S1x1024x32x128_S1x32x1024x1024_S1x32x128x1024_1_3_3_2_02_01 (K := 1024) rfl rfl _ _ _
    (fun j => ix4 (0 : Fin 1) j H e) (fun j => ix4 (0 : Fin 1) H i j) (fun j => ?_) (fun j => ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

theorem outR_apply (y : FVec Ideal S1x32x128x1024 .f32) (wo : FVec Ideal S4096x1024 .bf16) (i o : Fin 1024)
    (H : Fin 4096 → Fin 32) (e : Fin 4096 → Fin 128) (hn : ∀ n, n.val = 128 * (H n).val + (e n).val) :
    outR y wo (ix3 (0 : Fin 1) i o) = ∑ n : Fin 4096, (y (ix4 (0 : Fin 1) (H n) (e n) i) : EReal) * (wo (ix2 n o) : EReal) := by
  refine (dot_at dot_S1x1024x4096_S4096x1024_S1x1024x1024_2_0_01_1_n_n (K := 4096) rfl rfl _ _ _
    (fun n => ix3 (0 : Fin 1) i n) (fun n => ix2 n o) (fun n => ?_) (fun n => ?_)).trans ?_
  · funext a
    match a with
    | ⟨0, _⟩ => rfl
    | ⟨1, _⟩ => rfl
    | ⟨2, _⟩ => rfl
  · funext a
    match a with
    | ⟨0, _⟩ => rfl
    | ⟨1, _⟩ => rfl
  · refine Finset.sum_congr rfl fun n _ => congrArg (· * (wo (ix2 n o) : EReal)) ?_
    refine (shapeCast_apply _ _ _ (ix4 (0 : Fin 1) i (H n) (e n)) ?_).trans ?_
    · rw [Shape.rowMajor_val_three, Shape.rowMajor_val_four]
      simp only [ix3_0, ix3_1, ix3_2, ix4_0, ix4_1, ix4_2, ix4_3, hn n]
      show _ = _
      simp
      omega
    · refine transpose_apply _ _ _ _ _ (fun a => ?_)
      match a with
      | ⟨0, _⟩ => rfl
      | ⟨1, _⟩ => rfl
      | ⟨2, _⟩ => rfl
      | ⟨3, _⟩ => rfl

/-! ## The mask -/

theorem blockNo_apply : ∀ i : Fin 1024, blockNo (ix1 i) = BitVec.ofNat 32 (i.val / 64) := by decide +kernel

theorem maskR_apply (i j : Fin 1024) : maskR (ix2 i j) = if sees i.val j.val then 1#1 else 0#1 := by
  have hl : broadcastInDim S1024x1024 ![0, 1] bcast_S1x1024_S1024x1024_0_1 (broadcastInDim S1x1024 ![1] bcast_S1024_S1x1024_1 blockNo) (ix2 i j)
      = blockNo (ix1 j) := by
    refine (broadcastInDim_apply _ _ _ _ (ix2 (0 : Fin 1) j) fun a => ?_).trans (broadcastInDim_apply _ _ _ _ (ix1 j) fun a => ?_)
    · match a with
      | ⟨0, _⟩ => rfl
      | ⟨1, _⟩ => rfl
    · match a with
      | ⟨0, _⟩ => rfl
  have hr : broadcastInDim S1024x1024 ![0, 1] bcast_S1024x1_S1024x1024_0_1 (broadcastInDim S1024x1 ![0] bcast_S1024_S1024x1_0 blockNo) (ix2 i j)
      = blockNo (ix1 i) := by
    refine (broadcastInDim_apply _ _ _ _ (ix2 i (0 : Fin 1)) fun a => ?_).trans (broadcastInDim_apply _ _ _ _ (ix1 i) fun a => ?_)
    · match a with
      | ⟨0, _⟩ => rfl
      | ⟨1, _⟩ => rfl
    · match a with
      | ⟨0, _⟩ => rfl
  refine (congrArg₂ (IntOp.cmpi .sle) (hl.trans (blockNo_apply j)) (hr.trans (blockNo_apply i))).trans ?_
  have hi := i.isLt
  have hj := j.isLt
  refine (sle_ofNat ⟨j.val / 64, by omega⟩ ⟨i.val / 64, by omega⟩).trans ?_
  rfl

/-- A left fold by `or` that meets a one is one. -/
theorem foldl_ori_one {ι : Type} (f : ι → BitVec 1) : ∀ (l : List ι) (b : BitVec 1), (b = 1#1 ∨ ∃ n ∈ l, f n = 1#1) →
    l.foldl (fun r n => IntOp.ori r (f n)) b = 1#1
  | [], b, h => h.elim id fun ⟨_, hn, _⟩ => nomatch hn
  | a :: l, b, h => by
    have key : ∀ x y : BitVec 1, x = 1#1 ∨ y = 1#1 → IntOp.ori x y = 1#1 := by decide
    refine foldl_ori_one f l _ ?_
    rcases h with h | ⟨n, hn, hf⟩
    · exact .inl (key _ _ (.inl h))
    · rcases List.mem_cons.1 hn with rfl | hn
      · exact .inl (key _ _ (.inr hf))
      · exact .inr ⟨n, hn, hf⟩

/-- Every row attends to a key: its own position. -/
theorem anyR_apply (i : Fin 1024) : anyR (ix1 i) = 1#1 := by
  unfold anyR
  rw [Host.reduce_eq_foldl]
  refine foldl_ori_one maskR _ _ (.inr ⟨ix2 i i, ?_, ?_⟩)
  · rw [List.mem_filter]
    refine ⟨List.mem_map.2 ⟨S1024x1024.rowMajor (ix2 i i), List.mem_finRange _, Equiv.symm_apply_apply _ _⟩, ?_⟩
    refine decide_eq_true ?_
    funext a
    match a with
    | ⟨0, _⟩ => rfl
  · rw [maskR_apply, if_pos (le_refl _)]

end Cert.ReferenceIdeal.Val
-- ==== Proof.KernVal.lean ====
module

public import proofs.«01_k».proof.Proof.HeadVal

@[expose] public section

set_option maxRecDepth 16384

noncomputable section

namespace Cert.KernelIdeal.Talk

open Cert.KernelIdeal.Gen
open Idealize.ShloMosaic Idealize.ShloMosaic.TcCoe

/-! ## The kernel's result at an index, over the extended reals -/

section Cols
variable {F : FTy → Type} [FloatOps F] [Named F]

/-- Column `n` of the eight heads' contexts is column `n % 128` of head `n / 128`. -/
def colsAt (f : Fin 8 → FVec F S128x128 .bf16) : FVec F S128x1024 .bf16 := fun y =>
  f ⟨(y 1).val / 128, Nat.div_lt_of_lt_mul (y 1).isLt⟩ (ix2 (n0 := 128) (n1 := 128) (y 0) ⟨(y 1).val % 128, Nat.mod_lt _ (by decide)⟩)

theorem rC_emb0 (h : Fin 8) (x : S128x128.Idx) : (((rC h).emb x) 0).val = (x 0).val :=
  (ValueKit.rect_emb_unit_val (s := S128x1024) ![0, 128 * h.val] S128x128.size (inbC h) x 0).trans (Nat.zero_add _)
theorem rC_emb1 (h : Fin 8) (x : S128x128.Idx) : (((rC h).emb x) 1).val = 128 * h.val + (x 1).val :=
  ValueKit.rect_emb_unit_val (s := S128x1024) ![0, 128 * h.val] S128x128.size (inbC h) x 1

theorem colsAt_emb (f : Fin 8 → FVec F S128x128 .bf16) (h : Fin 8) (x : S128x128.Idx) : colsAt f ((rC h).emb x) = f h x := by
  have h1 := rC_emb1 h x
  have hx : (x 1).val < 128 := (x 1).isLt
  unfold colsAt
  have e1 : (⟨(((rC h).emb x) 1).val / 128, Nat.div_lt_of_lt_mul (((rC h).emb x) 1).isLt⟩ : Fin 8) = h := Fin.ext (by show _ / 128 = _; rw [h1]; omega)
  have e2 : ix2 (n0 := 128) (n1 := 128) (((rC h).emb x) 0) ⟨(((rC h).emb x) 1).val % 128, Nat.mod_lt _ (by decide)⟩ = x := by
    refine Eq.trans ?_ (eq_ix2 (n0 := 128) (n1 := 128) x).symm
    refine (ix2_inj _ _ _ _).mpr ⟨Fin.ext (rC_emb0 h x), Fin.ext ?_⟩
    show (((rC h).emb x) 1).val % 128 = (x 1).val
    rw [h1]; omega
  rw [e1, e2]

theorem rC_cover (y : S128x1024.Idx) : ∃ (h : Fin 8) (x : S128x128.Idx), (rC h).emb x = y := by
  have hy : (y 1).val < 1024 := (y 1).isLt
  refine ⟨⟨(y 1).val / 128, by omega⟩, ix2 (n0 := 128) (n1 := 128) (y 0) ⟨(y 1).val % 128, Nat.mod_lt _ (by decide)⟩, ?_⟩
  refine Eq.trans (eq_ix2 (n0 := 128) (n1 := 1024) _) (Eq.trans ?_ (eq_ix2 (n0 := 128) (n1 := 1024) y).symm)
  refine (ix2_inj _ _ _ _).mpr ⟨Fin.ext (rC_emb0 _ _), Fin.ext ((rC_emb1 _ _).trans ?_)⟩
  show 128 * ((y 1).val / 128) + (y 1).val % 128 = (y 1).val
  omega

theorem ctxCols_eq (f : Fin 8 → FVec F S128x128 .bf16) : ctxCols f = colsAt f := by
  funext j
  unfold ctxCols
  rw [View.readCov_eq_canon']
  have ej : rCW.toLoadRect.idx j = j := by
    funext a
    apply Fin.ext
    match a with
    | ⟨0, _⟩ => show 0 + 1 * (j 0).val = (j 0).val; omega
    | ⟨1, _⟩ => show 0 + 1 * (j 1).val = (j 1).val; omega
  show View.canon _ (rCW.toLoadRect.idx j) = _
  rw [ej]
  refine View.canon_apply_of_pieces (Val := Elt F) (e := .bf16) (colsAt f)
    (([7, 6, 5, 4, 3, 2, 1, 0] : List (Fin 8)).map fun h => (⟨rC h, f h⟩ : View.Piece (Elt F) S128x1024 .bf16)) ?_ j ?_
  · intro p hp x
    obtain ⟨h, -, rfl⟩ := List.mem_map.1 hp
    exact (colsAt_emb f h x).symm
  · obtain ⟨h, x, e⟩ := rC_cover j
    refine ⟨⟨rC h, f h⟩, List.mem_map.2 ⟨h, (by decide : ∀ h : Fin 8, h ∈ ([7, 6, 5, 4, 3, 2, 1, 0] : List (Fin 8))) h, rfl⟩, ?_⟩
    rw [← e]
    show (rC h).emb x ∈ (rC h).set
    rw [← Rect.map_emb_univ]
    exact Finset.mem_map_of_mem _ (Finset.mem_univ x)

end Cols

theorem partV_apply (s : Fin 8) (k v wo q : FVec Ideal S1024x1024 .bf16) (p : Fin 128) (o : Fin 1024) :
    partV s k v wo q (ix2 p o) = ∑ n : Fin 1024, colsAt (fun h => headV s h k v (qAt q s h)) (ix2 p n) * wo (ix2 n o) := by
  unfold partV
  rw [ctxCols_eq, mm_plain]

theorem partO_read (s : Fin 8) (k v wo q : FVec Ideal S1024x1024 .bf16) (p : Fin 128) (o : Fin 1024) :
    shapeCast S128x1024 (partO s k v wo q) shapeCasts_S1x128x1024_S128x1024 (ix2 p o) = partV s k v wo q (ix2 p o) := by
  unfold partO
  refine (shapeCast_apply _ _ _ (ix3 (0 : Fin 1) p o) ?_).trans (shapeCast_apply _ _ _ (ix2 p o) ?_) <;>
  · rw [Shape.rowMajor_val_two, Shape.rowMajor_val_three]
    show _ = _
    simp only [ix2_0, ix2_1, ix3_0, ix3_1, ix3_2]
    simp
theorem partB_read (s : Fin 8) (k v wo q : FVec Ideal S1024x1024 .bf16) (p : Fin 128) (o : Fin 1024) :
    shapeCast S128x1024 (partB s k v wo q) shapeCasts_S1x128x1024_S128x1024 (ix2 p o) = partV s k v wo q (ix2 p o) :=
  partO_read s k v wo q p o

/-- Owner and senders of a chunk are the four devices. -/
theorem four (s : Fin 8) (f : Dev nD → EReal) :
    f (owner s) + f (rsFrom (owner s) (at4 (par s) 0)) + f (rsFrom (owner s) (at4 (par s) 1)) + f (rsFrom (owner s) (at4 (par s) 2)) = ∑ d : Fin 4, f d := by
  rw [Fin.sum_univ_four]
  have key : ∀ s : Fin 8, (owner s = 0 ∧ rsFrom (owner s) (at4 (par s) 0) = 3 ∧ rsFrom (owner s) (at4 (par s) 1) = 2 ∧ rsFrom (owner s) (at4 (par s) 2) = 1)
      ∨ (owner s = 1 ∧ rsFrom (owner s) (at4 (par s) 0) = 0 ∧ rsFrom (owner s) (at4 (par s) 1) = 3 ∧ rsFrom (owner s) (at4 (par s) 2) = 2)
      ∨ (owner s = 2 ∧ rsFrom (owner s) (at4 (par s) 0) = 1 ∧ rsFrom (owner s) (at4 (par s) 1) = 0 ∧ rsFrom (owner s) (at4 (par s) 2) = 3)
      ∨ (owner s = 3 ∧ rsFrom (owner s) (at4 (par s) 0) = 2 ∧ rsFrom (owner s) (at4 (par s) 1) = 1 ∧ rsFrom (owner s) (at4 (par s) 2) = 0) := by decide
  rcases key s with ⟨h0, h1, h2, h3⟩ | ⟨h0, h1, h2, h3⟩ | ⟨h0, h1, h2, h3⟩ | ⟨h0, h1, h2, h3⟩ <;> rw [h1, h2, h3, h0] <;> abel

section Out
variable (X : Fin 5 → Dev nD → Vec Ideal S1024x1024 .bf16)

theorem red_apply (s : Fin 8) (p : Fin 128) (o : Fin 1024) :
    OV (PX X) (OX X) s (ix2 p o) = ∑ d : Fin 4, partV s (kIn X d) (vIn X d) (oIn X d) (qIn X d) (ix2 p o) := by
  rw [← four s fun d => partV s (kIn X d) (vIn X d) (oIn X d) (qIn X d) (ix2 p o)]
  unfold OV redF
  rw [ValueIdx.addf_apply, ValueIdx.addf_apply, ValueIdx.addf_apply, ValueIdx.extf_apply, ValueIdx.extf_apply, ValueIdx.extf_apply]
  exact congrArg₂ (· + ·) (congrArg₂ (· + ·) (congrArg₂ (· + ·) (partO_read _ _ _ _ _ p o) (partB_read _ _ _ _ _ p o)) (partB_read _ _ _ _ _ p o)) (partB_read _ _ _ _ _ p o)

theorem wide_RV (s : Fin 8) (p : Fin 128) (o : Fin 1024) : wide (RV (PX X) (OX X) s) (ix2 p o) = OV (PX X) (OX X) s (ix2 p o) := by
  unfold wide RV redB
  rw [ValueIdx.extf_apply]
  refine (shapeCast_apply _ _ _ (ix3 (0 : Fin 1) p o) ?_).trans (shapeCast_apply _ _ _ (ix2 p o) ?_) <;>
  · rw [Shape.rowMajor_val_two, Shape.rowMajor_val_three]
    simp only [ix2_0, ix2_1, ix3_0, ix3_1, ix3_2]
    simp

/-- Entry `(i, o)` of any device's result: the four devices' partial products of the row's chunk. -/
theorem outX_apply (c : Dev nD) (i o : Fin 1024) :
    outX X c (ix2 i o) = ∑ d : Fin 4, partV ⟨i.val / 128, Nat.div_lt_of_lt_mul i.isLt⟩ (kIn X d) (vIn X d) (oIn X d) (qIn X d)
      (ix2 ⟨i.val % 128, Nat.mod_lt _ (by decide)⟩ o) := by
  unfold outX outV
  refine Eq.trans ?_ (red_apply X ⟨i.val / 128, Nat.div_lt_of_lt_mul i.isLt⟩ ⟨i.val % 128, Nat.mod_lt _ (by decide)⟩ o)
  split
  · rfl
  · exact wide_RV X _ _ _

end Out

end Cert.KernelIdeal.Talk
-- ==== Proof.HostVal.lean ====
module

public import proofs.«01_k».proof.Proof.KernVal
public import proofs.«01_k».proof.Proof.Launch
public import Idealize.ShloMosaic.Lib.DynamicIndex
public import Idealize.ShloMosaic.Lib.StableHlo.Run

@[expose] public section

set_option maxRecDepth 16384

noncomputable section

namespace Cert.KernelIdeal.Talk

open Cert.KernelIdeal.Gen
open Idealize.ShloMosaic Idealize.ShloMosaic.TcCoe Idealize.ShloMosaic.StableHlo

/-! ## What the devices' arrays hold when the kernel starts -/

variable (m : (ℓ : Loc nD τ sig) → Buf (Elt Ideal) ℓ)

theorem host_v5 (c : Dev nD) : V1 m c main_v5 = shapeCast S1024x1024 (m ((c : Thread nD τ).loc main_arg0)) shapeCasts_S1x1024x1024_S1024x1024 := by
  after_results
  rfl

/-- The first of a device's eight heads, as the device computes it. -/
def headStart (c : Dev nD) : IVec S_ 32 :=
  select (cmpi .slt (muli (id (Host.remui (Host.divui (constantI S_ 32 (Dev.word c)) (constantI S_ 32 1#32)) (constantI S_ 32 4#32))) (constantI S_ 32 8#32)) (constantI S_ 32 0#32))
    (addi (muli (id (Host.remui (Host.divui (constantI S_ 32 (Dev.word c)) (constantI S_ 32 1#32)) (constantI S_ 32 4#32))) (constantI S_ 32 8#32)) (constantI S_ 32 32#32))
    (muli (id (Host.remui (Host.divui (constantI S_ 32 (Dev.word c)) (constantI S_ 32 1#32)) (constantI S_ 32 4#32))) (constantI S_ 32 8#32))
theorem headStart_toInt (c : Dev nD) : (headStart c (Shape.Idx.first h_S_)).toInt = 8 * (c.val : ℤ) := by
  revert c; decide +kernel

theorem host_v11 (c : Dev nD) : V1 m c main_v11 = shapeCast S1024x1024 (Host.dynamicSlice S1x1024x8x128 (m ((c : Thread nD τ).loc main_arg2))
    ![0, 0, 8 * (c.val : ℤ), 0] sliceFits_S1x1024x32x128_S1x1024x8x128) shapeCasts_S1x1024x8x128_S1024x1024 := by
  after_results
  refine congrArg (fun st : Fin 4 → ℤ => shapeCast S1024x1024 (Host.dynamicSlice S1x1024x8x128 (m ((c : Thread nD τ).loc main_arg2))
    st sliceFits_S1x1024x32x128_S1x1024x8x128) shapeCasts_S1x1024x8x128_S1024x1024) (funext fun k => ?_)
  match k with
  | ⟨0, _⟩ =>
    show BitVec.toInt ((_ : Valuation τ sig (Elt Ideal)) (Proc.devRef .tc main_c_4) (Shape.Idx.first h_S_)) = 0
    after_results_simp
    rfl
  | ⟨1, _⟩ =>
    show BitVec.toInt ((_ : Valuation τ sig (Elt Ideal)) (Proc.devRef .tc main_c_5) (Shape.Idx.first h_S_)) = 0
    after_results_simp
    rfl
  | ⟨2, _⟩ =>
    show BitVec.toInt ((_ : Valuation τ sig (Elt Ideal)) (Proc.devRef .tc main_v9) (Shape.Idx.first h_S_)) = 8 * (c.val : ℤ)
    after_results_simp
    exact headStart_toInt c
  | ⟨3, _⟩ =>
    show BitVec.toInt ((_ : Valuation τ sig (Elt Ideal)) (Proc.devRef .tc main_c_6) (Shape.Idx.first h_S_)) = 0
    after_results_simp
    rfl

theorem host_v17 (c : Dev nD) : V1 m c main_v17 = shapeCast S1024x1024 (Host.dynamicSlice S1x1024x8x128 (m ((c : Thread nD τ).loc main_arg3))
    ![0, 0, 8 * (c.val : ℤ), 0] sliceFits_S1x1024x32x128_S1x1024x8x128) shapeCasts_S1x1024x8x128_S1024x1024 := by
  after_results
  refine congrArg (fun st : Fin 4 → ℤ => shapeCast S1024x1024 (Host.dynamicSlice S1x1024x8x128 (m ((c : Thread nD τ).loc main_arg3))
    st sliceFits_S1x1024x32x128_S1x1024x8x128) shapeCasts_S1x1024x8x128_S1024x1024) (funext fun k => ?_)
  match k with
  | ⟨0, _⟩ =>
    show BitVec.toInt ((_ : Valuation τ sig (Elt Ideal)) (Proc.devRef .tc main_c_10) (Shape.Idx.first h_S_)) = 0
    after_results_simp
    rfl
  | ⟨1, _⟩ =>
    show BitVec.toInt ((_ : Valuation τ sig (Elt Ideal)) (Proc.devRef .tc main_c_11) (Shape.Idx.first h_S_)) = 0
    after_results_simp
    rfl
  | ⟨2, _⟩ =>
    show BitVec.toInt ((_ : Valuation τ sig (Elt Ideal)) (Proc.devRef .tc main_v15) (Shape.Idx.first h_S_)) = 8 * (c.val : ℤ)
    after_results_simp
    exact headStart_toInt c
  | ⟨3, _⟩ =>
    show BitVec.toInt ((_ : Valuation τ sig (Elt Ideal)) (Proc.devRef .tc main_c_12) (Shape.Idx.first h_S_)) = 0
    after_results_simp
    rfl

/-- A device's eight heads of an argument, side by side, at an index. -/
theorem heads_apply {α : Type} (x : S1x1024x32x128.Idx → α) (c : Dev nD) (j n : Fin 1024) (H : Fin 32) (e : Fin 128)
    (hH : H.val = 8 * c.val + n.val / 128) (he : e.val = n.val % 128) :
    shapeCast S1024x1024 (Host.dynamicSlice S1x1024x8x128 x ![0, 0, 8 * (c.val : ℤ), 0] sliceFits_S1x1024x32x128_S1x1024x8x128)
      shapeCasts_S1x1024x8x128_S1024x1024 (ix2 j n) = x (ix4 (0 : Fin 1) j H e) := by
  have hn := n.isLt
  have hc : c.val < 4 := c.isLt
  refine (shapeCast_apply _ _ _ (ix4 (0 : Fin 1) j (⟨n.val / 128, by omega⟩ : Fin 8) e) ?_).trans ?_
  · rw [Shape.rowMajor_val_two, Shape.rowMajor_val_four]
    simp only [ix2_0, ix2_1, ix4_0, ix4_1, ix4_2, ix4_3]
    show _ = _
    simp
    omega
  have hsl : S1x1024x32x128.Slices ![0, 0, 8 * c.val, 0] S1x1024x8x128 := (by decide : ∀ c : Fin 4, S1x1024x32x128.Slices ![0, 0, 8 * c.val, 0] S1x1024x8x128) c
  rw [Host.dynamicSlice_eq_extractStridedSlice S1x1024x8x128 x _ ![0, 0, 8 * c.val, 0] _ hsl ?_]
  · refine extractStridedSlice_apply _ _ _ _ _ fun a => ?_
    match a with
    | ⟨0, _⟩ => rfl
    | ⟨1, _⟩ => show j.val = 0 + j.val; omega
    | ⟨2, _⟩ => show H.val = 8 * c.val + n.val / 128; omega
    | ⟨3, _⟩ => show e.val = 0 + e.val; omega
  · intro a
    match a with
    | ⟨0, _⟩ => rfl
    | ⟨1, _⟩ => rfl
    | ⟨2, _⟩ => show 8 * (c.val : ℤ) = ((8 * c.val : ℕ) : ℤ); push_cast; rfl
    | ⟨3, _⟩ => rfl

/-- The arguments of a device, as arrays of extended reals. -/
def arX (c : Dev nD) : S1x1024x1024.Idx → EReal := m ((c : Thread nD τ).loc main_arg0)
def arWq (c : Dev nD) : S1024x1024.Idx → EReal := m ((c : Thread nD τ).loc main_arg1)
def arK (c : Dev nD) : S1x1024x32x128.Idx → EReal := m ((c : Thread nD τ).loc main_arg2)
def arV (c : Dev nD) : S1x1024x32x128.Idx → EReal := m ((c : Thread nD τ).loc main_arg3)
def arWo (c : Dev nD) : S1024x1024.Idx → EReal := m ((c : Thread nD τ).loc main_arg4)

theorem cast_same {α : Type} (x : S1024x1024.Idx → α) (i : S1024x1024.Idx) : shapeCast S1024x1024 x shapeCasts_S1024x1024_S1024x1024 i = x i := by
  rw [shapeCast_self]

theorem kv_k (c : Dev nD) (j n : Fin 1024) (H : Fin 32) (e : Fin 128) (hH : H.val = 8 * c.val + n.val / 128) (he : e.val = n.val % 128) :
    kIn (Xm m) c (ix2 j n) = arK m c (ix4 (0 : Fin 1) j H e) :=
  (cast_same (V1 m c main_v11) (ix2 j n)).trans ((congrFun (host_v11 m c) (ix2 j n)).trans (heads_apply _ c j n H e hH he))
theorem kv_v (c : Dev nD) (j n : Fin 1024) (H : Fin 32) (e : Fin 128) (hH : H.val = 8 * c.val + n.val / 128) (he : e.val = n.val % 128) :
    vIn (Xm m) c (ix2 j n) = arV m c (ix4 (0 : Fin 1) j H e) :=
  (cast_same (V1 m c main_v17) (ix2 j n)).trans ((congrFun (host_v17 m c) (ix2 j n)).trans (heads_apply _ c j n H e hH he))
theorem kv_o (c : Dev nD) (n o : Fin 1024) : oIn (Xm m) c (ix2 n o) = arWo m c (ix2 n o) :=
  cast_same (arWo m c) (ix2 n o)

/-- The scale the queries are multiplied by. -/
abbrev scale : EReal := Ideal.ofBits .f32 0x3DB504F3#32

theorem kv_x (c : Dev nD) (i d : Fin 1024) : shapeCast S1024x1024 (V1 m c main_v5) shapeCasts_S1024x1024_S1024x1024 (ix2 i d) = arX m c (ix3 (0 : Fin 1) i d) := by
  refine (cast_same (V1 m c main_v5) (ix2 i d)).trans ((congrFun (host_v5 m c) (ix2 i d)).trans ?_)
  refine shapeCast_apply _ _ _ (ix3 (0 : Fin 1) i d) ?_
  rw [Shape.rowMajor_val_two, Shape.rowMajor_val_three]
  simp only [ix2_0, ix2_1, ix3_0, ix3_1, ix3_2]
  simp
theorem q_apply (x w : FVec Ideal S1024x1024 .bf16) (i n : Fin 1024) : k0_pay17 x w (ix2 i n) =
    (∑ d : Fin 1024, shapeCast S1024x1024 x shapeCasts_S1024x1024_S1024x1024 (ix2 i d) * w (ix2 d n)) * scale := by
  show shapeCast S1024x1024 (truncf .bf16 (mulf (matmul (F := Ideal) (DotDims.plain 1024 1024 1024) none
      (shapeCast S1024x1024 x shapeCasts_S1024x1024_S1024x1024) (shapeCast S1024x1024 w shapeCasts_S1024x1024_S1024x1024)
      (constant S1024x1024 .f32 0x00000000#32)) (broadcast S1024x1024 (Scalar.ofBits .f32 0x3DB504F3#32))) bitsLt_bf16_f32) shapeCasts_S1024x1024_S1024x1024 (ix2 i n) = _
  refine (cast_same _ _).trans ?_
  rw [ValueIdx.truncf_apply, ValueIdx.mulf_apply, mm_plain]
  refine congrArg₂ (· * ·) (Finset.sum_congr rfl fun d _ => congrArg₂ (· * ·) rfl (cast_same _ _)) rfl
theorem kv_q (c : Dev nD) (i n : Fin 1024) : qIn (Xm m) c (ix2 i n) =
    (∑ d : Fin 1024, arX m c (ix3 (0 : Fin 1) i d) * arWq m c (ix2 d n)) * scale :=
  (q_apply (V1 m c main_v5) (arWq m c) i n).trans
    (congrArg (· * scale) (Finset.sum_congr rfl fun d _ => congrArg (· * arWq m c (ix2 d n)) (kv_x m c i d)))

end Cert.KernelIdeal.Talk
-- ==== Proof.RefSoft.lean ====
module

public import proofs.«01_k».proof.Proof.RefVal
public import proofs.«01_k».proof.Proof.HostVal

@[expose] public section

set_option maxRecDepth 16384

noncomputable section

namespace Cert.ReferenceIdeal.Val

open Idealize.ShloMosaic Idealize.ShloMosaic.TcCoe Cert.ReferenceIdeal Cert.ReferenceIdeal.Gen
open Cert.KernelIdeal.Talk (sees scale)

/-! ## The weights at an index -/

theorem ofBits_neg_inf : Ideal.ofBits .f32 0xFF800000#32 = (⊥ : EReal) := by simp [Ideal.ofBits, Ideal.ieee]

/-- Where its condition is one, a choice is its first branch. -/
theorem pick {s : Shape} (c : IVec s 1) (a b : FVec Ideal s .f32) (i : s.Idx) (h : c i = 1#1) : select c a b i = a i := by
  rw [ValueIdx.select_apply, h]
  exact if_pos rfl

theorem divf_at {s : Shape} (a b : FVec Ideal s .f32) (i : s.Idx) : Host.divf a b i = Ideal.div (a i) (b i) := rfl

/-- A row value spread along the keys. -/
theorem spread {α : Type} (x : S1x32x1024x1.Idx → α) (H : Fin 32) (i j : Fin 1024) :
    broadcastInDim S1x32x1024x1024 ![0, 1, 2, 3] bcast_S1x32x1024x1_S1x32x1024x1024_0_1_2_3 x (ix4 (0 : Fin 1) H i j)
      = x (ix4 (0 : Fin 1) H i (0 : Fin 1)) :=
  broadcastInDim_apply _ _ _ _ _ fun a => by
    match a with
    | ⟨0, _⟩ => rfl
    | ⟨1, _⟩ => rfl
    | ⟨2, _⟩ => rfl
    | ⟨3, _⟩ => rfl

/-- A row value with a key axis of one. -/
theorem column {α : Type} (x : S1x32x1024.Idx → α) (H : Fin 32) (i : Fin 1024) :
    broadcastInDim S1x32x1024x1 ![0, 1, 2] bcast_S1x32x1024_S1x32x1024x1_0_1_2 x (ix4 (0 : Fin 1) H i (0 : Fin 1))
      = x (ix3 (0 : Fin 1) H i) :=
  broadcastInDim_apply _ _ _ _ _ fun a => by
    match a with
    | ⟨0, _⟩ => rfl
    | ⟨1, _⟩ => rfl
    | ⟨2, _⟩ => rfl

theorem keep_apply (H : Fin 32) (i j : Fin 1024) :
    broadcastInDim S1x32x1024x1024 ![0, 1, 2, 3] bcast_S1x1x1024x1024_S1x32x1024x1024_0_1_2_3
      (broadcastInDim S1x1x1024x1024 ![2, 3] bcast_S1024x1024_S1x1x1024x1024_2_3 maskR) (ix4 (0 : Fin 1) H i j)
      = if sees i.val j.val then 1#1 else 0#1 := by
  refine (broadcastInDim_apply _ _ _ _ (ix4 (0 : Fin 1) (0 : Fin 1) i j) fun a => ?_).trans
    ((broadcastInDim_apply _ _ _ _ (ix2 i j) fun a => ?_).trans (maskR_apply i j))
  · match a with
    | ⟨0, _⟩ => rfl
    | ⟨1, _⟩ => rfl
    | ⟨2, _⟩ => rfl
    | ⟨3, _⟩ => rfl
  · match a with
    | ⟨0, _⟩ => rfl
    | ⟨1, _⟩ => rfl

theorem any_apply (i : Fin 1024) :
    broadcastInDim S1x1x1024x1 ![2] bcast_S1024_S1x1x1024x1_2 anyR (ix4 (0 : Fin 1) (0 : Fin 1) i (0 : Fin 1)) = 1#1 := by
  refine (broadcastInDim_apply _ _ _ _ (ix1 i) fun a => ?_).trans (anyR_apply i)
  match a with
  | ⟨0, _⟩ => rfl

theorem any_wide (H : Fin 32) (i j : Fin 1024) :
    broadcastInDim S1x32x1024x1024 ![0, 1, 2, 3] bcast_S1x1x1024x1_S1x32x1024x1024_0_1_2_3
      (broadcastInDim S1x1x1024x1 ![2] bcast_S1024_S1x1x1024x1_2 anyR) (ix4 (0 : Fin 1) H i j) = 1#1 := by
  refine (broadcastInDim_apply _ _ _ _ (ix4 (0 : Fin 1) (0 : Fin 1) i (0 : Fin 1)) fun a => ?_).trans (any_apply i)
  match a with
  | ⟨0, _⟩ => rfl
  | ⟨1, _⟩ => rfl
  | ⟨2, _⟩ => rfl
  | ⟨3, _⟩ => rfl

theorem any_column (H : Fin 32) (i : Fin 1024) :
    broadcastInDim S1x32x1024x1 ![0, 1, 2, 3] bcast_S1x1x1024x1_S1x32x1024x1_0_1_2_3
      (broadcastInDim S1x1x1024x1 ![2] bcast_S1024_S1x1x1024x1_2 anyR) (ix4 (0 : Fin 1) H i (0 : Fin 1)) = 1#1 := by
  refine (broadcastInDim_apply _ _ _ _ (ix4 (0 : Fin 1) (0 : Fin 1) i (0 : Fin 1)) fun a => ?_).trans (any_apply i)
  match a with
  | ⟨0, _⟩ => rfl
  | ⟨1, _⟩ => rfl
  | ⟨2, _⟩ => rfl
  | ⟨3, _⟩ => rfl

theorem scR_apply (d : FVec Ideal S1x32x1024x1024 .f32) (H : Fin 32) (i j : Fin 1024) :
    scR d (ix4 (0 : Fin 1) H i j) = if sees i.val j.val then (d (ix4 (0 : Fin 1) H i j) : EReal) * scale else (⊥ : EReal) := by
  unfold scR
  rw [ValueIdx.select_apply, keep_apply]
  by_cases h : sees i.val j.val
  · rw [if_pos h, if_pos h]
    rfl
  · rw [if_neg h, if_neg h]
    exact ofBits_neg_inf

theorem maxR_apply (s : FVec Ideal S1x32x1024x1024 .f32) (H : Fin 32) (i : Fin 1024) :
    maxR s (ix3 (0 : Fin 1) H i) = Finset.univ.fold max (⊥ : EReal) (fun j : Fin 1024 => (s (ix4 (0 : Fin 1) H i j) : EReal)) := by
  have h' : S1x32x1024x1024.Reduces [3] S1x32x1024 := by decide
  unfold maxR
  refine (congrFun (hostReduce_maximumf_eq_multiReduction (F := Ideal) (φ := .f32) s 0xFF800000#32
    reducesTo_S1x32x1024x1024_S1x32x1024_d3 h_S_ h' (.inl rfl) rfl) _).trans ?_
  refine (Ideal.multiReduction_maximumf_single s _ h' _ _ _).trans ?_
  refine congrArg₂ (fun b f => Finset.univ.fold max b f) ofBits_neg_inf (funext fun j => congrArg s (funext fun a => ?_))
  match a with
  | ⟨0, _⟩ => rfl
  | ⟨1, _⟩ => rfl
  | ⟨2, _⟩ => rfl
  | ⟨3, _⟩ => rfl

theorem exR_apply (s : FVec Ideal S1x32x1024x1024 .f32) (H : Fin 32) (i j : Fin 1024) :
    exR s (ix4 (0 : Fin 1) H i j) = Ideal.exp ((s (ix4 (0 : Fin 1) H i j) : EReal) - (maxR s (ix3 (0 : Fin 1) H i) : EReal)) := by
  refine congrArg (fun y : EReal => Ideal.exp ((s (ix4 (0 : Fin 1) H i j) : EReal) - y)) ?_
  exact (spread _ H i j).trans (column _ H i)

theorem sumR_apply (e : FVec Ideal S1x32x1024x1024 .f32) (H : Fin 32) (i : Fin 1024) :
    sumR e (ix3 (0 : Fin 1) H i) = 0 + ∑ j : Fin 1024, (e (ix4 (0 : Fin 1) H i j) : EReal) := by
  refine (Ideal.hostReduceAdd_r4_a3 reducesTo_S1x32x1024x1024_S1x32x1024_d3 e _ _).trans ?_
  exact congrArg₂ (· + ·) Ideal.ofBits_zero_f32 rfl

theorem wR_apply (e : FVec Ideal S1x32x1024x1024 .f32) (H : Fin 32) (i j : Fin 1024) :
    wR e (ix4 (0 : Fin 1) H i j) = Ideal.div (e (ix4 (0 : Fin 1) H i j)) (sumR e (ix3 (0 : Fin 1) H i)) := by
  unfold wR
  refine (pick _ _ _ _ (any_wide H i j)).trans ?_
  rw [divf_at]
  refine congrArg (Ideal.div (e (ix4 (0 : Fin 1) H i j))) ?_
  refine (spread _ H i j).trans ?_
  exact (pick _ _ _ _ (any_column H i)).trans (column _ H i)

/-- The weights of a row whose attended scores are real. -/
theorem weights (d : FVec Ideal S1x32x1024x1024 .f32) (H : Fin 32) (i : Fin 1024) (r : Fin 1024 → ℝ)
    (hr : ∀ j, (d (ix4 (0 : Fin 1) H i j) : EReal) * scale = (r j : EReal)) :
    ∃ μ : ℝ, ∀ j, wR (exR (scR d)) (ix4 (0 : Fin 1) H i j)
      = Ideal.div (Ideal.exp ((if sees i.val j.val then (r j : EReal) else ⊥) - (μ : EReal)))
          (0 + ∑ k : Fin 1024, Ideal.exp ((if sees i.val k.val then (r k : EReal) else ⊥) - (μ : EReal))) := by
  have hs : ∀ j, (scR d (ix4 (0 : Fin 1) H i j) : EReal) = if sees i.val j.val then (r j : EReal) else ⊥ := fun j => by
    rw [scR_apply, hr j]
  obtain ⟨μ, hμ⟩ := Soft.fold_max_real (fun j : Fin 1024 => sees i.val j.val) r ⟨i, le_refl _⟩
  have hm : (maxR (scR d) (ix3 (0 : Fin 1) H i) : EReal) = (μ : EReal) :=
    (maxR_apply _ H i).trans ((congrArg (Finset.univ.fold max (⊥ : EReal)) (funext hs)).trans hμ)
  have he : ∀ j, (exR (scR d) (ix4 (0 : Fin 1) H i j) : EReal) = Ideal.exp ((if sees i.val j.val then (r j : EReal) else ⊥) - (μ : EReal)) := fun j => by
    rw [exR_apply, hs j, hm]
  refine ⟨μ, fun j => ?_⟩
  rw [wR_apply, sumR_apply, he j]
  exact congrArg (fun y : EReal => Ideal.div _ (0 + y)) (Finset.sum_congr rfl fun k _ => he k)

end Cert.ReferenceIdeal.Val
-- ==== Proof.Join.lean ====
module

public import proofs.«01_k».proof.Proof.RefSoft

@[expose] public section

set_option maxRecDepth 16384

noncomputable section

namespace Cert.KernelIdeal.Talk

open Cert.KernelIdeal.Gen
open Idealize.ShloMosaic Idealize.ShloMosaic.TcCoe
open Cert.ReferenceIdeal.Val

/-! ## The kernel's result is the reference's, entry by entry -/

theorem score_real {A B : ℕ} (X : Fin A → ℝ) (W : Fin A → Fin B → ℝ) (K : Fin B → ℝ) :
    ∑ e, (∑ d, (X d : EReal) * (W d e : EReal)) * (K e : EReal) = ((∑ e, (∑ d, X d * W d e) * K e : ℝ) : EReal) := by
  rw [Soft.coe_sum]
  refine Finset.sum_congr rfl fun e _ => ?_
  rw [EReal.coe_mul, Soft.coe_sum]
  simp only [EReal.coe_mul]

/-- Scaling the queries or scaling the scores is the same for real entries. -/
theorem score_scaled {A B : ℕ} (X : Fin A → ℝ) (W : Fin A → Fin B → ℝ) (K : Fin B → ℝ) (c : ℝ) :
    ∑ e, ((∑ d, (X d : EReal) * (W d e : EReal)) * (c : EReal)) * (K e : EReal) = (((∑ e, (∑ d, X d * W d e) * K e) * c : ℝ) : EReal) := by
  rw [Finset.sum_mul, Soft.coe_sum]
  refine Finset.sum_congr rfl fun e _ => ?_
  rw [show (∑ d, X d * W d e) * K e * c = (∑ d, X d * W d e) * c * K e by ring, EReal.coe_mul, EReal.coe_mul, Soft.coe_sum]
  simp only [EReal.coe_mul]

theorem qAt_apply (q : FVec Ideal S1024x1024 .bf16) (s h : Fin 8) (p e : Fin 128) (i n : Fin 1024) (hi : i.val = 128 * s.val + p.val)
    (hn : n.val = 128 * h.val + e.val) : qAt q s h (ix2 p e) = q (ix2 i n) := by
  unfold qAt
  refine congrArg q (Eq.trans (eq_ix2 (n0 := 1024) (n1 := 1024) _) ((ix2_inj _ _ _ _).mpr ⟨Fin.ext ?_, Fin.ext ?_⟩))
  · refine (ValueKit.rect_emb_unit_val (s := S1024x1024) _ _ _ _ 0).trans ?_
    show 128 * s.val + p.val = i.val
    omega
  · refine (ValueKit.rect_emb_unit_val (s := S1024x1024) _ _ _ _ 1).trans ?_
    show 128 * h.val + e.val = n.val
    omega

/-- A head of a chunk is the weighted sum over all the keys, the weights taken about any real `μ`. -/
theorem headV_soft (s h : Fin 8) (k v qf : FVec Ideal S1024x1024 .bf16) (p e : Fin 128) (i : Fin 1024) (hi : i.val = 128 * s.val + p.val)
    (N : Fin 128 → Fin 1024) (hN : ∀ e, (N e).val = 128 * h.val + e.val) (r : Fin 1024 → ℝ)
    (hr : ∀ j : Fin 1024, ∑ e' : Fin 128, (qf (ix2 i (N e')) : EReal) * (k (ix2 j (N e')) : EReal) = (r j : EReal)) (μ : ℝ) :
    headV s h k v (qAt qf s h) (ix2 p e) = ∑ j : Fin 1024, (v (ix2 j (N e)) : EReal)
      * Ideal.div (Ideal.exp ((if sees i.val j.val then (r j : EReal) else ⊥) - (μ : EReal)))
          (0 + ∑ k : Fin 1024, Ideal.exp ((if sees i.val k.val then (r k : EReal) else ⊥) - (μ : EReal))) := by
  have hs : 128 * (s.val + 1) ≤ 1024 := by have := s.isLt; omega
  have hp := p.isLt
  have hw : ∀ j : Fin (128 * (s.val + 1)), (expV s h k (qAt qf s h) (ix2 p j) : EReal)
      = (Soft.wt (fun j : Fin 1024 => sees i.val j.val) r (Fin.castLE hs j) : EReal) := fun j => by
    refine (expV_apply s h k (qAt qf s h) p j (r (Fin.castLE hs j)) ?_).trans ?_
    · refine Eq.trans (Finset.sum_congr rfl fun e' _ => ?_) (hr (Fin.castLE hs j))
      rw [qAt_apply qf s h p e' i (N e') hi (hN e'), slK_apply s h k j e' (Fin.castLE hs j) (N e') rfl (hN e')]
    · unfold Soft.wt
      rw [← hi]
      rfl
  have hz : ∀ j : Fin 1024, 128 * (s.val + 1) ≤ j.val → Soft.wt (fun j : Fin 1024 => sees i.val j.val) r j = 0 := fun j hj => by
    unfold Soft.wt
    refine if_neg fun hse => ?_
    have hse : j.val / 64 ≤ i.val / 64 := hse
    omega
  rw [headV_apply]
  refine Eq.trans (congrArg₂ Ideal.div ?_ ?_) (Soft.soft (fun j : Fin 1024 => sees i.val j.val) r (fun j => v (ix2 j (N e))) μ ⟨i, le_refl _⟩)
  · refine Eq.trans (Finset.sum_congr rfl fun j _ => ?_)
      (Soft.sum_castLE hs (fun j => (Soft.wt (fun j : Fin 1024 => sees i.val j.val) r j : EReal) * v (ix2 j (N e))) fun j hj => ?_)
    · rw [hw j, slK_apply s h v j e (Fin.castLE hs j) (N e) rfl (hN e)]
    · rw [hz j hj, EReal.coe_zero, zero_mul]
  · refine Eq.trans (Finset.sum_congr rfl fun j _ => hw j)
      (Soft.sum_castLE hs (fun j => (Soft.wt (fun j : Fin 1024 => sees i.val j.val) r j : EReal)) fun j hj => ?_)
    rw [hz j hj, EReal.coe_zero]

/-- The 4096 columns are four devices' 1024. -/
theorem sum_split (f : Fin 4096 → EReal) : ∑ n, f n = ∑ d : Fin 4, ∑ n : Fin 1024, f ⟨1024 * d.val + n.val, by omega⟩ := by
  rw [← (finProdFinEquiv (m := 4) (n := 1024)).sum_comp f, Fintype.sum_prod_type]
  refine Finset.sum_congr rfl fun d _ => Finset.sum_congr rfl fun n _ => congrArg f (Fin.ext ?_)
  show n.val + 1024 * d.val = 1024 * d.val + n.val
  omega

theorem scale_real : ∃ c : ℝ, scale = (c : EReal) := by
  show ∃ c : ℝ, Ideal.ieee 8 23 0x3DB504F3#32 = (c : EReal)
  unfold Ideal.ieee
  dsimp only
  rw [if_neg (by decide), if_neg (by decide)]
  exact ⟨_, rfl⟩

section Entry
variable (m : (ℓ : Loc nD τ sig) → Buf (Elt Ideal) ℓ)
  (x : FVec Ideal Cert.ReferenceIdeal.S1x1024x1024 .bf16) (wq : FVec Ideal Cert.ReferenceIdeal.S1024x4096 .bf16)
  (k v : FVec Ideal Cert.ReferenceIdeal.S1x1024x32x128 .bf16) (wo : FVec Ideal Cert.ReferenceIdeal.S4096x1024 .bf16)

theorem entry (hx : ∀ c, arX m c = x) (hk : ∀ c, arK m c = k) (hv : ∀ c, arV m c = v)
    (hwq : ∀ (c : Dev nD) (d n : Fin 1024) (N : Fin 4096), N.val = 1024 * c.val + n.val → arWq m c (ix2 d n) = wq (ix2 d N))
    (hwo : ∀ (c : Dev nD) (n o : Fin 1024) (N : Fin 4096), N.val = 1024 * c.val + n.val → arWo m c (ix2 n o) = wo (ix2 N o))
    (xr : Cert.ReferenceIdeal.S1x1024x1024.Idx → ℝ) (hxr : ∀ i, x i = (xr i : EReal))
    (wr : Cert.ReferenceIdeal.S1024x4096.Idx → ℝ) (hwr : ∀ i, wq i = (wr i : EReal))
    (kr : Cert.ReferenceIdeal.S1x1024x32x128.Idx → ℝ) (hkr : ∀ i, k i = (kr i : EReal)) (c : Dev nD) (i o : Fin 1024) :
    outX (Xm m) c (ix2 i o) = outR (ctxR v (wR (exR (scR (dotR (qR x wq) k))))) wo (ix3 (0 : Fin 1) i o) := by
  obtain ⟨sc, hsc⟩ := scale_real
  rw [outX_apply]
  refine Eq.symm ((outR_apply _ wo i o (fun n => ⟨n.val / 128, by omega⟩) (fun n => ⟨n.val % 128, by omega⟩)
    (fun n => by show n.val = 128 * (n.val / 128) + n.val % 128; omega)).trans ((sum_split _).trans ?_))
  refine Finset.sum_congr rfl fun d _ => Eq.trans (Finset.sum_congr rfl fun n _ => ?_) (partV_apply _ _ _ _ _ _ o).symm
  have hd : d.val < 4 := d.isLt
  have hn := n.isLt
  refine congrArg₂ (fun a b : EReal => a * b) ?_ ((hwo d n o _ rfl).symm.trans (kv_o m d n o).symm)
  have eH : (⟨(1024 * d.val + n.val) / 128, by omega⟩ : Fin 32) = ⟨8 * d.val + n.val / 128, by omega⟩ := Fin.ext (by show (1024 * d.val + n.val) / 128 = 8 * d.val + n.val / 128; omega)
  have ee : (⟨(1024 * d.val + n.val) % 128, by omega⟩ : Fin 128) = ⟨n.val % 128, by omega⟩ := Fin.ext (by show (1024 * d.val + n.val) % 128 = n.val % 128; omega)
  refine (congrArg₂ (fun (H : Fin 32) (e : Fin 128) => ctxR v (wR (exR (scR (dotR (qR x wq) k)))) (ix4 (0 : Fin 1) H e i)) eH ee).trans ?_
  generalize hH : (⟨8 * d.val + n.val / 128, by omega⟩ : Fin 32) = H
  have hHv : H.val = 8 * d.val + n.val / 128 := by rw [← hH]
  let NN : Fin 128 → Fin 4096 := fun e => ⟨128 * H.val + e.val, by have := H.isLt; omega⟩
  let N : Fin 128 → Fin 1024 := fun e => ⟨128 * (n.val / 128) + e.val, by omega⟩
  let X : Fin 1024 → ℝ := fun a => xr (ix3 (0 : Fin 1) i a)
  let W : Fin 1024 → Fin 128 → ℝ := fun a e => wr (ix2 a (NN e))
  let K : Fin 1024 → Fin 128 → ℝ := fun j e => kr (ix4 (0 : Fin 1) j H e)
  obtain ⟨μ, hμ⟩ := weights (dotR (qR x wq) k) H i (fun j => (∑ e, (∑ a, X a * W a e) * K j e) * sc) (fun j => by
    rw [dotR_apply (qR x wq) k H i j NN fun e => rfl, hsc, EReal.coe_mul, ← score_real]
    refine congrArg (fun y : EReal => y * (sc : EReal)) (Finset.sum_congr rfl fun e _ => ?_)
    rw [qR_apply, hkr]
    refine congrArg (fun y : EReal => y * (kr (ix4 (0 : Fin 1) j H e) : EReal)) (Finset.sum_congr rfl fun a _ => ?_)
    rw [hxr, hwr])
  rw [ctxR_apply]
  refine Eq.symm ((headV_soft ⟨i.val / 128, by omega⟩ ⟨n.val / 128, by omega⟩ (kIn (Xm m) d) (vIn (Xm m) d) (qIn (Xm m) d)
    ⟨i.val % 128, by omega⟩ ⟨n.val % 128, by omega⟩ i (by show i.val = 128 * (i.val / 128) + i.val % 128; omega) N (fun e => rfl)
    (fun j => (∑ e, (∑ a, X a * W a e) * K j e) * sc) (fun j => ?_) μ).trans (Finset.sum_congr rfl fun j _ => ?_))
  · rw [← score_scaled X W (K j) sc]
    refine Finset.sum_congr rfl fun e _ => congrArg₂ (fun a b : EReal => a * b) ?_ ?_
    · rw [kv_q, hsc]
      refine congrArg (fun y : EReal => y * (sc : EReal)) (Finset.sum_congr rfl fun a _ => congrArg₂ (fun a b : EReal => a * b) ?_ ?_)
      · rw [hx d]; exact hxr _
      · refine (hwq d a (N e) (NN e) ?_).trans (hwr _)
        show 128 * H.val + e.val = 1024 * d.val + (128 * (n.val / 128) + e.val)
        omega
    · refine (kv_k m d j (N e) H e ?_ ?_).trans ((congrFun (hk d) _).trans (hkr _))
      · show H.val = 8 * d.val + (128 * (n.val / 128) + e.val) / 128
        omega
      · show e.val = (128 * (n.val / 128) + e.val) % 128
        omega
  · rw [hμ j]
    refine congrArg (fun y : EReal => y * _) ?_
    refine (kv_v m d j (N _) H ⟨n.val % 128, by omega⟩ ?_ ?_).trans (congrFun (hv d) _)
    · show H.val = 8 * d.val + (128 * (n.val / 128) + n.val % 128) / 128
      omega
    · show n.val % 128 = (128 * (n.val / 128) + n.val % 128) % 128
      omega

end Entry

end Cert.KernelIdeal.Talk
-- ==== Proof.Equal.lean ====
module

public import proofs.«01_k».proof.Defs
public import proofs.«01_k».proof.Proof.Main
public import proofs.«01_k».proof.Proof.Join
public import Idealize.ShloMosaic.Lib.ReduceAll
public import Idealize.ShloMosaic.Lib.Affine

@[expose] public section

set_option maxRecDepth 16384

noncomputable section

namespace Cert.KernelIdeal.Talk

open Cert.KernelIdeal.Gen
open Idealize.ShloMosaic Idealize.ShloMosaic.TcCoe Idealize.SL.Sem
open Cert.ReferenceIdeal.Val

/-! ## The precondition, read back -/

instance factsPre : Cert.Pre_finite_scores_KernelIdeal.Facts where
  bitsLt_bf16_f32 := by decide
  bcast_S_S1x1024x1024 := by decide
  reducesTo_S1x1024x1024_S_d0_1_2 := by decide
  h_S_ := by decide
  bcast_S_S1024x1024 := by decide
  reducesTo_S1024x1024_S_d0_1 := by decide
  bcast_S_S1x1024x32x128 := by decide
  reducesTo_S1x1024x32x128_S_d0_1_2_3 := by decide

instance factsPreR : Cert.Pre_finite_scores_ReferenceIdeal.Facts where
  bitsLt_bf16_f32 := by decide
  bcast_S_S1x1024x1024 := by decide
  reducesTo_S1x1024x1024_S_d0_1_2 := by decide
  h_S_ := by decide
  bcast_S_S1024x4096 := by decide
  reducesTo_S1024x4096_S_d0_1 := by decide
  bcast_S_S1x1024x32x128 := by decide
  reducesTo_S1x1024x32x128_S_d0_1_2_3 := by decide

instance : Subsingleton (Cert.Pre_finite_scores_KernelIdeal.S_).Idx := ⟨fun a b => funext fun k => k.elim0⟩

theorem ofBits_pos_inf : Ideal.ofBits .f32 0x7F800000#32 = (⊤ : EReal) := by simp [Ideal.ofBits, Ideal.ieee]

/-- An extended real whose size is below infinity is a real. -/
theorem real_of_small (a : EReal) (h : Ideal.cmp .olt (max a (-a)) (Ideal.ofBits .f32 0x7F800000#32) = 1#1) : ∃ r : ℝ, a = (r : EReal) := by
  rw [ofBits_pos_inf] at h
  have hlt : max a (-a) < ⊤ := by
    by_contra hn
    unfold Ideal.cmp at h
    simp [hn] at h
  refine ⟨a.toReal, (EReal.coe_toReal ?_ ?_).symm⟩
  · rintro rfl
    simp at hlt
  · rintro rfl
    simp at hlt

/-- An array whose every size is below infinity holds reals. -/
theorem reals_of_all {s u : Shape} {axes : List (Fin s.rank)} (a : FVec Ideal s .bf16) (hb : FTy.bits .bf16 < FTy.bits .f32)
    (d : Fin (Cert.Pre_finite_scores_KernelIdeal.S_).rank → Fin s.rank) (hd : (Cert.Pre_finite_scores_KernelIdeal.S_).BroadcastsInDim s d)
    (init : u.Idx → BitVec 1) (hred : s.ReducesTo axes Cert.Pre_finite_scores_KernelIdeal.S_) (hu : 0 < u.numel) (j)
    (h : Host.reduce IntOp.andi (cmpf .olt (Host.absf (extf .f32 a hb)) (broadcastInDim s d hd
      (constant (F := Ideal) Cert.Pre_finite_scores_KernelIdeal.S_ .f32 0x7F800000#32))) init hred hu j = 1#1) :
    ∃ r : s.Idx → ℝ, ∀ i, (a i : EReal) = (r i : EReal) := by
  have hi : ∀ i, ∃ r : ℝ, (a i : EReal) = (r : EReal) := fun i => real_of_small _ (Host.reduce_andi_all _ _ _ _ _ h i)
  exact ⟨fun i => (hi i).choose, fun i => (hi i).choose_spec⟩

variable (m : (ℓ : Loc nD τ sig) → Buf (Elt Ideal) ℓ)

/-- The queries' factors and the keys are real under the precondition. -/
theorem reals (h : Cert.Pre_KernelIdeal_finite_scores_KernelIdeal m) (c : Dev nD) :
    (∃ r : S1x1024x1024.Idx → ℝ, ∀ i, arX m c i = (r i : EReal)) ∧ (∃ r : S1024x1024.Idx → ℝ, ∀ i, arWq m c i = (r i : EReal))
      ∧ ∃ r : S1x1024x32x128.Idx → ℝ, ∀ i, arK m c i = (r i : EReal) := by
  have e := congrFun (h c) (fun k => k.elim0)
  dsimp only [Cert.Pre_finite_scores_KernelIdeal.fn] at e
  obtain ⟨e12, e3⟩ := IntOp.andi_eq_one.1 e
  obtain ⟨e1, e2⟩ := IntOp.andi_eq_one.1 e12
  exact ⟨reals_of_all _ _ _ _ _ _ _ _ e1, reals_of_all _ _ _ _ _ _ _ _ e2, reals_of_all _ _ _ _ _ _ _ _ e3⟩

/-! ## The result array -/

theorem v19_apply (c : Dev nD) (i o : Fin 1024) :
    (show S1x1024x1024.Idx → EReal from V3 m (outs m) c main_v19) (ix3 (0 : Fin 1) i o) = outX (Xm m) c (ix2 i o) := by
  have e : V3 m (outs m) c main_v19 = shapeCast S1x1024x1024 (outs m 2 main_v18 c) shapeCasts_S1024x1024_S1x1024x1024 := by
    after_results
    rfl
  refine (congrFun e _).trans ((shapeCast_apply _ _ _ (ix2 i o) ?_).trans (congrFun (outs_v18 m c) (ix2 i o)))
  rw [Shape.rowMajor_val_two, Shape.rowMajor_val_three]
  simp only [ix2_0, ix2_1, ix3_0, ix3_1, ix3_2]
  simp

section Whole
variable (m' : (ℓ : Loc Cert.ReferenceIdeal.nD Cert.ReferenceIdeal.τ Cert.ReferenceIdeal.sig) → Buf (Elt Ideal) ℓ)

/-- The reference's arguments, as arrays of extended reals. -/
def refX : Cert.ReferenceIdeal.S1x1024x1024.Idx → EReal := m' ((0 : Dev Cert.ReferenceIdeal.nD).tc.loc Cert.ReferenceIdeal.main_arg0)
def refWq : Cert.ReferenceIdeal.S1024x4096.Idx → EReal := m' ((0 : Dev Cert.ReferenceIdeal.nD).tc.loc Cert.ReferenceIdeal.main_arg1)
def refK : Cert.ReferenceIdeal.S1x1024x32x128.Idx → EReal := m' ((0 : Dev Cert.ReferenceIdeal.nD).tc.loc Cert.ReferenceIdeal.main_arg2)
def refV : Cert.ReferenceIdeal.S1x1024x32x128.Idx → EReal := m' ((0 : Dev Cert.ReferenceIdeal.nD).tc.loc Cert.ReferenceIdeal.main_arg3)
def refWo : Cert.ReferenceIdeal.S4096x1024.Idx → EReal := m' ((0 : Dev Cert.ReferenceIdeal.nD).tc.loc Cert.ReferenceIdeal.main_arg4)

/-- Device `c`'s block of the query weights is the `c`-th run of 1024 columns. -/
theorem block_cols (v : Cert.ReferenceIdeal.S1024x4096.Idx → EReal) (c : Dev nD) (d n : Fin 1024) (N : Fin 4096) (hN : N.val = 1024 * c.val + n.val) :
    Layout.block ⟨2, ![1024, 1024]⟩ ⟨2, ![1024, 4096]⟩ 1 4 c v (by decide) (ix2 d n) = v (ix2 d N) := by
  rw [Layout.block_apply]
  refine congrArg v (funext fun a => Fin.ext ((Layout.Tiles.idx_val _ _ _ _).trans ?_))
  match a with
  | ⟨0, _⟩ => rfl
  | ⟨1, _⟩ => show c.val * 1024 + n.val = N.val; omega

/-- Device `c`'s block of the output weights is the `c`-th run of 1024 rows. -/
theorem block_rows (v : Cert.ReferenceIdeal.S4096x1024.Idx → EReal) (c : Dev nD) (n o : Fin 1024) (N : Fin 4096) (hN : N.val = 1024 * c.val + n.val) :
    Layout.block ⟨2, ![1024, 1024]⟩ ⟨2, ![4096, 1024]⟩ 0 4 c v (by decide) (ix2 n o) = v (ix2 N o) := by
  rw [Layout.block_apply]
  refine congrArg v (funext fun a => Fin.ext ((Layout.Tiles.idx_val _ _ _ _).trans ?_))
  match a with
  | ⟨0, _⟩ => show c.val * 1024 + n.val = N.val; omega
  | ⟨1, _⟩ => rfl

/-- With arguments agreeing and finite scores, every device ends with the reference's result. -/
theorem v19_eq (h : Cert.Pre_KernelIdeal_finite_scores_KernelIdeal m)
    (hx : ∀ c, arX m c = refX m') (hwq : ∀ c, arWq m c = Layout.block ⟨2, ![1024, 1024]⟩ ⟨2, ![1024, 4096]⟩ 1 4 c (refWq m'))
    (hk : ∀ c, arK m c = refK m') (hv : ∀ c, arV m c = refV m')
    (hwo : ∀ c, arWo m c = Layout.block ⟨2, ![1024, 1024]⟩ ⟨2, ![4096, 1024]⟩ 0 4 c (refWo m')) (c : Dev nD) :
    (show S1x1024x1024.Idx → EReal from V3 m (outs m) c main_v19) = Cert.ReferenceIdeal.Value.res_main_v38 m' 0 := by
  have hwq' : ∀ (c : Dev nD) (d n : Fin 1024) (N : Fin 4096), N.val = 1024 * c.val + n.val → arWq m c (ix2 d n) = refWq m' (ix2 d N) :=
    fun c d n N hN => (congrFun (hwq c) _).trans (block_cols (refWq m') c d n N hN)
  have hwo' : ∀ (c : Dev nD) (n o : Fin 1024) (N : Fin 4096), N.val = 1024 * c.val + n.val → arWo m c (ix2 n o) = refWo m' (ix2 N o) :=
    fun c n o N hN => (congrFun (hwo c) _).trans (block_rows (refWo m') c n o N hN)
  obtain ⟨⟨xr, hxr⟩, -, kr, hkr⟩ := reals m h 0
  have hw : ∀ y : Cert.ReferenceIdeal.S1024x4096.Idx, ∃ r : ℝ, refWq m' y = (r : EReal) := fun y => by
    have hy : (y 1).val < 4096 := (y 1).isLt
    obtain ⟨wr, hwr⟩ := (reals m h ⟨(y 1).val / 1024, Nat.div_lt_of_lt_mul hy⟩).2.1
    refine ⟨wr (ix2 (y 0) ⟨(y 1).val % 1024, by omega⟩), Eq.trans ?_ (hwr _)⟩
    refine Eq.trans (congrArg (refWq m') (eq_ix2 (n0 := 1024) (n1 := 4096) y)) (hwq' ⟨(y 1).val / 1024, Nat.div_lt_of_lt_mul hy⟩ (y 0) ⟨(y 1).val % 1024, by omega⟩ (y 1) ?_).symm
    show (y 1).val = 1024 * ((y 1).val / 1024) + (y 1).val % 1024
    omega
  rw [res_layers]
  funext j
  have hj : j = ix3 (0 : Fin 1) (j 1) (j 2) := by
    refine funext fun a => ?_
    match a with
    | ⟨0, _⟩ => exact Subsingleton.elim (α := Fin 1) _ _
    | ⟨1, _⟩ => rfl
    | ⟨2, _⟩ => rfl
  rw [hj]
  exact (v19_apply m c (j 1) (j 2)).trans (entry m (refX m') (refWq m') (refK m') (refV m') (refWo m') hx hk hv hwq' hwo'
    xr (fun i => (congrFun (hx 0) i).symm.trans (hxr i)) (fun y => (hw y).choose) (fun y => (hw y).choose_spec)
    kr (fun i => (congrFun (hk 0) i).symm.trans (hkr i)) c (j 1) (j 2))

end Whole

/-- The idealized kernel computes the idealized reference. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := factsPre) := fun m ρ m' ρ' hpre hargs => by
  refine ⟨Cert.ReferenceIdeal.Value.res_main_v38 m' 0, ?_, ?_⟩
  · refine (θ_run defs _ _).mono (fun r h c => ⟨?_, (h.1 c _ (uc_mem main_arg0 (by decide))).trans (V3_main_arg0 m (outs m) c),
      (h.1 c _ (uc_mem main_arg1 (by decide))).trans (V3_main_arg1 m (outs m) c), (h.1 c _ (uc_mem main_arg2 (by decide))).trans (V3_main_arg2 m (outs m) c),
      (h.1 c _ (uc_mem main_arg3 (by decide))).trans (V3_main_arg3 m (outs m) c), (h.1 c _ (uc_mem main_arg4 (by decide))).trans (V3_main_arg4 m (outs m) c)⟩)
      (run_main m ρ)
    exact (h.1 c _ (uc_mem main_v19 (by decide))).trans (v19_eq m m' hpre (fun c => (hargs c).1) (fun c => (hargs c).2.1) (fun c => (hargs c).2.2.1)
      (fun c => (hargs c).2.2.2.1) (fun c => (hargs c).2.2.2.2) c)
  · exact (θ_run Cert.ReferenceIdeal.defs _ _).mono (fun r h => h 0) (Cert.ReferenceIdeal.Value.run (F := Ideal) m' ρ')

end Cert.KernelIdeal.Talk
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Cert.KernelIdeal.Talk

theorem claim : Cert.Claim :=
  ⟨Cert.Kernel.Gen.facts, Cert.KernelIdeal.Gen.facts, Cert.ReferenceIdeal.Gen.facts,
    factsPre, factsPreR, frame_kernel, frame_ideal, fun m g _ => frame_ideal m g trivial, frame_reference,
    fun m g _ => frame_reference m g trivial, preserves, algebraic⟩

end Cert.Proof

end
